-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 [hPre_expert_in_range : Cert.Pre_expert_in_range.Facts] (m : (ℓ : Loc Cert.Kernel2.nD Cert.Kernel2.τ Cert.Kernel2.sig) → Buf (Elt Bits) ℓ) : Prop :=
  ∀ c : Dev Cert.Kernel2.nD,
    (Cert.Pre_expert_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_expert_in_range : Cert.Pre_expert_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_expert_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_expert_in_range [hPre_expert_in_range : Cert.Pre_expert_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_expert_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_ctx [hPre_finite_ctx : Cert.Pre_finite_ctx.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_ctx.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).1 = (fun _ => 1#1)
    ∧ (Cert.Pre_finite_ctx.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.1 = (fun _ => 1#1)
    ∧ (Cert.Pre_finite_ctx.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.1 = (fun _ => 1#1)
    ∧ (Cert.Pre_finite_ctx.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))).2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_ctx [hPre_finite_ctx : Cert.Pre_finite_ctx.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_ctx.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).1 = (fun _ => 1#1)
    ∧ (Cert.Pre_finite_ctx.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.1 = (fun _ => 1#1)
    ∧ (Cert.Pre_finite_ctx.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.1 = (fun _ => 1#1)
    ∧ (Cert.Pre_finite_ctx.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_expert_in_range : Cert.Pre_expert_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_expert_in_range : Cert.Pre_expert_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_expert_in_range [hReference2Ideal : Cert.Reference2Ideal.Facts] [hPre_expert_in_range : Cert.Pre_expert_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_expert_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_ctx [hKernel8Ideal : Cert.Kernel8Ideal.Facts] [hPre_finite_ctx : Cert.Pre_finite_ctx.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_ctx m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_ctx [hReference8Ideal : Cert.Reference8Ideal.Facts] [hPre_finite_ctx : Cert.Pre_finite_ctx.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_ctx m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_expert_in_range : Cert.Pre_expert_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v26_0)) (v1 : (c : Dev Cert.Kernel7Ideal.nD) → Buf (Elt Ideal) ((c.tc : Thread Cert.Kernel7Ideal.nD Cert.Kernel7Ideal.τ).loc Cert.Kernel7Ideal.main_v26_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v26_0) = v0 c
          ∧ r.2.mem ((c.tc : Thread Cert.Kernel7Ideal.nD Cert.Kernel7Ideal.τ).loc Cert.Kernel7Ideal.main_v26_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v88) = v0 c
          ∧ r.2.mem ((c.tc : Thread Cert.Reference7Ideal.nD Cert.Reference7Ideal.τ).loc Cert.Reference7Ideal.main_v90) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def preserves_Kernel8_Kernel8Ideal : Prop :=
  True

def algebraic_Kernel8Ideal_Reference8Ideal_pre_finite_ctx [hKernel8Ideal : Cert.Kernel8Ideal.Facts] [hReference8Ideal : Cert.Reference8Ideal.Facts] [hPre_finite_ctx : Cert.Pre_finite_ctx.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_ctx m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v21)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_expert_in_range : Cert.Pre_expert_in_range.Facts) (hPre_finite_ctx : Cert.Pre_finite_ctx.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2) (hPre_expert_in_range := hPre_expert_in_range)
    ∧ quiescent_Kernel2Ideal (hKernel2Ideal := hKernel2Ideal) (hPre_expert_in_range := hPre_expert_in_range)
    ∧ quiescent_Reference2Ideal (hReference2Ideal := hReference2Ideal)
    ∧ quiescent_Reference2Ideal_pre_expert_in_range (hReference2Ideal := hReference2Ideal) (hPre_expert_in_range := hPre_expert_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_ctx (hKernel8Ideal := hKernel8Ideal) (hPre_finite_ctx := hPre_finite_ctx)
    ∧ quiescent_Reference8Ideal (hReference8Ideal := hReference8Ideal)
    ∧ quiescent_Reference8Ideal_pre_finite_ctx (hReference8Ideal := hReference8Ideal) (hPre_finite_ctx := hPre_finite_ctx)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal) (hPre_expert_in_range := hPre_expert_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_ctx (hKernel8Ideal := hKernel8Ideal) (hReference8Ideal := hReference8Ideal) (hPre_finite_ctx := hPre_finite_ctx)
-- ==== Pre_expert_in_range.lean ====
abbrev S576 : Shape := ⟨1, ![576]⟩
abbrev S147456x2048 : Shape := ⟨2, ![147456, 2048]⟩
abbrev S2x32x2048x3072 : Shape := ⟨4, ![2, 32, 2048, 3072]⟩
abbrev S2x32x3072 : Shape := ⟨3, ![2, 32, 3072]⟩
abbrev S2x32x1536x2048 : Shape := ⟨4, ![2, 32, 1536, 2048]⟩
abbrev S2x32x2048 : Shape := ⟨3, ![2, 32, 2048]⟩
abbrev S_ : Shape := ⟨0, ![]⟩

class Facts : Prop where
  bcast_S_S576 : S_.BroadcastsInDim S576 (![] : Fin 0 → Fin S576.rank)

variable [Facts]

def fn {F : FTy → Type} [FloatOps F] (main_arg0 : IVec S576 32) (main_arg1 : IVec S576 32) (main_arg2 : FVec F S147456x2048 .f32) (main_arg3 : FVec F S2x32x2048x3072 .f32) (main_arg4 : FVec F S2x32x3072 .f32) (main_arg5 : FVec F S2x32x1536x2048 .f32) (main_arg6 : FVec F S2x32x2048 .f32) : IVec S576 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 32 := constantI S_ 32 32#32
  let main_v2 : IVec S576 32 := broadcastInDim S576 ![] bcast_S_S576 main_c_0
  let main_v3 : IVec S576 1 := cmpi .slt main_arg0 main_v2
  let main_v4 : IVec S576 1 := andi main_v1 main_v3
  main_v4
-- ==== Pre_finite_ctx.lean ====
abbrev S8x4352x8x128 : Shape := ⟨4, ![8, 4352, 8, 128]⟩
abbrev S8x4352x8x64 : Shape := ⟨4, ![8, 4352, 8, 64]⟩
abbrev S8x4352x64 : Shape := ⟨3, ![8, 4352, 64]⟩
abbrev S8x256x8x128 : Shape := ⟨4, ![8, 256, 8, 128]⟩
abbrev S_ : Shape := ⟨0, ![]⟩
abbrev S8x256x8x64 : Shape := ⟨4, ![8, 256, 8, 64]⟩
abbrev S8x256x64 : Shape := ⟨3, ![8, 256, 64]⟩

class Facts : Prop where
  slices_S8x4352x8x128_S8x256x8x128_0_4096_0_0 : S8x4352x8x128.Slices ![0, 4096, 0, 0] S8x256x8x128
  bcast_S_S8x256x8x128 : S_.BroadcastsInDim S8x256x8x128 (![] : Fin 0 → Fin S8x256x8x128.rank)
  slices_S8x4352x8x64_S8x256x8x64_0_4096_0_0 : S8x4352x8x64.Slices ![0, 4096, 0, 0] S8x256x8x64
  bcast_S_S8x256x8x64 : S_.BroadcastsInDim S8x256x8x64 (![] : Fin 0 → Fin S8x256x8x64.rank)
  slices_S8x4352x64_S8x256x64_0_4096_0 : S8x4352x64.Slices ![0, 4096, 0] S8x256x64
  bcast_S_S8x256x64 : S_.BroadcastsInDim S8x256x64 (![] : Fin 0 → Fin S8x256x64.rank)

variable [Facts]

def fn {F : FTy → Type} [FloatOps F] (main_arg0 : FVec F S8x4352x8x128 .f32) (main_arg1 : FVec F S8x4352x8x64 .f32) (main_arg2 : FVec F S8x4352x8x128 .f32) (main_arg3 : FVec F S8x4352x64 .f32) (main_arg4 : FVec F S8x4352x8x128 .f32) : IVec S8x256x8x128 1 × IVec S8x256x8x64 1 × IVec S8x256x8x128 1 × IVec S8x256x64 1 :=
  let main_v0 : FVec F S8x256x8x128 .f32 := (extractStridedSlice S8x256x8x128 ![0, 4096, 0, 0] · slices_S8x4352x8x128_S8x256x8x128_0_4096_0_0) main_arg0
  let main_v1 : FVec F S8x256x8x128 .f32 := Host.absf main_v0
  let main_cst : FVec F S_ .f32 := constant S_ .f32 0x7F800000#32
  let main_v2 : FVec F S8x256x8x128 .f32 := broadcastInDim S8x256x8x128 ![] bcast_S_S8x256x8x128 main_cst
  let main_v3 : IVec S8x256x8x128 1 := cmpf .olt main_v1 main_v2
  let main_v4 : FVec F S8x256x8x64 .f32 := (extractStridedSlice S8x256x8x64 ![0, 4096, 0, 0] · slices_S8x4352x8x64_S8x256x8x64_0_4096_0_0) main_arg1
  let main_v5 : FVec F S8x256x8x64 .f32 := Host.absf main_v4
  let main_cst_0 : FVec F S_ .f32 := constant S_ .f32 0x7F800000#32
  let main_v6 : FVec F S8x256x8x64 .f32 := broadcastInDim S8x256x8x64 ![] bcast_S_S8x256x8x64 main_cst_0
  let main_v7 : IVec S8x256x8x64 1 := cmpf .olt main_v5 main_v6
  let main_v8 : FVec F S8x256x8x128 .f32 := (extractStridedSlice S8x256x8x128 ![0, 4096, 0, 0] · slices_S8x4352x8x128_S8x256x8x128_0_4096_0_0) main_arg2
  let main_v9 : FVec F S8x256x8x128 .f32 := Host.absf main_v8
  let main_cst_1 : FVec F S_ .f32 := constant S_ .f32 0x7F800000#32
  let main_v10 : FVec F S8x256x8x128 .f32 := broadcastInDim S8x256x8x128 ![] bcast_S_S8x256x8x128 main_cst_1
  let main_v11 : IVec S8x256x8x128 1 := cmpf .olt main_v9 main_v10
  let main_v12 : FVec F S8x256x64 .f32 := (extractStridedSlice S8x256x64 ![0, 4096, 0] · slices_S8x4352x64_S8x256x64_0_4096_0) main_arg3
  let main_v13 : FVec F S8x256x64 .f32 := Host.absf main_v12
  let main_cst_2 : FVec F S_ .f32 := constant S_ .f32 0x7F800000#32
  let main_v14 : FVec F S8x256x64 .f32 := broadcastInDim S8x256x64 ![] bcast_S_S8x256x64 main_cst_2
  let main_v15 : IVec S8x256x64 1 := cmpf .olt main_v13 main_v14
  (main_v3, main_v7, main_v11, main_v15)
-- ==== Pre_finite_qk.lean ====
abbrev S8x4352x8x128 : Shape := ⟨4, ![8, 4352, 8, 128]⟩
abbrev S8x4352x8x64 : Shape := ⟨4, ![8, 4352, 8, 64]⟩
abbrev S8x4352x64 : Shape := ⟨3, ![8, 4352, 64]⟩
abbrev S_ : Shape := ⟨0, ![]⟩

class Facts : Prop where
  bcast_S_S8x4352x8x128 : S_.BroadcastsInDim S8x4352x8x128 (![] : Fin 0 → Fin S8x4352x8x128.rank)
  bcast_S_S8x4352x8x64 : S_.BroadcastsInDim S8x4352x8x64 (![] : Fin 0 → Fin S8x4352x8x64.rank)
  bcast_S_S8x4352x64 : S_.BroadcastsInDim S8x4352x64 (![] : Fin 0 → Fin S8x4352x64.rank)

variable [Facts]

def fn {F : FTy → Type} [FloatOps F] (main_arg0 : FVec F S8x4352x8x128 .f32) (main_arg1 : FVec F S8x4352x8x64 .f32) (main_arg2 : FVec F S8x4352x8x128 .f32) (main_arg3 : FVec F S8x4352x64 .f32) (main_arg4 : FVec F S8x4352x8x128 .f32) : IVec S8x4352x8x128 1 × IVec S8x4352x8x64 1 × IVec S8x4352x8x128 1 × IVec S8x4352x64 1 :=
  let main_v0 : FVec F S8x4352x8x128 .f32 := Host.absf main_arg0
  let main_cst : FVec F S_ .f32 := constant S_ .f32 0x7F800000#32
  let main_v1 : FVec F S8x4352x8x128 .f32 := broadcastInDim S8x4352x8x128 ![] bcast_S_S8x4352x8x128 main_cst
  let main_v2 : IVec S8x4352x8x128 1 := cmpf .olt main_v0 main_v1
  let main_v3 : FVec F S8x4352x8x64 .f32 := Host.absf main_arg1
  let main_cst_0 : FVec F S_ .f32 := constant S_ .f32 0x7F800000#32
  let main_v4 : FVec F S8x4352x8x64 .f32 := broadcastInDim S8x4352x8x64 ![] bcast_S_S8x4352x8x64 main_cst_0
  let main_v5 : IVec S8x4352x8x64 1 := cmpf .olt main_v3 main_v4
  let main_v6 : FVec F S8x4352x8x128 .f32 := Host.absf main_arg2
  let main_cst_1 : FVec F S_ .f32 := constant S_ .f32 0x7F800000#32
  let main_v7 : FVec F S8x4352x8x128 .f32 := broadcastInDim S8x4352x8x128 ![] bcast_S_S8x4352x8x128 main_cst_1
  let main_v8 : IVec S8x4352x8x128 1 := cmpf .olt main_v6 main_v7
  let main_v9 : FVec F S8x4352x64 .f32 := Host.absf main_arg3
  let main_cst_2 : FVec F S_ .f32 := constant S_ .f32 0x7F800000#32
  let main_v10 : FVec F S8x4352x64 .f32 := broadcastInDim S8x4352x64 ![] bcast_S_S8x4352x64 main_cst_2
  let main_v11 : IVec S8x4352x64 1 := cmpf .olt main_v9 main_v10
  (main_v2, main_v5, main_v8, main_v11)
-- ==== Kernel.lean ====
abbrev S8x4352x8x128 : Shape := ⟨4, ![8, 4352, 8, 128]⟩
abbrev S8x4352x8x64 : Shape := ⟨4, ![8, 4352, 8, 64]⟩
abbrev S8x4352x64 : Shape := ⟨3, ![8, 4352, 64]⟩
abbrev S_ : Shape := ⟨0, ![]⟩
abbrev S8x4352x1x64 : Shape := ⟨4, ![8, 4352, 1, 64]⟩
abbrev S8x4352x8x256 : Shape := ⟨4, ![8, 4352, 8, 256]⟩
abbrev S8x8x4352x256 : Shape := ⟨4, ![8, 8, 4352, 256]⟩
abbrev S8x4096x1024 : Shape := ⟨3, ![8, 4096, 1024]⟩
abbrev S1x1x1024x256 : Shape := ⟨4, ![1, 1, 1024, 256]⟩
abbrev S1x1x4352x256 : Shape := ⟨4, ![1, 1, 4352, 256]⟩
abbrev S1x1024x128 : Shape := ⟨3, ![1, 1024, 128]⟩
abbrev S1024x256 : Shape := ⟨2, ![1024, 256]⟩
abbrev S1x1x512x256 : Shape := ⟨4, ![1, 1, 512, 256]⟩
abbrev S512x256 : Shape := ⟨2, ![512, 256]⟩
abbrev S1024x512 : Shape := ⟨2, ![1024, 512]⟩
abbrev S1024 : Shape := ⟨1, ![1024]⟩
abbrev S1024x1 : Shape := ⟨2, ![1024, 1]⟩
abbrev S1x1x256x256 : Shape := ⟨4, ![1, 1, 256, 256]⟩
abbrev S256x256 : Shape := ⟨2, ![256, 256]⟩
abbrev S1024x128 : Shape := ⟨2, ![1024, 128]⟩

abbrev nBuf : Space → Nat
  | .hbm => 35
  | .vmem => 8
  | .smem => 0
  | _ => 0

abbrev bufTy : (tb : Table) → Fin (tcTables nBuf tb) → BufTy
  | .hbm, ⟨0, _⟩ => ⟨S8x4352x8x128, .f32⟩
  | .hbm, ⟨1, _⟩ => ⟨S8x4352x8x64, .f32⟩
  | .hbm, ⟨2, _⟩ => ⟨S8x4352x8x128, .f32⟩
  | .hbm, ⟨3, _⟩ => ⟨S8x4352x64, .f32⟩
  | .hbm, ⟨4, _⟩ => ⟨S8x4352x8x128, .f32⟩
  | .hbm, ⟨5, _⟩ => ⟨S_, .f32⟩
  | .hbm, ⟨6, _⟩ => ⟨S8x4352x8x64, .f32⟩
  | .hbm, ⟨7, _⟩ => ⟨S8x4352x1x64, .f32⟩
  | .hbm, ⟨8, _⟩ => ⟨S8x4352x8x64, .f32⟩
  | .hbm, ⟨9, _⟩ => ⟨S_, .f32⟩
  | .hbm, ⟨10, _⟩ => ⟨S8x4352x8x128, .f32⟩
  | .hbm, ⟨11, _⟩ => ⟨S8x4352x8x128, .f32⟩
  | .hbm, ⟨12, _⟩ => ⟨S_, .f32⟩
  | .hbm, ⟨13, _⟩ => ⟨S8x4352x8x64, .f32⟩
  | .hbm, ⟨14, _⟩ => ⟨S8x4352x8x64, .f32⟩
  | .hbm, ⟨15, _⟩ => ⟨S8x4352x8x256, .f32⟩
  | .hbm, ⟨16, _⟩ => ⟨S8x8x4352x256, .f32⟩
  | .hbm, ⟨17, _⟩ => ⟨S8x8x4352x256, .bf16⟩
  | .hbm, ⟨18, _⟩ => ⟨S8x4352x8x256, .f32⟩
  | .hbm, ⟨19, _⟩ => ⟨S8x8x4352x256, .f32⟩
  | .hbm, ⟨20, _⟩ => ⟨S8x8x4352x256, .bf16⟩
  | .hbm, ⟨21, _⟩ => ⟨S8x4352x8x128, .i32⟩
  | .hbm, ⟨22, _⟩ => ⟨S_, .i32⟩
  | .hbm, ⟨23, _⟩ => ⟨S8x4352x8x128, .i32⟩
  | .hbm, ⟨24, _⟩ => ⟨S8x4352x8x128, .i1⟩
  | .hbm, ⟨25, _⟩ => ⟨S_, .f32⟩
  | .hbm, ⟨26, _⟩ => ⟨S_, .f32⟩
  | .hbm, ⟨27, _⟩ => ⟨S8x4352x8x128, .f32⟩
  | .hbm, ⟨28, _⟩ => ⟨S8x4352x8x128, .f32⟩
  | .hbm, ⟨29, _⟩ => ⟨S8x4352x8x128, .f32⟩
  | .hbm, ⟨30, _⟩ => ⟨S8x4352x8x128, .f32⟩
  | .hbm, ⟨31, _⟩ => ⟨S8x4352x8x256, .f32⟩
  | .hbm, ⟨32, _⟩ => ⟨S8x8x4352x256, .f32⟩
  | .hbm, ⟨33, _⟩ => ⟨S8x8x4352x256, .bf16⟩
  | .hbm, ⟨34, _⟩ => ⟨S8x4096x1024, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x4352x256, .bf16⟩
  | .local _ .vmem, ⟨3, _⟩ => ⟨S1x1x4352x256, .bf16⟩
  | .local _ .vmem, ⟨4, _⟩ => ⟨S1x1x4352x256, .bf16⟩
  | .local _ .vmem, ⟨5, _⟩ => ⟨S1x1x4352x256, .bf16⟩
  | .local _ .vmem, ⟨6, _⟩ => ⟨S1x1024x128, .bf16⟩
  | .local _ .vmem, ⟨7, _⟩ => ⟨S1x1024x128, .bf16⟩
  | _, _ => ⟨S8x4352x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4352x8x128 : Shape := ⟨4, ![8, 4352, 8, 128]⟩
abbrev S8x4352x8x64 : Shape := ⟨4, ![8, 4352, 8, 64]⟩
abbrev S8x4352x64 : Shape := ⟨3, ![8, 4352, 64]⟩
abbrev S8x256x8x128 : Shape := ⟨4, ![8, 256, 8, 128]⟩
abbrev S8x4096x8x128 : Shape := ⟨4, ![8, 4096, 8, 128]⟩
abbrev S8x256x64 : Shape := ⟨3, ![8, 256, 64]⟩
abbrev S8x4096x64 : Shape := ⟨3, ![8, 4096, 64]⟩
abbrev S8x8x4096x4352 : Shape := ⟨4, ![8, 8, 4096, 4352]⟩
abbrev S8x4096x8x64 : Shape := ⟨4, ![8, 4096, 8, 64]⟩
abbrev S8x4352x4096x8 : Shape := ⟨4, ![8, 4352, 4096, 8]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x1024 : Shape := ⟨3, ![8, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4352x8x128, .f32⟩
  | .hbm, ⟨1, _⟩ => ⟨S8x4352x8x64, .f32⟩
  | .hbm, ⟨2, _⟩ => ⟨S8x4352x8x128, .f32⟩
  | .hbm, ⟨3, _⟩ => ⟨S8x4352x64, .f32⟩
  | .hbm, ⟨4, _⟩ => ⟨S8x4352x8x128, .f32⟩
  | .hbm, ⟨5, _⟩ => ⟨S8x256x8x128, .f32⟩
  | .hbm, ⟨6, _⟩ => ⟨S8x4096x8x128, .f32⟩
  | .hbm, ⟨7, _⟩ => ⟨S8x4352x8x128, .f32⟩
  | .hbm, ⟨8, _⟩ => ⟨S8x256x64, .f32⟩
  | .hbm, ⟨9, _⟩ => ⟨S8x4096x64, .f32⟩
  | .hbm, ⟨10, _⟩ => ⟨S8x4352x64, .f32⟩
  | .hbm, ⟨11, _⟩ => ⟨S8x256x8x128, .f32⟩
  | .hbm, ⟨12, _⟩ => ⟨S8x4096x8x128, .f32⟩
  | .hbm, ⟨13, _⟩ => ⟨S8x4352x8x128, .f32⟩
  | .hbm, ⟨14, _⟩ => ⟨S8x4096x8x128, .f32⟩
  | .hbm, ⟨15, _⟩ => ⟨S8x8x4096x4352, .f32⟩
  | .hbm, ⟨16, _⟩ => ⟨S8x4096x8x64, .f32⟩
  | .hbm, ⟨17, _⟩ => ⟨S8x4352x4096x8, .f32⟩
  | .hbm, ⟨18, _⟩ => ⟨S8x8x4096x4352, .f32⟩
  | .hbm, ⟨19, _⟩ => ⟨S8x8x4096x4352, .f32⟩
  | .hbm, ⟨20, _⟩ => ⟨S_, .f32⟩
  | .hbm, ⟨21, _⟩ => ⟨S8x8x4096x4352, .f32⟩
  | .hbm, ⟨22, _⟩ => ⟨S8x8x4096x4352, .f32⟩
  | .hbm, ⟨23, _⟩ => ⟨S_, .f32⟩
  | .hbm, ⟨24, _⟩ => ⟨S8x8x4096, .f32⟩
  | .hbm, ⟨25, _⟩ => ⟨S_, .f32⟩
  | .hbm, ⟨26, _⟩ => ⟨S8x8x4096, .f32⟩
  | .hbm, ⟨27, _⟩ => ⟨S8x8x4096, .f32⟩
  | .hbm, ⟨28, _⟩ => ⟨S8x8x4096x1, .f32⟩
  | .hbm, ⟨29, _⟩ => ⟨S8x8x4096x4352, .f32⟩
  | .hbm, ⟨30, _⟩ => ⟨S8x8x4096x4352, .f32⟩
  | .hbm, ⟨31, _⟩ => ⟨S8x8x4096x4352, .f32⟩
  | .hbm, ⟨32, _⟩ => ⟨S_, .f32⟩
  | .hbm, ⟨33, _⟩ => ⟨S8x8x4096, .f32⟩
  | .hbm, ⟨34, _⟩ => ⟨S8x8x4096x1, .f32⟩
  | .hbm, ⟨35, _⟩ => ⟨S8x8x4096x4352, .f32⟩
  | .hbm, ⟨36, _⟩ => ⟨S8x8x4096x4352, .f32⟩
  | .hbm, ⟨37, _⟩ => ⟨S8x8x128x4096, .f32⟩
  | .hbm, ⟨38, _⟩ => ⟨S8x4096x8x128, .f32⟩
  | .hbm, ⟨39, _⟩ => ⟨S8x4096x1024, .f32⟩
  | .hbm, ⟨40, _⟩ => ⟨S8x4096x1024, .bf16⟩
  | _, _ => ⟨S8x4352x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel2.lean ====
abbrev S576 : Shape := ⟨1, ![576]⟩
abbrev S147456x2048 : Shape := ⟨2, ![147456, 2048]⟩
abbrev S2x32x2048x3072 : Shape := ⟨4, ![2, 32, 2048, 3072]⟩
abbrev S2x32x3072 : Shape := ⟨3, ![2, 32, 3072]⟩
abbrev S2x32x1536x2048 : Shape := ⟨4, ![2, 32, 1536, 2048]⟩
abbrev S2x32x2048 : Shape := ⟨3, ![2, 32, 2048]⟩
abbrev S1x32x3072 : Shape := ⟨3, ![1, 32, 3072]⟩
abbrev S32x3072 : Shape := ⟨2, ![32, 3072]⟩
abbrev S1x32x2048 : Shape := ⟨3, ![1, 32, 2048]⟩
abbrev S32x2048 : Shape := ⟨2, ![32, 2048]⟩
abbrev S32x1x3072 : Shape := ⟨3, ![32, 1, 3072]⟩
abbrev S32x1x2048 : Shape := ⟨3, ![32, 1, 2048]⟩
abbrev S256x2048 : Shape := ⟨2, ![256, 2048]⟩
abbrev S1x1x2048x3072 : Shape := ⟨4, ![1, 1, 2048, 3072]⟩
abbrev S1 : Shape := ⟨1, ![1]⟩
abbrev S1x1x3072 : Shape := ⟨3, ![1, 1, 3072]⟩
abbrev S1x1x1536x2048 : Shape := ⟨4, ![1, 1, 1536, 2048]⟩
abbrev S1x1x2048 : Shape := ⟨3, ![1, 1, 2048]⟩
abbrev S1x1x2048x768 : Shape := ⟨4, ![1, 1, 2048, 768]⟩
abbrev S2048x768 : Shape := ⟨2, ![2048, 768]⟩
abbrev S256x768 : Shape := ⟨2, ![256, 768]⟩
abbrev S1x1x768 : Shape := ⟨3, ![1, 1, 768]⟩
abbrev S1x768 : Shape := ⟨2, ![1, 768]⟩
abbrev S1x1x768x2048 : Shape := ⟨4, ![1, 1, 768, 2048]⟩
abbrev S768x2048 : Shape := ⟨2, ![768, 2048]⟩
abbrev S1x2048 : Shape := ⟨2, ![1, 2048]⟩

abbrev nBuf : Space → Nat
  | .hbm => 15
  | .vmem => 12
  | .smem => 2
  | _ => 0

abbrev bufTy : (tb : Table) → Fin (tcTables nBuf tb) → BufTy
  | .hbm, ⟨0, _⟩ => ⟨S147456x2048, .f32⟩
  | .hbm, ⟨1, _⟩ => ⟨S2x32x2048x3072, .f32⟩
  | .hbm, ⟨2, _⟩ => ⟨S2x32x3072, .f32⟩
  | .hbm, ⟨3, _⟩ => ⟨S2x32x1536x2048, .f32⟩
  | .hbm, ⟨4, _⟩ => ⟨S2x32x2048, .f32⟩
  | .hbm, ⟨5, _⟩ => ⟨S147456x2048, .bf16⟩
  | .hbm, ⟨6, _⟩ => ⟨S2x32x2048x3072, .bf16⟩
  | .hbm, ⟨7, _⟩ => ⟨S1x32x3072, .f32⟩
  | .hbm, ⟨8, _⟩ => ⟨S32x3072, .f32⟩
  | .hbm, ⟨9, _⟩ => ⟨S2x32x1536x2048, .bf16⟩
  | .hbm, ⟨10, _⟩ => ⟨S1x32x2048, .f32⟩
  | .hbm, ⟨11, _⟩ => ⟨S32x2048, .f32⟩
  | .hbm, ⟨12, _⟩ => ⟨S32x1x3072, .f32⟩
  | .hbm, ⟨13, _⟩ => ⟨S32x1x2048, .f32⟩
  | .hbm, ⟨14, _⟩ => ⟨S147456x2048, .bf16⟩
  | .local _ .vmem, ⟨0, _⟩ => ⟨S256x2048, .bf16⟩
  | .local _ .vmem, ⟨1, _⟩ => ⟨S256x2048, .bf16⟩
  | .local _ .vmem, ⟨2, _⟩ => ⟨S1x1x2048x3072, .bf16⟩
  | .local _ .vmem, ⟨3, _⟩ => ⟨S1x1x2048x3072, .bf16⟩
  | .local _ .vmem, ⟨4, _⟩ => ⟨S1x1x3072, .f32⟩
  | .local _ .vmem, ⟨5, _⟩ => ⟨S1x1x3072, .f32⟩
  | .local _ .vmem, ⟨6, _⟩ => ⟨S1x1x1536x2048, .bf16⟩
  | .local _ .vmem, ⟨7, _⟩ => ⟨S1x1x1536x2048, .bf16⟩
  | .local _ .vmem, ⟨8, _⟩ => ⟨S1x1x2048, .f32⟩
  | .local _ .vmem, ⟨9, _⟩ => ⟨S1x1x2048, .f32⟩
  | .local _ .vmem, ⟨10, _⟩ => ⟨S256x2048, .bf16⟩
  | .local _ .vmem, ⟨11, _⟩ => ⟨S256x2048, .bf16⟩
  | .local _ .smem, ⟨0, _⟩ => ⟨S576, .i32⟩
  | .local _ .smem, ⟨1, _⟩ => ⟨S576, .i32⟩
  | _, _ => ⟨S147456x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S576.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S576 : Shape := ⟨1, ![576]⟩
abbrev S147456x2048 : Shape := ⟨2, ![147456, 2048]⟩
abbrev S2x32x2048x3072 : Shape := ⟨4, ![2, 32, 2048, 3072]⟩
abbrev S2x32x3072 : Shape := ⟨3, ![2, 32, 3072]⟩
abbrev S2x32x1536x2048 : Shape := ⟨4, ![2, 32, 1536, 2048]⟩
abbrev S2x32x2048 : Shape := ⟨3, ![2, 32, 2048]⟩
abbrev S576x1 : Shape := ⟨2, ![576, 1]⟩
abbrev S576x256 : Shape := ⟨2, ![576, 256]⟩
abbrev S147456 : Shape := ⟨1, ![147456]⟩
abbrev S_ : Shape := ⟨0, ![]⟩
abbrev S147456x1 : Shape := ⟨2, ![147456, 1]⟩
abbrev S32 : Shape := ⟨1, ![32]⟩
abbrev S1x32 : Shape := ⟨2, ![1, 32]⟩
abbrev S147456x32 : Shape := ⟨2, ![147456, 32]⟩
abbrev S1x32x2048x3072 : Shape := ⟨4, ![1, 32, 2048, 3072]⟩
abbrev S32x2048x3072 : Shape := ⟨3, ![32, 2048, 3072]⟩
abbrev S32x3072x147456 : Shape := ⟨3, ![32, 3072, 147456]⟩
abbrev S32x147456x3072 : Shape := ⟨3, ![32, 147456, 3072]⟩
abbrev S1x32x3072 : Shape := ⟨3, ![1, 32, 3072]⟩
abbrev S32x3072 : Shape := ⟨2, ![32, 3072]⟩
abbrev S32x1x3072 : Shape := ⟨3, ![32, 1, 3072]⟩
abbrev S32x147456x1536 : Shape := ⟨3, ![32, 147456, 1536]⟩
abbrev S1x32x1536x2048 : Shape := ⟨4, ![1, 32, 1536, 2048]⟩
abbrev S32x1536x2048 : Shape := ⟨3, ![32, 1536, 2048]⟩
abbrev S32x147456x2048 : Shape := ⟨3, ![32, 147456, 2048]⟩
abbrev S1x32x2048 : Shape := ⟨3, ![1, 32, 2048]⟩
abbrev S32x2048 : Shape := ⟨2, ![32, 2048]⟩
abbrev S32x1x2048 : Shape := ⟨3, ![32, 1, 2048]⟩
abbrev S32x147456 : Shape := ⟨2, ![32, 147456]⟩
abbrev S32x147456x1 : Shape := ⟨3, ![32, 147456, 1]⟩

abbrev nBuf : Space → Nat
  | .hbm => 84
  | .vmem => 0
  | .smem => 0
  | _ => 0

abbrev bufTy : (tb : Table) → Fin (tcTables nBuf tb) → BufTy
  | .hbm, ⟨0, _⟩ => ⟨S576, .i32⟩
  | .hbm, ⟨1, _⟩ => ⟨S576, .i32⟩
  | .hbm, ⟨2, _⟩ => ⟨S147456x2048, .f32⟩
  | .hbm, ⟨3, _⟩ => ⟨S2x32x2048x3072, .f32⟩
  | .hbm, ⟨4, _⟩ => ⟨S2x32x3072, .f32⟩
  | .hbm, ⟨5, _⟩ => ⟨S2x32x1536x2048, .f32⟩
  | .hbm, ⟨6, _⟩ => ⟨S2x32x2048, .f32⟩
  | .hbm, ⟨7, _⟩ => ⟨S576x1, .i32⟩
  | .hbm, ⟨8, _⟩ => ⟨S576x256, .i32⟩
  | .hbm, ⟨9, _⟩ => ⟨S147456, .i32⟩
  | .hbm, ⟨10, _⟩ => ⟨S576x1, .i32⟩
  | .hbm, ⟨11, _⟩ => ⟨S576x256, .i32⟩
  | .hbm, ⟨12, _⟩ => ⟨S147456, .i32⟩
  | .hbm, ⟨13, _⟩ => ⟨S_, .i32⟩
  | .hbm, ⟨14, _⟩ => ⟨S147456, .i32⟩
  | .hbm, ⟨15, _⟩ => ⟨S147456, .i1⟩
  | .hbm, ⟨16, _⟩ => ⟨S147456x1, .i1⟩
  | .hbm, ⟨17, _⟩ => ⟨S147456x1, .i32⟩
  | .hbm, ⟨18, _⟩ => ⟨S32, .i32⟩
  | .hbm, ⟨19, _⟩ => ⟨S1x32, .i32⟩
  | .hbm, ⟨20, _⟩ => ⟨S147456x32, .i32⟩
  | .hbm, ⟨21, _⟩ => ⟨S147456x32, .i32⟩
  | .hbm, ⟨22, _⟩ => ⟨S147456x32, .i1⟩
  | .hbm, ⟨23, _⟩ => ⟨S147456x32, .i1⟩
  | .hbm, ⟨24, _⟩ => ⟨S147456x32, .i1⟩
  | .hbm, ⟨25, _⟩ => ⟨S_, .f32⟩
  | .hbm, ⟨26, _⟩ => ⟨S_, .f32⟩
  | .hbm, ⟨27, _⟩ => ⟨S147456x32, .f32⟩
  | .hbm, ⟨28, _⟩ => ⟨S147456x32, .f32⟩
  | .hbm, ⟨29, _⟩ => ⟨S147456x32, .f32⟩
  | .hbm, ⟨30, _⟩ => ⟨S1x32x2048x3072, .f32⟩
  | .hbm, ⟨31, _⟩ => ⟨S32x2048x3072, .f32⟩
  | .hbm, ⟨32, _⟩ => ⟨S32x3072x147456, .f32⟩
  | .hbm, ⟨33, _⟩ => ⟨S32x147456x3072, .f32⟩
  | .hbm, ⟨34, _⟩ => ⟨S1x32x3072, .f32⟩
  | .hbm, ⟨35, _⟩ => ⟨S32x3072, .f32⟩
  | .hbm, ⟨36, _⟩ => ⟨S32x1x3072, .f32⟩
  | .hbm, ⟨37, _⟩ => ⟨S32x147456x3072, .f32⟩
  | .hbm, ⟨38, _⟩ => ⟨S32x147456x3072, .f32⟩
  | .hbm, ⟨39, _⟩ => ⟨S32x147456x1536, .f32⟩
  | .hbm, ⟨40, _⟩ => ⟨S_, .f32⟩
  | .hbm, ⟨41, _⟩ => ⟨S32x147456x1536, .f32⟩
  | .hbm, ⟨42, _⟩ => ⟨S32x147456x1536, .f32⟩
  | .hbm, ⟨43, _⟩ => ⟨S32x147456x1536, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32x147456x1536, .f32⟩
  | .hbm, ⟨48, _⟩ => ⟨S32x147456x1536, .f32⟩
  | .hbm, ⟨49, _⟩ => ⟨S_, .f32⟩
  | .hbm, ⟨50, _⟩ => ⟨S32x147456x1536, .f32⟩
  | .hbm, ⟨51, _⟩ => ⟨S32x147456x1536, .f32⟩
  | .hbm, ⟨52, _⟩ => ⟨S_, .f32⟩
  | .hbm, ⟨53, _⟩ => ⟨S32x147456x1536, .f32⟩
  | .hbm, ⟨54, _⟩ => ⟨S32x147456x1536, .f32⟩
  | .hbm, ⟨55, _⟩ => ⟨S32x147456x1536, .f32⟩
  | .hbm, ⟨56, _⟩ => ⟨S32x147456x1536, .f32⟩
  | .hbm, ⟨57, _⟩ => ⟨S_, .f32⟩
  | .hbm, ⟨58, _⟩ => ⟨S32x147456x1536, .f32⟩
  | .hbm, ⟨59, _⟩ => ⟨S32x147456x1536, .f32⟩
  | .hbm, ⟨60, _⟩ => ⟨S_, .f32⟩
  | .hbm, ⟨61, _⟩ => ⟨S32x147456x1536, .f32⟩
  | .hbm, ⟨62, _⟩ => ⟨S32x147456x1536, .f32⟩
  | .hbm, ⟨63, _⟩ => ⟨S32x147456x1536, .f32⟩
  | .hbm, ⟨64, _⟩ => ⟨S_, .f32⟩
  | .hbm, ⟨65, _⟩ => ⟨S32x147456x1536, .f32⟩
  | .hbm, ⟨66, _⟩ => ⟨S32x147456x1536, .f32⟩
  | .hbm, ⟨67, _⟩ => ⟨S32x147456x1536, .f32⟩
  | .hbm, ⟨68, _⟩ => ⟨S1x32x1536x2048, .f32⟩
  | .hbm, ⟨69, _⟩ => ⟨S32x1536x2048, .f32⟩
  | .hbm, ⟨70, _⟩ => ⟨S32x147456x2048, .f32⟩
  | .hbm, ⟨71, _⟩ => ⟨S1x32x2048, .f32⟩
  | .hbm, ⟨72, _⟩ => ⟨S32x2048, .f32⟩
  | .hbm, ⟨73, _⟩ => ⟨S32x1x2048, .f32⟩
  | .hbm, ⟨74, _⟩ => ⟨S32x147456x2048, .f32⟩
  | .hbm, ⟨75, _⟩ => ⟨S32x147456x2048, .f32⟩
  | .hbm, ⟨76, _⟩ => ⟨S32x147456, .f32⟩
  | .hbm, ⟨77, _⟩ => ⟨S32x147456x1, .f32⟩
  | .hbm, ⟨78, _⟩ => ⟨S32x147456x1, .f32⟩
  | .hbm, ⟨79, _⟩ => ⟨S32x147456x2048, .f32⟩
  | .hbm, ⟨80, _⟩ => ⟨S32x147456x2048, .f32⟩
  | .hbm, ⟨81, _⟩ => ⟨S_, .f32⟩
  | .hbm, ⟨82, _⟩ => ⟨S147456x2048, .f32⟩
  | .hbm, ⟨83, _⟩ => ⟨S147456x2048, .bf16⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Kernel3.lean ====
abbrev S8x4096x2048 : Shape := ⟨3, ![8, 4096, 2048]⟩
abbrev S8x256x2048 : Shape := ⟨3, ![8, 256, 2048]⟩
abbrev S8x12288 : Shape := ⟨2, ![8, 12288]⟩
abbrev S12288 : Shape := ⟨1, ![12288]⟩
abbrev S2048 : Shape := ⟨1, ![2048]⟩
abbrev S8x4352x2048 : Shape := ⟨3, ![8, 4352, 2048]⟩
abbrev S8x1x6x2048 : Shape := ⟨4, ![8, 1, 6, 2048]⟩
abbrev S1x1x6x2048 : Shape := ⟨4, ![1, 1, 6, 2048]⟩
abbrev S8x2x6x2048 : Shape := ⟨4, ![8, 2, 6, 2048]⟩
abbrev S1x2048 : Shape := ⟨2, ![1, 2048]⟩
abbrev S1x256x2048 : Shape := ⟨3, ![1, 256, 2048]⟩
abbrev S6x2048 : Shape := ⟨2, ![6, 2048]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S8x256x2048, .f32⟩
  | .hbm, ⟨2, _⟩ => ⟨S8x12288, .f32⟩
  | .hbm, ⟨3, _⟩ => ⟨S12288, .f32⟩
  | .hbm, ⟨4, _⟩ => ⟨S2048, .f32⟩
  | .hbm, ⟨5, _⟩ => ⟨S8x4352x2048, .f32⟩
  | .hbm, ⟨6, _⟩ => ⟨S8x1x6x2048, .f32⟩
  | .hbm, ⟨7, _⟩ => ⟨S1x1x6x2048, .f32⟩
  | .hbm, ⟨8, _⟩ => ⟨S8x1x6x2048, .f32⟩
  | .hbm, ⟨9, _⟩ => ⟨S8x2x6x2048, .f32⟩
  | .hbm, ⟨10, _⟩ => ⟨S1x2048, .f32⟩
  | .hbm, ⟨11, _⟩ => ⟨S8x4352x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048, .f32⟩
  | .local _ .vmem, ⟨3, _⟩ => ⟨S1x1x6x2048, .f32⟩
  | .local _ .vmem, ⟨4, _⟩ => ⟨S1x1x6x2048, .f32⟩
  | .local _ .vmem, ⟨5, _⟩ => ⟨S1x256x2048, .bf16⟩
  | .local _ .vmem, ⟨6, _⟩ => ⟨S1x256x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x4096x2048 : Shape := ⟨3, ![8, 4096, 2048]⟩
abbrev S8x256x2048 : Shape := ⟨3, ![8, 256, 2048]⟩
abbrev S8x12288 : Shape := ⟨2, ![8, 12288]⟩
abbrev S12288 : Shape := ⟨1, ![12288]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x256 : Shape := ⟨2, ![8, 256]⟩
abbrev S8x256x1 : Shape := ⟨3, ![8, 256, 1]⟩
abbrev S8x4352x2048 : Shape := ⟨3, ![8, 4352, 2048]⟩

abbrev nBuf : Space → Nat
  | .hbm => 61
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x256x2048, .f32⟩
  | .hbm, ⟨2, _⟩ => ⟨S8x12288, .f32⟩
  | .hbm, ⟨3, _⟩ => ⟨S12288, .f32⟩
  | .hbm, ⟨4, _⟩ => ⟨S2048, .f32⟩
  | .hbm, ⟨5, _⟩ => ⟨S8x2048, .f32⟩
  | .hbm, ⟨6, _⟩ => ⟨S8x1x2048, .f32⟩
  | .hbm, ⟨7, _⟩ => ⟨S8x2048, .f32⟩
  | .hbm, ⟨8, _⟩ => ⟨S8x1x2048, .f32⟩
  | .hbm, ⟨9, _⟩ => ⟨S2048, .f32⟩
  | .hbm, ⟨10, _⟩ => ⟨S2048, .f32⟩
  | .hbm, ⟨11, _⟩ => ⟨S8x4096x2048, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x2048, .f32⟩
  | .hbm, ⟨23, _⟩ => ⟨S8x4096x2048, .f32⟩
  | .hbm, ⟨24, _⟩ => ⟨S1x1x2048, .f32⟩
  | .hbm, ⟨25, _⟩ => ⟨S8x4096x2048, .f32⟩
  | .hbm, ⟨26, _⟩ => ⟨S8x4096x2048, .f32⟩
  | .hbm, ⟨27, _⟩ => ⟨S_, .f32⟩
  | .hbm, ⟨28, _⟩ => ⟨S8x1x2048, .f32⟩
  | .hbm, ⟨29, _⟩ => ⟨S8x1x2048, .f32⟩
  | .hbm, ⟨30, _⟩ => ⟨S8x4096x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S8x256x2048, .f32⟩
  | .hbm, ⟨35, _⟩ => ⟨S_, .f32⟩
  | .hbm, ⟨36, _⟩ => ⟨S8x256, .f32⟩
  | .hbm, ⟨37, _⟩ => ⟨S8x256x1, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S8x256x1, .f32⟩
  | .hbm, ⟨45, _⟩ => ⟨S8x256x2048, .f32⟩
  | .hbm, ⟨46, _⟩ => ⟨S8x256x2048, .f32⟩
  | .hbm, ⟨47, _⟩ => ⟨S1x1x2048, .f32⟩
  | .hbm, ⟨48, _⟩ => ⟨S8x256x2048, .f32⟩
  | .hbm, ⟨49, _⟩ => ⟨S8x256x2048, .f32⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S1x1x2048, .f32⟩
  | .hbm, ⟨54, _⟩ => ⟨S8x256x2048, .f32⟩
  | .hbm, ⟨55, _⟩ => ⟨S8x256x2048, .f32⟩
  | .hbm, ⟨56, _⟩ => ⟨S1x1x2048, .f32⟩
  | .hbm, ⟨57, _⟩ => ⟨S8x256x2048, .f32⟩
  | .hbm, ⟨58, _⟩ => ⟨S8x256x2048, .f32⟩
  | .hbm, ⟨59, _⟩ => ⟨S8x4352x2048, .f32⟩
  | .hbm, ⟨60, _⟩ => ⟨S8x4352x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel4.lean ====
abbrev S8x4352x2048 : Shape := ⟨3, ![8, 4352, 2048]⟩
abbrev S2048x11584 : Shape := ⟨2, ![2048, 11584]⟩
abbrev S34816x2048 : Shape := ⟨2, ![34816, 2048]⟩
abbrev S2048x6144 : Shape := ⟨2, ![2048, 6144]⟩
abbrev S2048x3072 : Shape := ⟨2, ![2048, 3072]⟩
abbrev S2048x768 : Shape := ⟨2, ![2048, 768]⟩
abbrev S2048x64 : Shape := ⟨2, ![2048, 64]⟩
abbrev S_ : Shape := ⟨0, ![]⟩
abbrev S2048x256 : Shape := ⟨2, ![2048, 256]⟩
abbrev S2048x512 : Shape := ⟨2, ![2048, 512]⟩
abbrev S2048x1024 : Shape := ⟨2, ![2048, 1024]⟩
abbrev S2048x11776 : Shape := ⟨2, ![2048, 11776]⟩
abbrev S34816x11776 : Shape := ⟨2, ![34816, 11776]⟩
abbrev S512x2048 : Shape := ⟨2, ![512, 2048]⟩
abbrev S2048x2944 : Shape := ⟨2, ![2048, 2944]⟩
abbrev S512x2944 : Shape := ⟨2, ![512, 2944]⟩

abbrev nBuf : Space → Nat
  | .hbm => 16
  | .vmem => 6
  | .smem => 0
  | _ => 0

abbrev bufTy : (tb : Table) → Fin (tcTables nBuf tb) → BufTy
  | .hbm, ⟨0, _⟩ => ⟨S8x4352x2048, .f32⟩
  | .hbm, ⟨1, _⟩ => ⟨S2048x11584, .f32⟩
  | .hbm, ⟨2, _⟩ => ⟨S8x4352x2048, .bf16⟩
  | .hbm, ⟨3, _⟩ => ⟨S34816x2048, .bf16⟩
  | .hbm, ⟨4, _⟩ => ⟨S2048x6144, .f32⟩
  | .hbm, ⟨5, _⟩ => ⟨S2048x3072, .f32⟩
  | .hbm, ⟨6, _⟩ => ⟨S2048x768, .f32⟩
  | .hbm, ⟨7, _⟩ => ⟨S2048x64, .f32⟩
  | .hbm, ⟨8, _⟩ => ⟨S_, .i32⟩
  | .hbm, ⟨9, _⟩ => ⟨S_, .f32⟩
  | .hbm, ⟨10, _⟩ => ⟨S2048x256, .f32⟩
  | .hbm, ⟨11, _⟩ => ⟨S2048x512, .f32⟩
  | .hbm, ⟨12, _⟩ => ⟨S2048x1024, .f32⟩
  | .hbm, ⟨13, _⟩ => ⟨S2048x11776, .f32⟩
  | .hbm, ⟨14, _⟩ => ⟨S2048x11776, .bf16⟩
  | .hbm, ⟨15, _⟩ => ⟨S34816x11776, .bf16⟩
  | .local _ .vmem, ⟨0, _⟩ => ⟨S512x2048, .bf16⟩
  | .local _ .vmem, ⟨1, _⟩ => ⟨S512x2048, .bf16⟩
  | .local _ .vmem, ⟨2, _⟩ => ⟨S2048x2944, .bf16⟩
  | .local _ .vmem, ⟨3, _⟩ => ⟨S2048x2944, .bf16⟩
  | .local _ .vmem, ⟨4, _⟩ => ⟨S512x2944, .bf16⟩
  | .local _ .vmem, ⟨5, _⟩ => ⟨S512x2944, .bf16⟩
  | _, _ => ⟨S8x4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 68], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x4352x2048 : Shape := ⟨3, ![8, 4352, 2048]⟩
abbrev S2048x11584 : Shape := ⟨2, ![2048, 11584]⟩
abbrev S8x4352x11584 : Shape := ⟨3, ![8, 4352, 11584]⟩
abbrev S34816x11584 : Shape := ⟨2, ![34816, 11584]⟩
abbrev S_ : Shape := ⟨0, ![]⟩
abbrev S34816x192 : Shape := ⟨2, ![34816, 192]⟩
abbrev S34816x6144 : Shape := ⟨2, ![34816, 6144]⟩
abbrev S34816x3072 : Shape := ⟨2, ![34816, 3072]⟩
abbrev S34816x768 : Shape := ⟨2, ![34816, 768]⟩
abbrev S34816x64 : Shape := ⟨2, ![34816, 64]⟩
abbrev S34816x512 : Shape := ⟨2, ![34816, 512]⟩
abbrev S34816x1024 : Shape := ⟨2, ![34816, 1024]⟩
abbrev S34816x11776 : Shape := ⟨2, ![34816, 11776]⟩

abbrev nBuf : Space → Nat
  | .hbm => 14
  | .vmem => 0
  | .smem => 0
  | _ => 0

abbrev bufTy : (tb : Table) → Fin (tcTables nBuf tb) → BufTy
  | .hbm, ⟨0, _⟩ => ⟨S8x4352x2048, .f32⟩
  | .hbm, ⟨1, _⟩ => ⟨S2048x11584, .f32⟩
  | .hbm, ⟨2, _⟩ => ⟨S8x4352x11584, .f32⟩
  | .hbm, ⟨3, _⟩ => ⟨S34816x11584, .f32⟩
  | .hbm, ⟨4, _⟩ => ⟨S_, .f32⟩
  | .hbm, ⟨5, _⟩ => ⟨S34816x192, .f32⟩
  | .hbm, ⟨6, _⟩ => ⟨S34816x6144, .f32⟩
  | .hbm, ⟨7, _⟩ => ⟨S34816x3072, .f32⟩
  | .hbm, ⟨8, _⟩ => ⟨S34816x768, .f32⟩
  | .hbm, ⟨9, _⟩ => ⟨S34816x64, .f32⟩
  | .hbm, ⟨10, _⟩ => ⟨S34816x512, .f32⟩
  | .hbm, ⟨11, _⟩ => ⟨S34816x1024, .f32⟩
  | .hbm, ⟨12, _⟩ => ⟨S34816x11776, .f32⟩
  | .hbm, ⟨13, _⟩ => ⟨S34816x11776, .bf16⟩
  | _, _ => ⟨S8x4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S8x4352x1024 : Shape := ⟨3, ![8, 4352, 1024]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S256x1024 : Shape := ⟨2, ![256, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x4352x1024, .f32⟩
  | .hbm, ⟨1, _⟩ => ⟨S1024x1024, .f32⟩
  | .hbm, ⟨2, _⟩ => ⟨S1024, .f32⟩
  | .hbm, ⟨3, _⟩ => ⟨S8x4352x1024, .bf16⟩
  | .hbm, ⟨4, _⟩ => ⟨S1024x1024, .bf16⟩
  | .hbm, ⟨5, _⟩ => ⟨S1x1024, .f32⟩
  | .hbm, ⟨6, _⟩ => ⟨S8x4352x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x1024, .f32⟩
  | .local _ .vmem, ⟨4, _⟩ => ⟨S1x256x1024, .bf16⟩
  | .local _ .vmem, ⟨5, _⟩ => ⟨S1x256x1024, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8x4352x1024 : Shape := ⟨3, ![8, 4352, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S1024x1024, .f32⟩
  | .hbm, ⟨2, _⟩ => ⟨S1024, .f32⟩
  | .hbm, ⟨3, _⟩ => ⟨S8x4352x1024, .f32⟩
  | .hbm, ⟨4, _⟩ => ⟨S8x4352x1024, .f32⟩
  | .hbm, ⟨5, _⟩ => ⟨S_, .f32⟩
  | .hbm, ⟨6, _⟩ => ⟨S8x4352x1024, .f32⟩
  | .hbm, ⟨7, _⟩ => ⟨S8x4352x1024, .f32⟩
  | .hbm, ⟨8, _⟩ => ⟨S8x4352x1024, .f32⟩
  | .hbm, ⟨9, _⟩ => ⟨S_, .f32⟩
  | .hbm, ⟨10, _⟩ => ⟨S8x4352x1024, .f32⟩
  | .hbm, ⟨11, _⟩ => ⟨S8x4352x1024, .f32⟩
  | .hbm, ⟨12, _⟩ => ⟨S8x4352x1024, .f32⟩
  | .hbm, ⟨13, _⟩ => ⟨S_, .f32⟩
  | .hbm, ⟨14, _⟩ => ⟨S8x4352x1024, .f32⟩
  | .hbm, ⟨15, _⟩ => ⟨S8x4352x1024, .f32⟩
  | .hbm, ⟨16, _⟩ => ⟨S_, .f32⟩
  | .hbm, ⟨17, _⟩ => ⟨S8x4352x1024, .f32⟩
  | .hbm, ⟨18, _⟩ => ⟨S8x4352x1024, .f32⟩
  | .hbm, ⟨19, _⟩ => ⟨S8x4352x1024, .f32⟩
  | .hbm, ⟨20, _⟩ => ⟨S8x4352x1024, .f32⟩
  | .hbm, ⟨21, _⟩ => ⟨S1x1x1024, .f32⟩
  | .hbm, ⟨22, _⟩ => ⟨S8x4352x1024, .f32⟩
  | .hbm, ⟨23, _⟩ => ⟨S8x4352x1024, .f32⟩
  | .hbm, ⟨24, _⟩ => ⟨S8x4352x1024, .f32⟩
  | .hbm, ⟨25, _⟩ => ⟨S8x4352x1024, .f32⟩
  | .hbm, ⟨26, _⟩ => ⟨S_, .f32⟩
  | .hbm, ⟨27, _⟩ => ⟨S8x4352x1024, .f32⟩
  | .hbm, ⟨28, _⟩ => ⟨S8x4352x1024, .f32⟩
  | .hbm, ⟨29, _⟩ => ⟨S_, .f32⟩
  | .hbm, ⟨30, _⟩ => ⟨S8x4352x1024, .f32⟩
  | .hbm, ⟨31, _⟩ => ⟨S8x4352x1024, .f32⟩
  | .hbm, ⟨32, _⟩ => ⟨S8x4352x1024, .f32⟩
  | .hbm, ⟨33, _⟩ => ⟨S8x4352x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel6.lean ====
abbrev S8x2048 : Shape := ⟨2, ![8, 2048]⟩
abbrev S2048 : Shape := ⟨1, ![2048]⟩
abbrev S2048x12288 : Shape := ⟨2, ![2048, 12288]⟩
abbrev S12288 : Shape := ⟨1, ![12288]⟩
abbrev S_ : Shape := ⟨0, ![]⟩
abbrev S16x2048 : Shape := ⟨2, ![16, 2048]⟩
abbrev S1 : Shape := ⟨1, ![1]⟩
abbrev S1x12288 : Shape := ⟨2, ![1, 12288]⟩
abbrev S16x12288 : Shape := ⟨2, ![16, 12288]⟩
abbrev S2048x1024 : Shape := ⟨2, ![2048, 1024]⟩
abbrev S1x1024 : Shape := ⟨2, ![1, 1024]⟩
abbrev S16x1024 : Shape := ⟨2, ![16, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S_, .f32⟩
  | .hbm, ⟨5, _⟩ => ⟨S16x2048, .f32⟩
  | .hbm, ⟨6, _⟩ => ⟨S_, .i32⟩
  | .hbm, ⟨7, _⟩ => ⟨S1, .i32⟩
  | .hbm, ⟨8, _⟩ => ⟨S16x2048, .f32⟩
  | .hbm, ⟨9, _⟩ => ⟨S_, .i32⟩
  | .hbm, ⟨10, _⟩ => ⟨S1, .i32⟩
  | .hbm, ⟨11, _⟩ => ⟨S16x2048, .f32⟩
  | .hbm, ⟨12, _⟩ => ⟨S1x12288, .f32⟩
  | .hbm, ⟨13, _⟩ => ⟨S16x12288, .f32⟩
  | .local _ .vmem, ⟨0, _⟩ => ⟨S16x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048 : Shape := ⟨2, ![8, 2048]⟩
abbrev S2048 : Shape := ⟨1, ![2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩
abbrev S7x12288 : Shape := ⟨2, ![7, 12288]⟩
abbrev S16x12288 : Shape := ⟨2, ![16, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S2048x12288, .f32⟩
  | .hbm, ⟨3, _⟩ => ⟨S12288, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x12288, .f32⟩
  | .hbm, ⟨14, _⟩ => ⟨S1x12288, .f32⟩
  | .hbm, ⟨15, _⟩ => ⟨S8x12288, .f32⟩
  | .hbm, ⟨16, _⟩ => ⟨S8x12288, .f32⟩
  | .hbm, ⟨17, _⟩ => ⟨S2048, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S12288, .f32⟩
  | .hbm, ⟨27, _⟩ => ⟨S12288, .f32⟩
  | .hbm, ⟨28, _⟩ => ⟨S1x12288, .f32⟩
  | .hbm, ⟨29, _⟩ => ⟨S7x12288, .f32⟩
  | .hbm, ⟨30, _⟩ => ⟨S16x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel7.lean ====
abbrev S8x4096x2048 : Shape := ⟨3, ![8, 4096, 2048]⟩
abbrev S8x256x2048 : Shape := ⟨3, ![8, 256, 2048]⟩
abbrev S8x4352x11776 : Shape := ⟨3, ![8, 4352, 11776]⟩
abbrev S8x4352x1024 : Shape := ⟨3, ![8, 4352, 1024]⟩
abbrev S1024x2048 : Shape := ⟨2, ![1024, 2048]⟩
abbrev S2048x2048 : Shape := ⟨2, ![2048, 2048]⟩
abbrev S8x12288 : Shape := ⟨2, ![8, 12288]⟩
abbrev S12288 : Shape := ⟨1, ![12288]⟩
abbrev S2048 : Shape := ⟨1, ![2048]⟩
abbrev S2048x32 : Shape := ⟨2, ![2048, 32]⟩
abbrev S32 : Shape := ⟨1, ![32]⟩
abbrev S8x4352x2048 : Shape := ⟨3, ![8, 4352, 2048]⟩
abbrev S8x1x6x2048 : Shape := ⟨4, ![8, 1, 6, 2048]⟩
abbrev S1x1x6x2048 : Shape := ⟨4, ![1, 1, 6, 2048]⟩
abbrev S8x2x6x2048 : Shape := ⟨4, ![8, 2, 6, 2048]⟩
abbrev S_ : Shape := ⟨0, ![]⟩
abbrev S2048x128 : Shape := ⟨2, ![2048, 128]⟩
abbrev S1 : Shape := ⟨1, ![1]⟩
abbrev S1x128 : Shape := ⟨2, ![1, 128]⟩
abbrev S2 : Shape := ⟨1, ![2]⟩
abbrev S1x2048 : Shape := ⟨2, ![1, 2048]⟩
abbrev S8x4352x128 : Shape := ⟨3, ![8, 4352, 128]⟩
abbrev S1x256x1024 : Shape := ⟨3, ![1, 256, 1024]⟩
abbrev S1x256x2048 : Shape := ⟨3, ![1, 256, 2048]⟩
abbrev S1x256x128 : Shape := ⟨3, ![1, 256, 128]⟩
abbrev S256x2048 : Shape := ⟨2, ![256, 2048]⟩
abbrev S256x1024 : Shape := ⟨2, ![256, 1024]⟩
abbrev S6x2048 : Shape := ⟨2, ![6, 2048]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S128 : Shape := ⟨1, ![128]⟩

abbrev nBuf : Space → Nat
  | .hbm => 51
  | .vmem => 34
  | .smem => 0
  | _ => 0

abbrev bufTy : (tb : Table) → Fin (tcTables nBuf tb) → BufTy
  | .hbm, ⟨0, _⟩ => ⟨S8x4096x2048, .f32⟩
  | .hbm, ⟨1, _⟩ => ⟨S8x256x2048, .f32⟩
  | .hbm, ⟨2, _⟩ => ⟨S8x4352x11776, .f32⟩
  | .hbm, ⟨3, _⟩ => ⟨S8x4352x1024, .f32⟩
  | .hbm, ⟨4, _⟩ => ⟨S8x4352x1024, .f32⟩
  | .hbm, ⟨5, _⟩ => ⟨S8x4352x1024, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S8x12288, .f32⟩
  | .hbm, ⟨11, _⟩ => ⟨S12288, .f32⟩
  | .hbm, ⟨12, _⟩ => ⟨S2048, .f32⟩
  | .hbm, ⟨13, _⟩ => ⟨S2048x32, .f32⟩
  | .hbm, ⟨14, _⟩ => ⟨S32, .f32⟩
  | .hbm, ⟨15, _⟩ => ⟨S8x4352x2048, .f32⟩
  | .hbm, ⟨16, _⟩ => ⟨S8x1x6x2048, .f32⟩
  | .hbm, ⟨17, _⟩ => ⟨S1x1x6x2048, .f32⟩
  | .hbm, ⟨18, _⟩ => ⟨S8x1x6x2048, .f32⟩
  | .hbm, ⟨19, _⟩ => ⟨S8x2x6x2048, .f32⟩
  | .hbm, ⟨20, _⟩ => ⟨S8x4352x1024, .bf16⟩
  | .hbm, ⟨21, _⟩ => ⟨S8x4352x1024, .bf16⟩
  | .hbm, ⟨22, _⟩ => ⟨S8x4352x1024, .bf16⟩
  | .hbm, ⟨23, _⟩ => ⟨S8x4352x11776, .bf16⟩
  | .hbm, ⟨24, _⟩ => ⟨S1024x2048, .bf16⟩
  | .hbm, ⟨25, _⟩ => ⟨S1024x2048, .bf16⟩
  | .hbm, ⟨26, _⟩ => ⟨S1024x2048, .bf16⟩
  | .hbm, ⟨27, _⟩ => ⟨S2048x2048, .bf16⟩
  | .hbm, ⟨28, _⟩ => ⟨S_, .f32⟩
  | .hbm, ⟨29, _⟩ => ⟨S2048x128, .f32⟩
  | .hbm, ⟨30, _⟩ => ⟨S_, .i32⟩
  | .hbm, ⟨31, _⟩ => ⟨S1, .i32⟩
  | .hbm, ⟨32, _⟩ => ⟨S2048x128, .f32⟩
  | .hbm, ⟨33, _⟩ => ⟨S_, .f32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S1x2048, .f32⟩
  | .hbm, ⟨42, _⟩ => ⟨S2048x128, .bf16⟩
  | .hbm, ⟨43, _⟩ => ⟨S2048x128, .f32⟩
  | .hbm, ⟨44, _⟩ => ⟨S2048x128, .f32⟩
  | .hbm, ⟨45, _⟩ => ⟨S2048x128, .bf16⟩
  | .hbm, ⟨46, _⟩ => ⟨S8x4352x2048, .f32⟩
  | .hbm, ⟨47, _⟩ => ⟨S8x4352x2048, .bf16⟩
  | .hbm, ⟨48, _⟩ => ⟨S8x4352x128, .i32⟩
  | .hbm, ⟨49, _⟩ => ⟨S8x4352x128, .f32⟩
  | .hbm, ⟨50, _⟩ => ⟨S1x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x2048, .bf16⟩
  | .local _ .vmem, ⟨11, _⟩ => ⟨S1x256x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1x256x2048, .f32⟩
  | .local _ .vmem, ⟨16, _⟩ => ⟨S1x256x2048, .f32⟩
  | .local _ .vmem, ⟨17, _⟩ => ⟨S2048x2048, .bf16⟩
  | .local _ .vmem, ⟨18, _⟩ => ⟨S1x1x6x2048, .f32⟩
  | .local _ .vmem, ⟨19, _⟩ => ⟨S1x1x6x2048, .f32⟩
  | .local _ .vmem, ⟨20, _⟩ => ⟨S1x2048, .f32⟩
  | .local _ .vmem, ⟨21, _⟩ => ⟨S2048x128, .bf16⟩
  | .local _ .vmem, ⟨22, _⟩ => ⟨S2048x128, .bf16⟩
  | .local _ .vmem, ⟨23, _⟩ => ⟨S1x128, .f32⟩
  | .local _ .vmem, ⟨24, _⟩ => ⟨S1x256x2048, .f32⟩
  | .local _ .vmem, ⟨25, _⟩ => ⟨S1x256x2048, .f32⟩
  | .local _ .vmem, ⟨26, _⟩ => ⟨S1x256x2048, .bf16⟩
  | .local _ .vmem, ⟨27, _⟩ => ⟨S1x256x2048, .bf16⟩
  | .local _ .vmem, ⟨28, _⟩ => ⟨S1x256x128, .i32⟩
  | .local _ .vmem, ⟨29, _⟩ => ⟨S1x256x128, .i32⟩
  | .local _ .vmem, ⟨30, _⟩ => ⟨S1x256x128, .f32⟩
  | .local _ .vmem, ⟨31, _⟩ => ⟨S1x256x128, .f32⟩
  | .local _ .vmem, ⟨32, _⟩ => ⟨S1x128, .f32⟩
  | .local _ .vmem, ⟨33, _⟩ => ⟨S1x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26_0 : Ref sig .tc := ⟨.hbm, 46, rfl⟩
abbrev main_v26_1 : Ref sig .tc := ⟨.hbm, 47, rfl⟩
abbrev main_v26_2 : Ref sig .tc := ⟨.hbm, 48, rfl⟩
abbrev main_v26_3 : Ref sig .tc := ⟨.hbm, 49, rfl⟩
abbrev main_v26_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 1 := Scalar.cmpi .sge arg1 c16_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x6x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2048x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference7Ideal.lean ====
abbrev S8x4096x2048 : Shape := ⟨3, ![8, 4096, 2048]⟩
abbrev S8x256x2048 : Shape := ⟨3, ![8, 256, 2048]⟩
abbrev S8x4352x11776 : Shape := ⟨3, ![8, 4352, 11776]⟩
abbrev S8x4352x1024 : Shape := ⟨3, ![8, 4352, 1024]⟩
abbrev S1024x2048 : Shape := ⟨2, ![1024, 2048]⟩
abbrev S2048x2048 : Shape := ⟨2, ![2048, 2048]⟩
abbrev S8x12288 : Shape := ⟨2, ![8, 12288]⟩
abbrev S12288 : Shape := ⟨1, ![12288]⟩
abbrev S2048 : Shape := ⟨1, ![2048]⟩
abbrev S2048x32 : Shape := ⟨2, ![2048, 32]⟩
abbrev S32 : Shape := ⟨1, ![32]⟩
abbrev S8x4352x2048 : Shape := ⟨3, ![8, 4352, 2048]⟩
abbrev S_ : Shape := ⟨0, ![]⟩
abbrev S8x2048 : Shape := ⟨2, ![8, 2048]⟩
abbrev S8x1x2048 : Shape := ⟨3, ![8, 1, 2048]⟩
abbrev S1x1x2048 : Shape := ⟨3, ![1, 1, 2048]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩

abbrev nBuf : Space → Nat
  | .hbm => 120
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x256x2048, .f32⟩
  | .hbm, ⟨2, _⟩ => ⟨S8x4352x11776, .f32⟩
  | .hbm, ⟨3, _⟩ => ⟨S8x4352x1024, .f32⟩
  | .hbm, ⟨4, _⟩ => ⟨S8x4352x1024, .f32⟩
  | .hbm, ⟨5, _⟩ => ⟨S8x4352x1024, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S8x12288, .f32⟩
  | .hbm, ⟨11, _⟩ => ⟨S12288, .f32⟩
  | .hbm, ⟨12, _⟩ => ⟨S2048, .f32⟩
  | .hbm, ⟨13, _⟩ => ⟨S2048x32, .f32⟩
  | .hbm, ⟨14, _⟩ => ⟨S32, .f32⟩
  | .hbm, ⟨15, _⟩ => ⟨S8x4352x2048, .f32⟩
  | .hbm, ⟨16, _⟩ => ⟨S8x4352x2048, .f32⟩
  | .hbm, ⟨17, _⟩ => ⟨S8x4352x2048, .f32⟩
  | .hbm, ⟨18, _⟩ => ⟨S8x4352x2048, .f32⟩
  | .hbm, ⟨19, _⟩ => ⟨S8x4352x2048, .f32⟩
  | .hbm, ⟨20, _⟩ => ⟨S_, .f32⟩
  | .hbm, ⟨21, _⟩ => ⟨S8x4352x2048, .f32⟩
  | .hbm, ⟨22, _⟩ => ⟨S8x4352x2048, .f32⟩
  | .hbm, ⟨23, _⟩ => ⟨S_, .f32⟩
  | .hbm, ⟨24, _⟩ => ⟨S8x4352x2048, .f32⟩
  | .hbm, ⟨25, _⟩ => ⟨S8x4352x2048, .f32⟩
  | .hbm, ⟨26, _⟩ => ⟨S8x4352x2048, .f32⟩
  | .hbm, ⟨27, _⟩ => ⟨S8x4352x2048, .f32⟩
  | .hbm, ⟨28, _⟩ => ⟨S8x4352x2048, .f32⟩
  | .hbm, ⟨29, _⟩ => ⟨S8x4352x2048, .f32⟩
  | .hbm, ⟨30, _⟩ => ⟨S_, .f32⟩
  | .hbm, ⟨31, _⟩ => ⟨S8x4352x2048, .f32⟩
  | .hbm, ⟨32, _⟩ => ⟨S8x4352x2048, .f32⟩
  | .hbm, ⟨33, _⟩ => ⟨S_, .f32⟩
  | .hbm, ⟨34, _⟩ => ⟨S8x4352x2048, .f32⟩
  | .hbm, ⟨35, _⟩ => ⟨S8x4352x2048, .f32⟩
  | .hbm, ⟨36, _⟩ => ⟨S8x4352x2048, .f32⟩
  | .hbm, ⟨37, _⟩ => ⟨S8x4352x2048, .f32⟩
  | .hbm, ⟨38, _⟩ => ⟨S8x4352x2048, .f32⟩
  | .hbm, ⟨39, _⟩ => ⟨S8x4352x2048, .f32⟩
  | .hbm, ⟨40, _⟩ => ⟨S8x4352x2048, .f32⟩
  | .hbm, ⟨41, _⟩ => ⟨S_, .f32⟩
  | .hbm, ⟨42, _⟩ => ⟨S8x4352x2048, .f32⟩
  | .hbm, ⟨43, _⟩ => ⟨S8x4352x2048, .f32⟩
  | .hbm, ⟨44, _⟩ => ⟨S_, .f32⟩
  | .hbm, ⟨45, _⟩ => ⟨S8x4352x2048, .f32⟩
  | .hbm, ⟨46, _⟩ => ⟨S8x4352x2048, .f32⟩
  | .hbm, ⟨47, _⟩ => ⟨S8x4352x2048, .f32⟩
  | .hbm, ⟨48, _⟩ => ⟨S8x4352x2048, .f32⟩
  | .hbm, ⟨49, _⟩ => ⟨S8x4352x2048, .f32⟩
  | .hbm, ⟨50, _⟩ => ⟨S8x4352x2048, .f32⟩
  | .hbm, ⟨51, _⟩ => ⟨S8x2048, .f32⟩
  | .hbm, ⟨52, _⟩ => ⟨S8x1x2048, .f32⟩
  | .hbm, ⟨53, _⟩ => ⟨S8x4096x2048, .f32⟩
  | .hbm, ⟨54, _⟩ => ⟨S8x4096x2048, .f32⟩
  | .hbm, ⟨55, _⟩ => ⟨S8x4096x2048, .f32⟩
  | .hbm, ⟨56, _⟩ => ⟨S8x4096x2048, .f32⟩
  | .hbm, ⟨57, _⟩ => ⟨S2048, .f32⟩
  | .hbm, ⟨58, _⟩ => ⟨S8x256x2048, .f32⟩
  | .hbm, ⟨59, _⟩ => ⟨S1x1x2048, .f32⟩
  | .hbm, ⟨60, _⟩ => ⟨S8x256x2048, .f32⟩
  | .hbm, ⟨61, _⟩ => ⟨S8x256x2048, .f32⟩
  | .hbm, ⟨62, _⟩ => ⟨S8x256x2048, .f32⟩
  | .hbm, ⟨63, _⟩ => ⟨S8x4096x2048, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x2048, .f32⟩
  | .hbm, ⟨75, _⟩ => ⟨S8x4096x2048, .f32⟩
  | .hbm, ⟨76, _⟩ => ⟨S1x1x2048, .f32⟩
  | .hbm, ⟨77, _⟩ => ⟨S8x4096x2048, .f32⟩
  | .hbm, ⟨78, _⟩ => ⟨S8x4096x2048, .f32⟩
  | .hbm, ⟨79, _⟩ => ⟨S8x2048, .f32⟩
  | .hbm, ⟨80, _⟩ => ⟨S8x1x2048, .f32⟩
  | .hbm, ⟨81, _⟩ => ⟨S8x2048, .f32⟩
  | .hbm, ⟨82, _⟩ => ⟨S8x1x2048, .f32⟩
  | .hbm, ⟨83, _⟩ => ⟨S_, .f32⟩
  | .hbm, ⟨84, _⟩ => ⟨S8x1x2048, .f32⟩
  | .hbm, ⟨85, _⟩ => ⟨S8x1x2048, .f32⟩
  | .hbm, ⟨86, _⟩ => ⟨S8x4096x2048, .f32⟩
  | .hbm, ⟨87, _⟩ => ⟨S8x4096x2048, .f32⟩
  | .hbm, ⟨88, _⟩ => ⟨S8x4096x2048, .f32⟩
  | .hbm, ⟨89, _⟩ => ⟨S8x4096x2048, .f32⟩
  | .hbm, ⟨90, _⟩ => ⟨S8x256x2048, .f32⟩
  | .hbm, ⟨91, _⟩ => ⟨S_, .f32⟩
  | .hbm, ⟨92, _⟩ => ⟨S8x256, .f32⟩
  | .hbm, ⟨93, _⟩ => ⟨S8x256x1, .f32⟩
  | .hbm, ⟨94, _⟩ => ⟨S_, .f32⟩
  | .hbm, ⟨95, _⟩ => ⟨S8x256x1, .f32⟩
  | .hbm, ⟨96, _⟩ => ⟨S8x256x1, .f32⟩
  | .hbm, ⟨97, _⟩ => ⟨S_, .f32⟩
  | .hbm, ⟨98, _⟩ => ⟨S8x256x1, .f32⟩
  | .hbm, ⟨99, _⟩ => ⟨S8x256x1, .f32⟩
  | .hbm, ⟨100, _⟩ => ⟨S8x256x1, .f32⟩
  | .hbm, ⟨101, _⟩ => ⟨S8x256x2048, .f32⟩
  | .hbm, ⟨102, _⟩ => ⟨S8x256x2048, .f32⟩
  | .hbm, ⟨103, _⟩ => ⟨S1x1x2048, .f32⟩
  | .hbm, ⟨104, _⟩ => ⟨S8x256x2048, .f32⟩
  | .hbm, ⟨105, _⟩ => ⟨S8x256x2048, .f32⟩
  | .hbm, ⟨106, _⟩ => ⟨S2048, .f32⟩
  | .hbm, ⟨107, _⟩ => ⟨S2048, .f32⟩
  | .hbm, ⟨108, _⟩ => ⟨S_, .f32⟩
  | .hbm, ⟨109, _⟩ => ⟨S2048, .f32⟩
  | .hbm, ⟨110, _⟩ => ⟨S2048, .f32⟩
  | .hbm, ⟨111, _⟩ => ⟨S1x1x2048, .f32⟩
  | .hbm, ⟨112, _⟩ => ⟨S8x256x2048, .f32⟩
  | .hbm, ⟨113, _⟩ => ⟨S8x256x2048, .f32⟩
  | .hbm, ⟨114, _⟩ => ⟨S1x1x2048, .f32⟩
  | .hbm, ⟨115, _⟩ => ⟨S8x256x2048, .f32⟩
  | .hbm, ⟨116, _⟩ => ⟨S8x256x2048, .f32⟩
  | .hbm, ⟨117, _⟩ => ⟨S8x4352x2048, .f32⟩
  | .hbm, ⟨118, _⟩ => ⟨S8x4352x2048, .f32⟩
  | .hbm, ⟨119, _⟩ => ⟨S8x4352x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_cst_10 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Kernel8.lean ====
abbrev S8x4352x8x128 : Shape := ⟨4, ![8, 4352, 8, 128]⟩
abbrev S8x4352x8x64 : Shape := ⟨4, ![8, 4352, 8, 64]⟩
abbrev S8x4352x64 : Shape := ⟨3, ![8, 4352, 64]⟩
abbrev S_ : Shape := ⟨0, ![]⟩
abbrev S8x4352x1x64 : Shape := ⟨4, ![8, 4352, 1, 64]⟩
abbrev S8x4352x8x256 : Shape := ⟨4, ![8, 4352, 8, 256]⟩
abbrev S8x8x4352x256 : Shape := ⟨4, ![8, 8, 4352, 256]⟩
abbrev S8x256x1024 : Shape := ⟨3, ![8, 256, 1024]⟩
abbrev S1x1x256x256 : Shape := ⟨4, ![1, 1, 256, 256]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S256x128 : Shape := ⟨2, ![256, 128]⟩

abbrev nBuf : Space → Nat
  | .hbm => 35
  | .vmem => 8
  | .smem => 0
  | _ => 0

abbrev bufTy : (tb : Table) → Fin (tcTables nBuf tb) → BufTy
  | .hbm, ⟨0, _⟩ => ⟨S8x4352x8x128, .f32⟩
  | .hbm, ⟨1, _⟩ => ⟨S8x4352x8x64, .f32⟩
  | .hbm, ⟨2, _⟩ => ⟨S8x4352x8x128, .f32⟩
  | .hbm, ⟨3, _⟩ => ⟨S8x4352x64, .f32⟩
  | .hbm, ⟨4, _⟩ => ⟨S8x4352x8x128, .f32⟩
  | .hbm, ⟨5, _⟩ => ⟨S_, .f32⟩
  | .hbm, ⟨6, _⟩ => ⟨S8x4352x8x64, .f32⟩
  | .hbm, ⟨7, _⟩ => ⟨S8x4352x1x64, .f32⟩
  | .hbm, ⟨8, _⟩ => ⟨S8x4352x8x64, .f32⟩
  | .hbm, ⟨9, _⟩ => ⟨S_, .f32⟩
  | .hbm, ⟨10, _⟩ => ⟨S8x4352x8x128, .f32⟩
  | .hbm, ⟨11, _⟩ => ⟨S8x4352x8x128, .f32⟩
  | .hbm, ⟨12, _⟩ => ⟨S_, .f32⟩
  | .hbm, ⟨13, _⟩ => ⟨S8x4352x8x64, .f32⟩
  | .hbm, ⟨14, _⟩ => ⟨S8x4352x8x64, .f32⟩
  | .hbm, ⟨15, _⟩ => ⟨S8x4352x8x256, .f32⟩
  | .hbm, ⟨16, _⟩ => ⟨S8x8x4352x256, .f32⟩
  | .hbm, ⟨17, _⟩ => ⟨S8x8x4352x256, .bf16⟩
  | .hbm, ⟨18, _⟩ => ⟨S8x4352x8x256, .f32⟩
  | .hbm, ⟨19, _⟩ => ⟨S8x8x4352x256, .f32⟩
  | .hbm, ⟨20, _⟩ => ⟨S8x8x4352x256, .bf16⟩
  | .hbm, ⟨21, _⟩ => ⟨S8x4352x8x128, .i32⟩
  | .hbm, ⟨22, _⟩ => ⟨S_, .i32⟩
  | .hbm, ⟨23, _⟩ => ⟨S8x4352x8x128, .i32⟩
  | .hbm, ⟨24, _⟩ => ⟨S8x4352x8x128, .i1⟩
  | .hbm, ⟨25, _⟩ => ⟨S_, .f32⟩
  | .hbm, ⟨26, _⟩ => ⟨S_, .f32⟩
  | .hbm, ⟨27, _⟩ => ⟨S8x4352x8x128, .f32⟩
  | .hbm, ⟨28, _⟩ => ⟨S8x4352x8x128, .f32⟩
  | .hbm, ⟨29, _⟩ => ⟨S8x4352x8x128, .f32⟩
  | .hbm, ⟨30, _⟩ => ⟨S8x4352x8x128, .f32⟩
  | .hbm, ⟨31, _⟩ => ⟨S8x4352x8x256, .f32⟩
  | .hbm, ⟨32, _⟩ => ⟨S8x8x4352x256, .f32⟩
  | .hbm, ⟨33, _⟩ => ⟨S8x8x4352x256, .bf16⟩
  | .hbm, ⟨34, _⟩ => ⟨S8x256x1024, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x256x256, .bf16⟩
  | .local _ .vmem, ⟨3, _⟩ => ⟨S1x1x256x256, .bf16⟩
  | .local _ .vmem, ⟨4, _⟩ => ⟨S1x1x256x256, .bf16⟩
  | .local _ .vmem, ⟨5, _⟩ => ⟨S1x1x256x256, .bf16⟩
  | .local _ .vmem, ⟨6, _⟩ => ⟨S1x256x128, .bf16⟩
  | .local _ .vmem, ⟨7, _⟩ => ⟨S1x256x128, .bf16⟩
  | _, _ => ⟨S8x4352x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  ![arg0.toNat, arg1.toNat, c16_i32.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  ![arg0.toNat, arg1.toNat, c16_i32.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  let c0_i32_0 : BitVec 32 := 0#32
  ![arg0.toNat, arg1.toNat, c16_i32.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8x4352x8x128 : Shape := ⟨4, ![8, 4352, 8, 128]⟩
abbrev S8x4352x8x64 : Shape := ⟨4, ![8, 4352, 8, 64]⟩
abbrev S8x4352x64 : Shape := ⟨3, ![8, 4352, 64]⟩
abbrev S8x256x8x128 : Shape := ⟨4, ![8, 256, 8, 128]⟩
abbrev S8x256x8x64 : Shape := ⟨4, ![8, 256, 8, 64]⟩
abbrev S8x256x64 : Shape := ⟨3, ![8, 256, 64]⟩
abbrev S8x8x256x256 : Shape := ⟨4, ![8, 8, 256, 256]⟩
abbrev S8x256x256x8 : Shape := ⟨4, ![8, 256, 256, 8]⟩
abbrev S_ : Shape := ⟨0, ![]⟩
abbrev S8x8x256 : Shape := ⟨3, ![8, 8, 256]⟩
abbrev S8x8x256x1 : Shape := ⟨4, ![8, 8, 256, 1]⟩
abbrev S8x8x128x256 : Shape := ⟨4, ![8, 8, 128, 256]⟩
abbrev S8x256x1024 : Shape := ⟨3, ![8, 256, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8x4352x8x128, .f32⟩
  | .hbm, ⟨1, _⟩ => ⟨S8x4352x8x64, .f32⟩
  | .hbm, ⟨2, _⟩ => ⟨S8x4352x8x128, .f32⟩
  | .hbm, ⟨3, _⟩ => ⟨S8x4352x64, .f32⟩
  | .hbm, ⟨4, _⟩ => ⟨S8x4352x8x128, .f32⟩
  | .hbm, ⟨5, _⟩ => ⟨S8x256x8x128, .f32⟩
  | .hbm, ⟨6, _⟩ => ⟨S8x256x8x64, .f32⟩
  | .hbm, ⟨7, _⟩ => ⟨S8x256x8x128, .f32⟩
  | .hbm, ⟨8, _⟩ => ⟨S8x256x64, .f32⟩
  | .hbm, ⟨9, _⟩ => ⟨S8x256x8x128, .f32⟩
  | .hbm, ⟨10, _⟩ => ⟨S8x8x256x256, .f32⟩
  | .hbm, ⟨11, _⟩ => ⟨S8x256x256x8, .f32⟩
  | .hbm, ⟨12, _⟩ => ⟨S8x8x256x256, .f32⟩
  | .hbm, ⟨13, _⟩ => ⟨S8x8x256x256, .f32⟩
  | .hbm, ⟨14, _⟩ => ⟨S_, .f32⟩
  | .hbm, ⟨15, _⟩ => ⟨S8x8x256x256, .f32⟩
  | .hbm, ⟨16, _⟩ => ⟨S8x8x256x256, .f32⟩
  | .hbm, ⟨17, _⟩ => ⟨S_, .f32⟩
  | .hbm, ⟨18, _⟩ => ⟨S8x8x256, .f32⟩
  | .hbm, ⟨19, _⟩ => ⟨S_, .f32⟩
  | .hbm, ⟨20, _⟩ => ⟨S8x8x256, .f32⟩
  | .hbm, ⟨21, _⟩ => ⟨S8x8x256, .f32⟩
  | .hbm, ⟨22, _⟩ => ⟨S8x8x256x1, .f32⟩
  | .hbm, ⟨23, _⟩ => ⟨S8x8x256x256, .f32⟩
  | .hbm, ⟨24, _⟩ => ⟨S8x8x256x256, .f32⟩
  | .hbm, ⟨25, _⟩ => ⟨S8x8x256x256, .f32⟩
  | .hbm, ⟨26, _⟩ => ⟨S_, .f32⟩
  | .hbm, ⟨27, _⟩ => ⟨S8x8x256, .f32⟩
  | .hbm, ⟨28, _⟩ => ⟨S8x8x256x1, .f32⟩
  | .hbm, ⟨29, _⟩ => ⟨S8x8x256x256, .f32⟩
  | .hbm, ⟨30, _⟩ => ⟨S8x8x256x256, .f32⟩
  | .hbm, ⟨31, _⟩ => ⟨S8x8x128x256, .f32⟩
  | .hbm, ⟨32, _⟩ => ⟨S8x256x8x128, .f32⟩
  | .hbm, ⟨33, _⟩ => ⟨S8x256x1024, .f32⟩
  | .hbm, ⟨34, _⟩ => ⟨S8x256x1024, .bf16⟩
  | _, _ => ⟨S8x4352x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.Softmax.lean ====
/- The arithmetic of a softmax-weighted sum over the extended reals: real scores, arbitrary values.
   Weights are real exponentials, so they distribute over any sum of extended reals; a shift of the scores cancels
   between the weights and their total. -/
module

public import Idealize.ShloMosaic.Lib.Pipeline.ValueKit
public import Mathlib.Data.EReal.Operations
public import Mathlib.Analysis.SpecialFunctions.Exp

@[expose] public section

noncomputable section
open Idealize.ShloMosaic
open scoped BigOperators
namespace Cert.Softmax

/-- A nonnegative real factor distributes over a finite sum of extended reals. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm,
      EReal.left_distrib_of_nonneg_of_ne_top (by exact_mod_cast hr) (EReal.coe_ne_top r), mul_comm, mul_comm (r : EReal)]

/-- A sum of reals, embedded. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of finitely many reals, at least one, is a real. -/
theorem fold_max_real {n : ℕ} (f : Fin (n + 1) → ℝ) :
    ∃ r : ℝ, (Finset.univ.fold max (⊥ : EReal) fun k => ((f k : ℝ) : EReal)) = (r : EReal) := by
  refine ⟨((Finset.univ.fold max (⊥ : EReal) fun k => ((f k : ℝ) : EReal))).toReal, (EReal.coe_toReal ?_ ?_).symm⟩
  · refine ne_of_lt ((Finset.fold_max_lt _).2 ⟨by simp, fun x _ => EReal.coe_lt_top _⟩)
  · refine ne_of_gt ((Finset.lt_fold_max _).2 (Or.inr ⟨0, Finset.mem_univ _, EReal.bot_lt_coe _⟩))

/-- The exponential of a difference of reals. -/
theorem exp_sub_coe (a b : ℝ) : Ideal.exp ((a : EReal) - (b : EReal)) = ((Real.exp (a - b) : ℝ) : EReal) := by
  rw [← EReal.coe_sub]; rfl

/-- The maximum of two reals, embedded. -/
theorem max_coe (a b : ℝ) : max (a : EReal) (b : EReal) = ((max a b : ℝ) : EReal) :=
  (EReal.coe_strictMono.monotone.map_max (a := a) (b := b)).symm

/-- The pattern of minus infinity is the least extended real. -/
theorem ofBits_neg_inf : Ideal.ofBits .f32 0xFF800000#32 = ⊥ := by
  simp [Ideal.ofBits, Ideal.ieee]

/-- The score scale's pattern is some real number. -/
theorem ofBits_scale : ∃ r : ℝ, Ideal.ofBits .f32 0x3D93CD3A#32 = (r : EReal) := by
  refine ⟨_, (EReal.coe_toReal ?_ ?_).symm⟩ <;> simp [Ideal.ofBits, Ideal.ieee, -EReal.coe_mul]

/-- The pattern of plus infinity is the greatest extended real. -/
theorem ofBits_inf : Ideal.ofBits .f32 0x7F800000#32 = ⊤ := by
  simp [Ideal.ofBits, Ideal.ieee]

/-- An extended real whose absolute value is below infinity is a real. -/
theorem real_of_abs_lt {x : EReal} (h : max x (-x) < ⊤) : ((x.toReal : ℝ) : EReal) = x := by
  refine EReal.coe_toReal ?_ ?_
  · rintro rfl; simp at h
  · rintro rfl; simp at h

/-- ONE STEP of the running sum: the first `n` terms taken at shift `μ`, rescaled to the shift `μ'`, and the next `T`
    terms taken at `μ'`, are the first `n + T` terms at `μ'`. -/
theorem step (σ : ℕ → ℝ) (v : ℕ → EReal) (n T : ℕ) (μ μ' : ℝ) :
    (∑ j ∈ Finset.range n, ((Real.exp (σ j - μ) : ℝ) : EReal) * v j) * ((Real.exp (μ - μ') : ℝ) : EReal)
      + ∑ k : Fin T, ((Real.exp (σ (n + k) - μ') : ℝ) : EReal) * v (n + k)
    = ∑ j ∈ Finset.range (n + T), ((Real.exp (σ j - μ') : ℝ) : EReal) * v j := by
  rw [sum_mul_real _ _ _ (Real.exp_pos _).le, Finset.sum_range_add,
    ← Fin.sum_univ_eq_sum_range (fun k => ((Real.exp (σ (n + k) - μ') : ℝ) : EReal) * v (n + k)) T]
  refine congrArg₂ (· + ·) (Finset.sum_congr rfl fun j _ => ?_) rfl
  rw [mul_right_comm, ← EReal.coe_mul, ← Real.exp_add]
  congr 3; ring

/-- The softmax of real scores `σ` applied to values `v`, over any finite index. -/
def attend {ι : Type} [Fintype ι] (σ : ι → ℝ) (v : ι → EReal) : EReal :=
  ∑ j, ((Real.exp (σ j) / ∑ i, Real.exp (σ i) : ℝ) : EReal) * v j

theorem sum_exp_pos {ι : Type} [Fintype ι] [Nonempty ι] (σ : ι → ℝ) : 0 < ∑ i, Real.exp (σ i) :=
  Finset.sum_pos (fun i _ => Real.exp_pos _) Finset.univ_nonempty

theorem weight_shift {ι : Type} [Fintype ι] (σ : ι → ℝ) (μ : ℝ) (j : ι) :
    Real.exp (σ j - μ) / ∑ i, Real.exp (σ i - μ) = Real.exp (σ j) / ∑ i, Real.exp (σ i) := by
  have h : ∀ i, Real.exp (σ i - μ) = Real.exp (σ i) * Real.exp (-μ) := fun i => by rw [← Real.exp_add]; ring_nf
  simp only [h]
  rw [← Finset.sum_mul, mul_div_mul_right _ _ (Real.exp_pos _).ne']

/-- The quotient by a nonzero real. -/
theorem div_real (x : EReal) {r : ℝ} (hr : r ≠ 0) : Ideal.div x (r : EReal) = x * ((r⁻¹ : ℝ) : EReal) := by
  unfold Ideal.div
  rw [if_neg (by exact_mod_cast hr), EReal.coe_inv]

/-- DIVIDED LAST: the weighted sum at a shift over the sum of the weights is the softmax applied to the values. -/
theorem attend_of_quotient {ι : Type} [Fintype ι] [Nonempty ι] (σ : ι → ℝ) (v : ι → EReal) (μ : ℝ) :
    Ideal.div (∑ j, ((Real.exp (σ j - μ) : ℝ) : EReal) * v j) (∑ j, ((Real.exp (σ j - μ) : ℝ) : EReal) * 1)
      = attend σ v := by
  simp only [mul_one]
  have hp : 0 < ∑ i, Real.exp (σ i - μ) := sum_exp_pos fun i => σ i - μ
  rw [sum_coe, div_real _ hp.ne', sum_mul_real _ _ _ (inv_nonneg.2 hp.le), attend]
  refine Finset.sum_congr rfl fun j _ => ?_
  rw [← weight_shift σ μ j, mul_right_comm, ← EReal.coe_mul, ← div_eq_mul_inv]

/-- DIVIDED FIRST: each weight over the total, then the weighted sum, is the softmax applied to the values. -/
theorem attend_of_weights {ι : Type} [Fintype ι] [Nonempty ι] (σ : ι → ℝ) (v : ι → EReal) (μ : ℝ) :
    (∑ j, v j * Ideal.div ((Real.exp (σ j - μ) : ℝ) : EReal) (0 + ∑ i, ((Real.exp (σ i - μ) : ℝ) : EReal)))
      = attend σ v := by
  have hp : 0 < ∑ i, Real.exp (σ i - μ) := sum_exp_pos fun i => σ i - μ
  rw [zero_add, sum_coe]
  refine Finset.sum_congr rfl fun j _ => ?_
  rw [div_real _ hp.ne', ← EReal.coe_mul, ← div_eq_mul_inv, weight_shift, mul_comm]

/-- The order in which the scores and the values are listed does not matter. -/
theorem attend_equiv {ι κ : Type} [Fintype ι] [Fintype κ] (e : ι ≃ κ) (σ : κ → ℝ) (v : κ → EReal) :
    attend (fun i => σ (e i)) (fun i => v (e i)) = attend σ v := by
  unfold attend
  rw [Equiv.sum_comp e fun i => Real.exp (σ i)]
  exact Equiv.sum_comp e fun j => ((Real.exp (σ j) / ∑ i, Real.exp (σ i) : ℝ) : EReal) * v j

end Cert.Softmax
end

end
-- ==== Proof.Scores.lean ====
/- The scaled attention score of one token against another, as a real number. -/
module

public import Idealize.ShloMosaic.Lib.Pipeline.ValueKit
public import proofs.«01_k».proof.Proof.Softmax

@[expose] public section

noncomputable section
open Idealize.ShloMosaic
open scoped BigOperators
namespace Cert.Softmax

abbrev T4 : Shape := ⟨4, ![8, 4352, 8, 128]⟩
abbrev T4r : Shape := ⟨4, ![8, 4352, 8, 64]⟩
abbrev T3r : Shape := ⟨3, ![8, 4352, 64]⟩

/-- The score scale as a real number. -/
def scale : ℝ := (Ideal.ofBits .f32 0x3D93CD3A#32).toReal

theorem scale_eq : Ideal.ofBits .f32 0x3D93CD3A#32 = (scale : EReal) := by
  obtain ⟨r, hr⟩ := ofBits_scale
  rw [scale, hr, EReal.toReal_coe]

/-- The scaled score of query token `t` against key token `s` under head `h` of batch entry `b`: the product of the
    per-head parts plus the product of the rotary parts, times the scale. -/
def score (qn : FVec Ideal T4 .f32) (qr : FVec Ideal T4r .f32) (kn : FVec Ideal T4 .f32) (kr : FVec Ideal T3r .f32)
    (b h : Fin 8) (t s : Fin 4352) : ℝ :=
  (∑ d : Fin 128, (qn (ix4 b t h d)).toReal * (kn (ix4 b s h d)).toReal
    + ∑ d : Fin 64, (qr (ix4 b t h d)).toReal * (kr (ix3 b s d)).toReal) * scale

end Cert.Softmax
end

end
-- ==== Proof.Operands.lean ====
/- What the host hands the attention call: its queries, keys and values, read at coordinates, and the scores they give. -/
module

public import proofs.«01_k».proof.Proof.Gen.KernelIdeal.Value
public import Idealize.ShloMosaic.Lib.Pipeline.ValueKit
public import proofs.«01_k».proof.Proof.Softmax
public import proofs.«01_k».proof.Proof.Scores

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen
variable (m : (ℓ : Loc nD τ sig) → Buf (Elt Ideal) ℓ)
/-- The windows' block indices at every point: batch, head and query tile. -/
theorem idx : ∀ t : Fin cfg0.N, win0_0.index t = ![t.val / 32, t.val / 4 % 8, t.val % 4, 0] ∧ win0_1.index t = ![t.val / 32, t.val / 4 % 8, 0, 0] ∧ win0_2.index t = ![t.val / 32, t.val / 4 % 8, 0, 0] ∧ win0_3.index t = ![t.val / 32, t.val % 4, t.val / 4 % 8] ∧ t.val < 256 :=
  (by decide +kernel : ∀ t : Fin grid0.N, _)

/-- Equal pieces, equal concatenations. -/
theorem cat3_congr {α : Type} (t : Shape) (d : Fin t.rank) (s₁ s₂ s₃ : Shape) {a a' : s₁.Idx → α} {b b' : s₂.Idx → α} {e e' : s₃.Idx → α}
    (h : Shape.Concatenates [s₁, s₂, s₃] t d) (ha : a = a') (hb : b = b') (he : e = e') :
    concatenate t d [⟨s₁, a⟩, ⟨s₂, b⟩, ⟨s₃, e⟩] h = concatenate t d [⟨s₁, a'⟩, ⟨s₂, b'⟩, ⟨s₃, e'⟩] h := by
  subst ha hb he; rfl

/-- The queries as the host lays them out for the kernel. -/
def QARR (qn : FVec Ideal S8x4352x8x128 .f32) (qr : FVec Ideal S8x4352x8x64 .f32) : FVec Ideal S8x8x4352x256 .bf16 :=
  truncf .bf16 (transpose S8x8x4352x256 [0, 2, 1, 3] (concatenate S8x4352x8x256 3
    [⟨S8x4352x8x128, mulf qn (broadcastInDim S8x4352x8x128 ![] bcast_S_S8x4352x8x128 (constant S_ .f32 0x3D93CD3A#32))⟩,
     ⟨S8x4352x8x64, mulf qr (broadcastInDim S8x4352x8x64 ![] bcast_S_S8x4352x8x64 (constant S_ .f32 0x3D93CD3A#32))⟩,
     ⟨S8x4352x8x64, broadcastInDim S8x4352x8x64 ![] bcast_S_S8x4352x8x64 (constant S_ .f32 0x00000000#32)⟩]
    concatenates_S8x4352x8x128_S8x4352x8x64_S8x4352x8x64_S8x4352x8x256_d3) transposes_S8x4352x8x256_S8x8x4352x256_0_2_1_3) bitsLt_bf16_f32

/-- The keys as the host lays them out: the rotary part the same for every head. -/
def KARR (kn : FVec Ideal S8x4352x8x128 .f32) (kr : FVec Ideal S8x4352x64 .f32) : FVec Ideal S8x8x4352x256 .bf16 :=
  truncf .bf16 (transpose S8x8x4352x256 [0, 2, 1, 3] (concatenate S8x4352x8x256 3
    [⟨S8x4352x8x128, kn⟩,
     ⟨S8x4352x8x64, broadcastInDim S8x4352x8x64 ![0, 1, 2, 3] bcast_S8x4352x1x64_S8x4352x8x64_0_1_2_3
        (broadcastInDim S8x4352x1x64 ![0, 1, 3] bcast_S8x4352x64_S8x4352x1x64_0_1_3 kr)⟩,
     ⟨S8x4352x8x64, broadcastInDim S8x4352x8x64 ![] bcast_S_S8x4352x8x64 (constant S_ .f32 0x00000000#32)⟩]
    concatenates_S8x4352x8x128_S8x4352x8x64_S8x4352x8x64_S8x4352x8x256_d3) transposes_S8x4352x8x256_S8x8x4352x256_0_2_1_3) bitsLt_bf16_f32

/-- The values as the host lays them out: a lane of ones beside them. -/
def VARR (v : FVec Ideal S8x4352x8x128 .f32) : FVec Ideal S8x8x4352x256 .bf16 :=
  truncf .bf16 (transpose S8x8x4352x256 [0, 2, 1, 3] (concatenate S8x4352x8x256 3
    [⟨S8x4352x8x128, v⟩,
     ⟨S8x4352x8x128, select (cmpi .eq (iotaInDim S8x4352x8x128 32 3)
        (broadcastInDim S8x4352x8x128 ![] bcast_S_S8x4352x8x128 (constantI S_ 32 0#32)))
        (broadcastInDim S8x4352x8x128 ![] bcast_S_S8x4352x8x128 (constant S_ .f32 0x3F800000#32))
        (broadcastInDim S8x4352x8x128 ![] bcast_S_S8x4352x8x128 (constant S_ .f32 0x00000000#32))⟩]
    concatenates_S8x4352x8x128_S8x4352x8x128_S8x4352x8x256_d3) transposes_S8x4352x8x256_S8x8x4352x256_0_2_1_3) bitsLt_bf16_f32

set_option maxHeartbeats 1600000 in
/-- The kernel's queries operand when the call starts. -/
theorem entq (c : Dev nD) : V m c main_v9 = QARR (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_results
  unfold QARR
  refine congrArg (fun x => truncf (F := Ideal) (φ := .f32) .bf16 (transpose S8x8x4352x256 [0, 2, 1, 3] x transposes_S8x4352x8x256_S8x8x4352x256_0_2_1_3) bitsLt_bf16_f32) (cat3_congr _ _ _ _ _ _ ?_ ?_ ?_)
  · show HloOp.result _ _ (Proc.tc.devRef main_v4) = _
    after_results
  · show HloOp.result _ _ (Proc.tc.devRef main_v6) = _
    after_results
  · show HloOp.result _ _ (Proc.tc.devRef main_v0) = _
    after_results
set_option maxHeartbeats 1600000 in
/-- The kernel's keys operand when the call starts. -/
theorem entk (c : Dev nD) : V m c main_v12 = KARR (m ((c : Thread nD τ).loc main_arg2)) (m ((c : Thread nD τ).loc main_arg3)) := by
  unfold V
  simp only [hostOps0, hostOps0_1, hostOps0_2, List.flatten_cons, List.flatten_nil, List.append_nil, List.cons_append, List.nil_append]
  after_results
  unfold KARR
  refine congrArg (fun x => truncf (F := Ideal) (φ := .f32) .bf16 (transpose S8x8x4352x256 [0, 2, 1, 3] x transposes_S8x4352x8x256_S8x8x4352x256_0_2_1_3) bitsLt_bf16_f32) (cat3_congr _ _ _ _ _ _ ?_ ?_ ?_)
  · show HloOp.result _ _ (Proc.tc.devRef main_arg2) = _
    rfl
  · show HloOp.result _ _ (Proc.tc.devRef main_v2) = _
    after_results
  · show HloOp.result _ _ (Proc.tc.devRef main_v0) = _
    after_results
set_option maxHeartbeats 1600000 in
/-- The kernel's values operand when the call starts. -/
theorem entv (c : Dev nD) : V m c main_v20 = VARR (m ((c : Thread nD τ).loc main_arg4)) := by
  unfold V
  simp only [hostOps0, hostOps0_1, hostOps0_2, List.flatten_cons, List.flatten_nil, List.append_nil, List.cons_append, List.nil_append]
  after_results
  rfl

section
variable (qn kn : FVec Ideal S8x4352x8x128 .f32) (qr : FVec Ideal S8x4352x8x64 .f32) (kr : FVec Ideal S8x4352x64 .f32)
/-- The kernel's score of token `t` against token `s`: the 256-lane product is the scaled score, if the two tokens'
    queries and keys are finite. -/
theorem score_kernel_at (b : Fin 8) (h : Fin 8) (t s : Fin 4352)
    (hq : ∀ d, ((qn (ix4 b t h d)).toReal : EReal) = qn (ix4 b t h d)) (hr : ∀ d, ((qr (ix4 b t h d)).toReal : EReal) = qr (ix4 b t h d))
    (hk : ∀ d, ((kn (ix4 b s h d)).toReal : EReal) = kn (ix4 b s h d)) (hkr : ∀ d, ((kr (ix3 b s d)).toReal : EReal) = kr (ix3 b s d)) :
    ∑ d : Fin 256, QARR qn qr (ix4 b h t d) * KARR kn kr (ix4 b h s d)
      = (Cert.Softmax.score qn qr kn kr b h t s : EReal) := by
  have hl : ∑ d : Fin 256, QARR qn qr (ix4 b h t d) * KARR kn kr (ix4 b h s d)
      = ∑ d : Fin 128, (qn (ix4 b t h d) * Ideal.ofBits .f32 0x3D93CD3A#32) * kn (ix4 b s h d)
        + (∑ d : Fin 64, (qr (ix4 b t h d) * Ideal.ofBits .f32 0x3D93CD3A#32) * kr (ix3 b s d) + ∑ d : Fin 64, (0 : EReal) * 0) := by
    rw [Fin.sum_univ_two_halves 128 128 rfl]
    refine congrArg₂ (· + ·) (Finset.sum_congr rfl fun d _ => ?_) ?_
    · pointwise [QARR, KARR]
    · rw [Fin.sum_univ_two_halves 64 64 rfl]
      refine congrArg₂ (· + ·) (Finset.sum_congr rfl fun d _ => ?_) (Finset.sum_congr rfl fun d _ => ?_)
      · pointwise [QARR, KARR]
      · pointwise [QARR, KARR]
  rw [hl, Cert.Softmax.scale_eq]
  simp only [mul_zero, Finset.sum_const_zero, add_zero]
  have e1 : ∀ d : Fin 128, (qn (ix4 b t h d) * (Cert.Softmax.scale : EReal)) * kn (ix4 b s h d)
      = (((qn (ix4 b t h d)).toReal * (kn (ix4 b s h d)).toReal * Cert.Softmax.scale : ℝ) : EReal) := fun d => by
    rw [EReal.coe_mul, EReal.coe_mul, hq, hk, mul_right_comm]
  have e2 : ∀ d : Fin 64, (qr (ix4 b t h d) * (Cert.Softmax.scale : EReal)) * kr (ix3 b s d)
      = (((qr (ix4 b t h d)).toReal * (kr (ix3 b s d)).toReal * Cert.Softmax.scale : ℝ) : EReal) := fun d => by
    rw [EReal.coe_mul, EReal.coe_mul, hr, hkr, mul_right_comm]
  simp only [e1, e2]
  rw [Cert.Softmax.sum_coe, Cert.Softmax.sum_coe, ← EReal.coe_add, ← Finset.sum_mul, ← Finset.sum_mul, ← add_mul]
  rfl
/-- `score_kernel_at` of finite arrays. -/
theorem score_kernel (hq : ∀ i, ((qn i).toReal : EReal) = qn i) (hr : ∀ i, ((qr i).toReal : EReal) = qr i)
    (hk : ∀ i, ((kn i).toReal : EReal) = kn i) (hkr : ∀ i, ((kr i).toReal : EReal) = kr i)
    (b : Fin 8) (h : Fin 8) (t s : Fin 4352) :
    ∑ d : Fin 256, QARR qn qr (ix4 b h t d) * KARR kn kr (ix4 b h s d)
      = (Cert.Softmax.score qn qr kn kr b h t s : EReal) :=
  score_kernel_at qn kn qr kr b h t s (fun _ => hq _) (fun _ => hr _) (fun _ => hk _) fun _ => hkr _
/-- The values' lanes. -/
theorem value_kernel (v : FVec Ideal S8x4352x8x128 .f32) (b : Fin 8) (h : Fin 8) (s : Fin 4352) (l : Fin 128) :
    VARR v (ix4 b h s ⟨l, by omega⟩) = v (ix4 b s h l) := by
  pointwise [VARR]
/-- The lane of ones. -/
theorem ones_kernel (v : FVec Ideal S8x4352x8x128 .f32) (b : Fin 8) (h : Fin 8) (s : Fin 4352) :
    VARR v (ix4 b h s 128) = 1 := by
  pointwise [VARR]
end
end Cert.KernelIdeal.Value
end

end
-- ==== Proof.Online.lean ====
/- The kernel body's running softmax, row by row: after each chunk of keys the row holds a real shift (its running
   maximum) and, per lane, the sum of the values seen so far weighted by the exponentials at that shift. -/
module

public import proofs.«01_k».proof.Proof.Gen.KernelIdeal.Skeleton
public import proofs.«01_k».proof.Proof.Softmax

@[expose] public section

set_option maxRecDepth 16384
noncomputable section
open Idealize.ShloMosaic Idealize.ShloMosaic.TcCoe Idealize.SL.Sem
open scoped BigOperators
namespace Cert.KernelIdeal.Online
open Cert.KernelIdeal Cert.KernelIdeal.Gen

/-- Row `r` after the first `n` keys of real scores `σ` and values `v`: a real shift, and every lane's weighted sum. -/
def Row (σ : ℕ → ℝ) (v : ℕ → Fin 256 → EReal) (r : Fin 1024) (n : ℕ) (M : FVec Ideal S1024x1 .f32)
    (A : FVec Ideal S1024x256 .f32) : Prop :=
  ∃ μ : ℝ, M (ix2 r 0) = (μ : EReal) ∧
    ∀ l : Fin 256, A (ix2 r l) = ∑ j ∈ Finset.range n, ((Real.exp (σ j - μ) : ℝ) : EReal) * v j l

/-- The accumulator after one more chunk of 512 keys `k` and values `w`, from the maximum `M` and accumulator `A` before it. -/
def stepA (q : FVec Ideal S1024x256 .bf16) (M : FVec Ideal S1024x1 .f32) (A : FVec Ideal S1024x256 .f32)
    (k w : Vec Ideal S1x1x512x256 .bf16) : FVec Ideal S1024x256 .f32 :=
  addf (mulf A (broadcastTo S1024x256 (exp (subf M (k0_pay10 q M k))) broadcasts_S1024x1_S1024x256))
    (matmul dot_S1024x512_S512x256_S1024x256_1_0_0_1_n_n none
      (exp (truncf .bf16 (subf (k0_pay9 q k) (broadcastTo S1024x512 (k0_pay10 q M k) broadcasts_S1024x1_S1024x512)) bitsLt_bf16_f32))
      (shapeCast S512x256 w shapeCasts_S1x1x512x256_S512x256 : FVec Ideal S512x256 .bf16) (constant S1024x256 .f32 0x00000000#32))

/-- The first chunk's accumulator: nothing to rescale. -/
def firstA (q : Vec Ideal S1x1x1024x256 .bf16) (k w : Vec Ideal S1x1x512x256 .bf16) : FVec Ideal S1024x256 .f32 :=
  matmul dot_S1024x512_S512x256_S1024x256_1_0_0_1_n_n none
      (exp (truncf .bf16 (subf (k0_pay3 q k) (broadcastTo S1024x512 (k0_pay4 q k) broadcasts_S1024x1_S1024x512)) bitsLt_bf16_f32))
      (shapeCast S512x256 w shapeCasts_S1x1x512x256_S512x256 : FVec Ideal S512x256 .bf16) (constant S1024x256 .f32 0x00000000#32)

section
variable (σ : ℕ → ℝ) (v : ℕ → Fin 256 → EReal) (r : Fin 1024)

theorem row_first (q : Vec Ideal S1x1x1024x256 .bf16) (k w : Vec Ideal S1x1x512x256 .bf16)
    (hk : ∀ j : Fin 512, ∑ d : Fin 256, q (ix4 0 0 r d) * k (ix4 0 0 j d) = (σ j : EReal))
    (hw : ∀ (j : Fin 512) (l : Fin 256), w (ix4 0 0 j l) = v j l) :
    Row σ v r 512 (k0_pay4 q k) (firstA q k w) := by
  have hs : ∀ j : Fin 512, k0_pay3 q k (ix2 r j) = (σ j : EReal) := fun j => by
    pointwise [k0_pay3, k0_pay2]
    rw [hk j]
  obtain ⟨μ, hμ⟩ := Cert.Softmax.fold_max_real (n := 511) fun j => σ j
  have hM : k0_pay4 q k (ix2 r 0) = (μ : EReal) := by
    pointwise [k0_pay4]
    simp only [hs, Cert.Softmax.ofBits_neg_inf]
    exact hμ
  refine ⟨μ, hM, fun l => ?_⟩
  have := Cert.Softmax.step σ (fun j => v j l) 0 512 μ μ
  simp only [Finset.range_zero, Finset.sum_empty, zero_mul, zero_add] at this
  rw [← this]
  pointwise [firstA]
  simp only [hs, hM, hw, Cert.Softmax.exp_sub_coe, zero_add]

theorem row_step (n : ℕ) (q : FVec Ideal S1024x256 .bf16) (M : FVec Ideal S1024x1 .f32) (A : FVec Ideal S1024x256 .f32)
    (k w : Vec Ideal S1x1x512x256 .bf16) (h : Row σ v r n M A)
    (hk : ∀ j : Fin 512, ∑ d : Fin 256, q (ix2 r d) * k (ix4 0 0 j d) = (σ (n + j) : EReal))
    (hw : ∀ (j : Fin 512) (l : Fin 256), w (ix4 0 0 j l) = v (n + j) l) :
    Row σ v r (n + 512) (k0_pay10 q M k) (stepA q M A k w) := by
  obtain ⟨μ, hμ, hA⟩ := h
  have hs : ∀ j : Fin 512, k0_pay9 q k (ix2 r j) = (σ (n + j) : EReal) := fun j => by
    pointwise [k0_pay9]
    rw [hk j]
  obtain ⟨ρ, hρ⟩ := Cert.Softmax.fold_max_real (n := 511) fun j => σ (n + j)
  have hM : k0_pay10 q M k (ix2 r 0) = ((max μ ρ : ℝ) : EReal) := by
    rw [← Cert.Softmax.max_coe, ← hρ, ← hμ]
    pointwise [k0_pay10]
    simp only [hs, Cert.Softmax.ofBits_neg_inf]
  refine ⟨max μ ρ, hM, fun l => ?_⟩
  rw [← Cert.Softmax.step σ (fun j => v j l) n 512 μ (max μ ρ)]
  pointwise [stepA]
  simp only [hs, hM, hw, hμ, hA, Cert.Softmax.exp_sub_coe, zero_add]

end
end Cert.KernelIdeal.Online
end

end
-- ==== Proof.Body.lean ====
/- The kernel body's result at one row and lane: the softmax of the row's 4352 scores applied to that lane of the values. -/
module

public import proofs.«01_k».proof.Proof.Online

@[expose] public section

set_option maxRecDepth 16384
noncomputable section
open Idealize.ShloMosaic Idealize.ShloMosaic.TcCoe Idealize.SL.Sem
open scoped BigOperators
namespace Cert.KernelIdeal.Online
open Cert.KernelIdeal Cert.KernelIdeal.Gen

section
variable (σ : ℕ → ℝ) (v : ℕ → Fin 256 → EReal) (r : Fin 1024)

/-- The last chunk, of 256 keys, and the quotient by the lane that summed the weights themselves (lane 128, whose values
    are all one): the softmax over all keys. -/
theorem row_last (q : FVec Ideal S1024x256 .bf16) (M : FVec Ideal S1024x1 .f32) (A : FVec Ideal S1024x256 .f32)
    (k w : Vec Ideal S1x1x256x256 .bf16) (h : Row σ v r 4096 M A)
    (hk : ∀ j : Fin 256, ∑ d : Fin 256, q (ix2 r d) * k (ix4 0 0 j d) = (σ (4096 + j) : EReal))
    (hw : ∀ (j : Fin 256) (l : Fin 256), w (ix4 0 0 j l) = v (4096 + j) l)
    (hone : ∀ j : Fin 4352, v j 128 = 1) (l : Fin 128) :
    k0_pay1 q M A k w (ix3 0 r l)
      = Cert.Softmax.attend (fun j : Fin 4352 => σ j) (fun j : Fin 4352 => v j ⟨l, by omega⟩) := by
  obtain ⟨μ, hμ, hA⟩ := h
  obtain ⟨ρ, hρ⟩ := Cert.Softmax.fold_max_real (n := 255) fun j => σ (4096 + j)
  have e (l : Fin 256) := Cert.Softmax.step σ (fun j => v j l) 4096 256 μ (max μ ρ)
  have e' (l : Fin 256) := (e l).trans (Fin.sum_univ_eq_sum_range
    (fun j => ((Real.exp (σ j - max μ ρ) : ℝ) : EReal) * v j l) 4352).symm
  rw [← Cert.Softmax.attend_of_quotient _ _ (max μ ρ)]
  refine Eq.trans ?_ (congrArg₂ Ideal.div (e' ⟨l, by omega⟩) ((e' 128).trans
    (Finset.sum_congr rfl fun j _ => congrArg _ (hone j))))
  pointwise [k0_pay1]
  simp only [hk, hw, hμ, hA, hρ, Cert.Softmax.ofBits_neg_inf, Cert.Softmax.max_coe, Cert.Softmax.exp_sub_coe, zero_add]

/-- The whole body: nine chunks of keys `k₀ … k₈` and values `w₀ … w₈`. -/
theorem chain (q : Vec Ideal S1x1x1024x256 .bf16) (k₀ k₁ k₂ k₃ k₄ k₅ k₆ k₇ w₀ w₁ w₂ w₃ w₄ w₅ w₆ w₇ : Vec Ideal S1x1x512x256 .bf16)
    (k₈ w₈ : Vec Ideal S1x1x256x256 .bf16)
    (hk₀ : ∀ j : Fin 512, ∑ d : Fin 256, q (ix4 0 0 r d) * k₀ (ix4 0 0 j d) = (σ j : EReal))
    (hk₁ : ∀ j : Fin 512, ∑ d : Fin 256, q (ix4 0 0 r d) * k₁ (ix4 0 0 j d) = (σ (512 + j) : EReal))
    (hk₂ : ∀ j : Fin 512, ∑ d : Fin 256, q (ix4 0 0 r d) * k₂ (ix4 0 0 j d) = (σ (1024 + j) : EReal))
    (hk₃ : ∀ j : Fin 512, ∑ d : Fin 256, q (ix4 0 0 r d) * k₃ (ix4 0 0 j d) = (σ (1536 + j) : EReal))
    (hk₄ : ∀ j : Fin 512, ∑ d : Fin 256, q (ix4 0 0 r d) * k₄ (ix4 0 0 j d) = (σ (2048 + j) : EReal))
    (hk₅ : ∀ j : Fin 512, ∑ d : Fin 256, q (ix4 0 0 r d) * k₅ (ix4 0 0 j d) = (σ (2560 + j) : EReal))
    (hk₆ : ∀ j : Fin 512, ∑ d : Fin 256, q (ix4 0 0 r d) * k₆ (ix4 0 0 j d) = (σ (3072 + j) : EReal))
    (hk₇ : ∀ j : Fin 512, ∑ d : Fin 256, q (ix4 0 0 r d) * k₇ (ix4 0 0 j d) = (σ (3584 + j) : EReal))
    (hk₈ : ∀ j : Fin 256, ∑ d : Fin 256, q (ix4 0 0 r d) * k₈ (ix4 0 0 j d) = (σ (4096 + j) : EReal))
    (hw₀ : ∀ (j : Fin 512) (l : Fin 256), w₀ (ix4 0 0 j l) = v j l)
    (hw₁ : ∀ (j : Fin 512) (l : Fin 256), w₁ (ix4 0 0 j l) = v (512 + j) l)
    (hw₂ : ∀ (j : Fin 512) (l : Fin 256), w₂ (ix4 0 0 j l) = v (1024 + j) l)
    (hw₃ : ∀ (j : Fin 512) (l : Fin 256), w₃ (ix4 0 0 j l) = v (1536 + j) l)
    (hw₄ : ∀ (j : Fin 512) (l : Fin 256), w₄ (ix4 0 0 j l) = v (2048 + j) l)
    (hw₅ : ∀ (j : Fin 512) (l : Fin 256), w₅ (ix4 0 0 j l) = v (2560 + j) l)
    (hw₆ : ∀ (j : Fin 512) (l : Fin 256), w₆ (ix4 0 0 j l) = v (3072 + j) l)
    (hw₇ : ∀ (j : Fin 512) (l : Fin 256), w₇ (ix4 0 0 j l) = v (3584 + j) l)
    (hw₈ : ∀ (j : Fin 256) (l : Fin 256), w₈ (ix4 0 0 j l) = v (4096 + j) l)
    (hone : ∀ j : Fin 4352, v j 128 = 1) (l : Fin 128) :
    k0_pay1 (k0_pay2 q)
        (k0_pay22 (k0_pay2 q) (k0_pay17 (k0_pay2 q) (k0_pay12 (k0_pay2 q) (k0_pay6 q k₀ k₁) k₂ k₃) k₄ k₅) k₆ k₇)
        (k0_pay23 (k0_pay2 q) (k0_pay17 (k0_pay2 q) (k0_pay12 (k0_pay2 q) (k0_pay6 q k₀ k₁) k₂ k₃) k₄ k₅)
          (k0_pay18 (k0_pay2 q) (k0_pay12 (k0_pay2 q) (k0_pay6 q k₀ k₁) k₂ k₃)
            (k0_pay13 (k0_pay2 q) (k0_pay6 q k₀ k₁) (k0_pay7 q k₀ k₁ w₁) (k0_pay8 q k₀ w₀ k₁) k₂ w₂ k₃ w₃) k₄ w₄ k₅ w₅)
          k₆ w₆ k₇ w₇) k₈ w₈ (ix3 0 r l)
      = Cert.Softmax.attend (fun j : Fin 4352 => σ j) (fun j : Fin 4352 => v j ⟨l, by omega⟩) := by
  have hq : ∀ d : Fin 256, k0_pay2 q (ix2 r d) = q (ix4 0 0 r d) := fun d => by pointwise [k0_pay2]
  simp only [← hq] at hk₁ hk₂ hk₃ hk₄ hk₅ hk₆ hk₇ hk₈
  have r₀ := row_first σ v r q k₀ w₀ hk₀ hw₀
  have r₁ := row_step σ v r 512 (k0_pay2 q) _ _ k₁ w₁ r₀ hk₁ hw₁
  have r₂ := row_step σ v r 1024 (k0_pay2 q) _ _ k₂ w₂ r₁ hk₂ hw₂
  have r₃ := row_step σ v r 1536 (k0_pay2 q) _ _ k₃ w₃ r₂ hk₃ hw₃
  have r₄ := row_step σ v r 2048 (k0_pay2 q) _ _ k₄ w₄ r₃ hk₄ hw₄
  have r₅ := row_step σ v r 2560 (k0_pay2 q) _ _ k₅ w₅ r₄ hk₅ hw₅
  have r₆ := row_step σ v r 3072 (k0_pay2 q) _ _ k₆ w₆ r₅ hk₆ hw₆
  have r₇ := row_step σ v r 3584 (k0_pay2 q) _ _ k₇ w₇ r₆ hk₇ hw₇
  exact row_last σ v r (k0_pay2 q) _ _ k₈ w₈ r₇ hk₈ hw₈ hone l
end
end Cert.KernelIdeal.Online
end

end
-- ==== Proof.KernelValue.lean ====
/- The kernel's result array: at every batch entry, query token, head and lane, the softmax of the token's scores applied
   to the lane of the values. -/
module

public import proofs.«01_k».proof.Proof.Gen.KernelIdeal.Value
public import Idealize.ShloMosaic.Lib.Pipeline.ValueKit
public import proofs.«01_k».proof.Proof.Operands
public import proofs.«01_k».proof.Proof.Body

@[expose] public section

set_option maxRecDepth 16384
noncomputable section
open Idealize.ShloMosaic Idealize.ShloMosaic.TcCoe Idealize.SL.Sem
open Idealize.ShloMosaic.Pipeline (Dat)
open scoped BigOperators
namespace Cert.KernelIdeal.Value
open Cert.KernelIdeal Cert.KernelIdeal.Gen
variable (m : (ℓ : Loc nD τ sig) → Buf (Elt Ideal) ℓ)

abbrev aQn (c : Dev nD) : FVec Ideal S8x4352x8x128 .f32 := m ((c : Thread nD τ).loc main_arg0)
abbrev aQr (c : Dev nD) : FVec Ideal S8x4352x8x64 .f32 := m ((c : Thread nD τ).loc main_arg1)
abbrev aKn (c : Dev nD) : FVec Ideal S8x4352x8x128 .f32 := m ((c : Thread nD τ).loc main_arg2)
abbrev aKr (c : Dev nD) : FVec Ideal S8x4352x64 .f32 := m ((c : Thread nD τ).loc main_arg3)
abbrev aV (c : Dev nD) : FVec Ideal S8x4352x8x128 .f32 := m ((c : Thread nD τ).loc main_arg4)

/-- The staged query block at point `t`. -/
theorem q_block (c : Dev nD) (t : Fin cfg0.N) (r : Fin 1024) (d : Fin 256) (hb : t.val / 32 < 8) (hh : t.val / 4 % 8 < 8)
    (ht : t.val % 4 * 1024 + r.val < 4352) :
    X0_0 m c t (ix4 0 0 r d) = QARR (aQn m c) (aQr m c) (ix4 ⟨t.val / 32, hb⟩ ⟨t.val / 4 % 8, hh⟩ ⟨t.val % 4 * 1024 + r.val, ht⟩ d) := by
  unfold X0_0 Pipeline.Window.fill
  rw [dif_pos (moved0_0 t _)]
  rw [← entq m c]
  blk_ext [iblk, idx t]

/-- The staged key block at point `t`. -/
theorem k_block (c : Dev nD) (t : Fin cfg0.N) (s : Fin 4352) (d : Fin 256) (hb : t.val / 32 < 8) (hh : t.val / 4 % 8 < 8) :
    iblk m c 1 t (ix4 0 0 s d) = KARR (aKn m c) (aKr m c) (ix4 ⟨t.val / 32, hb⟩ ⟨t.val / 4 % 8, hh⟩ s d) := by
  rw [← entk m c]
  blk_ext [iblk, idx t]

/-- The staged value block at point `t`. -/
theorem v_block (c : Dev nD) (t : Fin cfg0.N) (s : Fin 4352) (d : Fin 256) (hb : t.val / 32 < 8) (hh : t.val / 4 % 8 < 8) :
    iblk m c 2 t (ix4 0 0 s d) = VARR (aV m c) (ix4 ⟨t.val / 32, hb⟩ ⟨t.val / 4 % 8, hh⟩ s d) := by
  rw [← entv m c]
  blk_ext [iblk, idx t]

/-- The attention of query token `t` under head `h` of batch entry `b`, at lane `l` of the values. -/
def ATT (qn : FVec Ideal S8x4352x8x128 .f32) (qr : FVec Ideal S8x4352x8x64 .f32) (kn : FVec Ideal S8x4352x8x128 .f32)
    (kr : FVec Ideal S8x4352x64 .f32) (v : FVec Ideal S8x4352x8x128 .f32) (b : Fin 8) (t : Fin 4096) (h : Fin 8) (l : Fin 128) : EReal :=
  Cert.Softmax.attend (fun s : Fin 4352 => Cert.Softmax.score qn qr kn kr b h ⟨t, by omega⟩ s) fun s : Fin 4352 => v (ix4 b s h l)

/-- `ATT` reads its four coordinates by value. -/
theorem ATT_congr (qn : FVec Ideal S8x4352x8x128 .f32) (qr : FVec Ideal S8x4352x8x64 .f32) (kn : FVec Ideal S8x4352x8x128 .f32)
    (kr : FVec Ideal S8x4352x64 .f32) (v : FVec Ideal S8x4352x8x128 .f32) {b b' : Fin 8} {t t' : Fin 4096} {h h' : Fin 8} {l l' : Fin 128}
    (hb : b.val = b'.val) (ht : t.val = t'.val) (hh : h.val = h'.val) (hl : l.val = l'.val) :
    ATT qn qr kn kr v b t h l = ATT qn qr kn kr v b' t' h' l' := by
  obtain rfl := Fin.ext hb
  obtain rfl := Fin.ext ht
  obtain rfl := Fin.ext hh
  obtain rfl := Fin.ext hl
  rfl

section
variable (c : Dev nD) (hq : ∀ i, ((aQn m c i).toReal : EReal) = aQn m c i) (hr : ∀ i, ((aQr m c i).toReal : EReal) = aQr m c i)
    (hk : ∀ i, ((aKn m c i).toReal : EReal) = aKn m c i) (hkr : ∀ i, ((aKr m c i).toReal : EReal) = aKr m c i)
include hq hr hk hkr

set_option maxHeartbeats 1600000 in
/-- What point `t` leaves at row `r`, lane `l` of its block. -/
theorem point (t : Fin cfg0.N) (r : Fin 1024) (l : Fin 128) (hb : t.val / 32 < 8) (hh : t.val / 4 % 8 < 8)
    (ht : t.val % 4 * 1024 + r.val < 4096) :
    outsAt0 m c t (ix3 0 r l)
      = ATT (aQn m c) (aQr m c) (aKn m c) (aKr m c) (aV m c) ⟨t.val / 32, hb⟩ ⟨t.val % 4 * 1024 + r.val, ht⟩ ⟨t.val / 4 % 8, hh⟩ l := by
  have hX := fun d => q_block m c t r d hb hh (by omega)
  have hK := fun s d => k_block m c t s d hb hh
  have hV := fun s d => v_block m c t s d hb hh
  unfold outsAt0
  frame_out
  let σ : ℕ → ℝ := fun j => if hj : j < 4352 then Cert.Softmax.score (aQn m c) (aQr m c) (aKn m c) (aKr m c)
    ⟨t.val / 32, hb⟩ ⟨t.val / 4 % 8, hh⟩ ⟨t.val % 4 * 1024 + r.val, by omega⟩ ⟨j, hj⟩ else 0
  let v : ℕ → Fin 256 → EReal := fun j l => if hj : j < 4352 then VARR (aV m c) (ix4 ⟨t.val / 32, hb⟩ ⟨t.val / 4 % 8, hh⟩ ⟨j, hj⟩ l) else 0
  have hσ : ∀ (j : ℕ) (hj : j < 4352), ∑ d : Fin 256, @HMul.hMul EReal EReal EReal _ (X0_0 m c t (ix4 0 0 r d)) (iblk m c 1 t (ix4 0 0 ⟨j, hj⟩ d)) = (σ j : EReal) := fun j hj => by
    simp only [hX, hK, σ, dif_pos hj]
    exact score_kernel _ _ _ _ hq hr hk hkr _ _ _ _
  have hv : ∀ (j : ℕ) (hj : j < 4352) (l : Fin 256), iblk m c 2 t (ix4 0 0 ⟨j, hj⟩ l) = v j l := fun j hj l => by
    simp only [hV, v, dif_pos hj]
  refine (Online.chain σ v r _ _ _ _ _ _ _ _ _ _ _ _ _ _ _ _ _ _ _ ?_ ?_ ?_ ?_ ?_ ?_ ?_ ?_ ?_ ?_ ?_ ?_ ?_ ?_ ?_ ?_ ?_ ?_ ?_ l).trans ?_
  case refine_19 =>
    intro j
    simp only [v, dif_pos j.isLt]
    exact ones_kernel _ _ _ _
  case refine_20 =>
    unfold ATT
    refine congrArg₂ Cert.Softmax.attend (funext fun j => ?_) (funext fun j => ?_)
    · simp only [σ, dif_pos j.isLt]
    · simp only [v, dif_pos j.isLt]
      exact value_kernel _ _ _ _ _
  all_goals
    clear_value σ v
    first
    | (intro j l; pointwise; with_reducible exact hv _ (by omega) _)
    | (intro j; pointwise; with_reducible exact hσ _ (by omega))

/-- The result array of the region. -/
theorem final : (dats m 0 c).arrAt 3 (cfgs 0).N = fun i => ATT (aQn m c) (aQr m c) (aKn m c) (aKr m c) (aV m c)
    ⟨(i 0).val, (i 0).isLt⟩ ⟨(i 1).val, (i 1).isLt⟩ ⟨(i 2).val / 128, by have h : (i 2).val < 1024 := (i 2).isLt; omega⟩
    ⟨(i 2).val % 128, by omega⟩ :=
  (dats m 0 c).arrAt_eq_of_covers 3 _ (by decide +kernel) fun t _ y => by
    have hN : t.val < 256 := t.isLt
    blk_simp
    rw [after0_3]
    obtain ⟨r, l, rfl⟩ : ∃ (r : Fin 1024) (l : Fin 128), y = ix3 0 r l := ⟨y 1, y 2, by
      funext a
      match a with
      | 0 => exact Subsingleton.elim (α := Fin 1) _ _
      | 1 => rfl
      | 2 => rfl⟩
    refine (point m c hq hr hk hkr t r l (by omega) (by omega) (by omega)).trans ?_
    obtain ⟨-, -, -, h3, -⟩ := idx t
    have h0 : win0_3.index t 0 = t.val / 32 := congrFun h3 0
    have h1 : win0_3.index t 1 = t.val % 4 := congrFun h3 1
    have h2 : win0_3.index t 2 = t.val / 4 % 8 := congrFun h3 2
    have hl : l.val < 128 := l.isLt
    refine ATT_congr _ _ _ _ _ ?_ ?_ ?_ ?_
    · show t.val / 32 = win0_3.index t 0
      omega
    · show t.val % 4 * 1024 + r.val = win0_3.index t 1 * 1024 + r.val
      omega
    · show t.val / 4 % 8 = (win0_3.index t 2 * 128 + l.val) / 128
      omega
    · show l.val = (win0_3.index t 2 * 128 + l.val) % 128
      omega
end
end Cert.KernelIdeal.Value
end

end
-- ==== Proof.RefValue.lean ====
/- The reference's result at an index. -/
module

public import proofs.«01_k».proof.Proof.Gen.ReferenceIdeal.Run
public import Idealize.ShloMosaic.Lib.Claim
public import proofs.«01_k».proof.Proof.Softmax
public import proofs.«01_k».proof.Proof.Scores

@[expose] public section

set_option maxRecDepth 16384
noncomputable section
open Idealize.ShloMosaic Idealize.ShloMosaic.TcCoe Idealize.SL.Sem
open scoped BigOperators
namespace Cert.ReferenceIdeal.Value
open Cert.ReferenceIdeal Cert.ReferenceIdeal.Gen
variable (m : (ℓ : Loc nD τ sig) → Buf (Elt Ideal) ℓ)

/-- The row shift the reference subtracts before it exponentiates. -/
def shift (S : FVec Ideal S8x8x4096x4352 .f32) (b h : Fin 8) (t : Fin 4096) : EReal :=
  max (Ideal.ofBits .f32 0xFF800000#32) (Finset.univ.fold max (Ideal.ofBits .f32 0xFF800000#32) fun k : Fin 4352 => S (ix4 b h t k))

/-- A maximum over the last of four axes. -/
theorem reduce_max {n0 n1 n2 n3 : ℕ} (S : FVec Ideal ⟨4, ![n0, n1, n2, n3]⟩ .f32) (c : FVec Ideal ⟨0, ![]⟩ .f32)
    (hr : (⟨4, ![n0, n1, n2, n3]⟩ : Shape).ReducesTo [3] ⟨3, ![n0, n1, n2]⟩) (hu : 0 < (⟨0, ![]⟩ : Shape).numel)
    (a : Fin n0) (b : Fin n1) (t : Fin n2) (z : EReal) (hz : c (Shape.Idx.first hu) = z) :
    Host.reduce (FloatOps.maximumf (F := Ideal)) S c hr hu (ix3 a b t)
      = Finset.univ.fold max z fun k : Fin n3 => S (ix4 a b t k) := by
  simp only [pointwise]
  rw [hz]

/-- A maximum with a constant. -/
theorem max_const (M : FVec Ideal S8x8x4096 .f32) (b h : Fin 8) (t : Fin 4096) :
    maximumf (broadcastInDim S8x8x4096 ![] bcast_S_S8x8x4096 (constant S_ .f32 0xFF800000#32)) M (ix3 b h t)
      = max (Ideal.ofBits .f32 0xFF800000#32) (M (ix3 b h t)) := by
  pointwise

/-- The row maxima. -/
theorem max_at (S : FVec Ideal S8x8x4096x4352 .f32) (b h : Fin 8) (t : Fin 4096) :
    maximumf (broadcastInDim S8x8x4096 ![] bcast_S_S8x8x4096 (constant S_ .f32 0xFF800000#32)) (Host.reduce (FloatOps.maximumf (F := Ideal)) S (constant S_ .f32 0xFF800000#32) reducesTo_S8x8x4096x4352_S8x8x4096_d3 h_S_) (ix3 b h t)
    = shift S b h t := by
  unfold shift
  rw [max_const, reduce_max S _ _ _ b h t (Ideal.ofBits .f32 0xFF800000#32) rfl]

/-- A row quantity `M`, subtracted and exponentiated. -/
theorem exp_at (S : FVec Ideal S8x8x4096x4352 .f32) (M : FVec Ideal S8x8x4096 .f32) (b h : Fin 8) (t : Fin 4096) (j : Fin 4352) :
    Host.exp (subf S (broadcastInDim S8x8x4096x4352 ![0, 1, 2, 3] bcast_S8x8x4096x1_S8x8x4096x4352_0_1_2_3 (broadcastInDim S8x8x4096x1 ![0, 1, 2] bcast_S8x8x4096_S8x8x4096x1_0_1_2 M))) (ix4 b h t j)
    = Ideal.exp (S (ix4 b h t j) - M (ix3 b h t)) := by
  pointwise

/-- The exponentials over their row sums. -/
theorem div_at (E : FVec Ideal S8x8x4096x4352 .f32) (b h : Fin 8) (t : Fin 4096) (j : Fin 4352) :
    Host.divf E (broadcastInDim S8x8x4096x4352 ![0, 1, 2, 3] bcast_S8x8x4096x1_S8x8x4096x4352_0_1_2_3 (broadcastInDim S8x8x4096x1 ![0, 1, 2] bcast_S8x8x4096_S8x8x4096x1_0_1_2 (Host.reduceAdd E (constant S_ .f32 0x00000000#32) reducesTo_S8x8x4096x4352_S8x8x4096_d3 h_S_))) (ix4 b h t j)
    = Ideal.div (E (ix4 b h t j)) (0 + ∑ i : Fin 4352, E (ix4 b h t i)) := by
  pointwise

/-- The weighted values, laid out by token, head and lane. -/
theorem out_at (W : FVec Ideal S8x8x4096x4352 .f32) (V : FVec Ideal S8x4352x8x128 .f32) (b : Fin 8) (t : Fin 4096) (h : Fin 8) (l : Fin 128)
    (hj : h.val * 128 + l.val < 1024) :
    truncf .bf16 (shapeCast S8x4096x1024 (transpose S8x4096x8x128 [0, 3, 1, 2] (Host.dotGeneral (F := Ideal) dot_S8x4352x8x128_S8x8x4096x4352_S8x8x128x4096_1_3_3_2_02_01 none V W) transposes_S8x8x128x4096_S8x4096x8x128_0_3_1_2) shapeCasts_S8x4096x8x128_S8x4096x1024) bitsLt_bf16_f32 (ix3 b t ⟨h.val * 128 + l.val, hj⟩)
    = ∑ j : Fin 4352, V (ix4 b j h l) * W (ix4 b h t j) := by
  pointwise

/-- A softmax-weighted sum read from real scores `σ`. -/
theorem soft_at (S : FVec Ideal S8x8x4096x4352 .f32) (V : FVec Ideal S8x4352x8x128 .f32) (b : Fin 8) (t : Fin 4096) (h : Fin 8) (l : Fin 128)
    (hj : h.val * 128 + l.val < 1024) (σ : Fin 4352 → ℝ) (v : Fin 4352 → EReal) (hS : ∀ j, S (ix4 b h t j) = ((σ j : ℝ) : EReal))
    (hV : ∀ j, V (ix4 b j h l) = v j) :
    truncf .bf16 (shapeCast S8x4096x1024 (transpose S8x4096x8x128 [0, 3, 1, 2] (Host.dotGeneral (F := Ideal) dot_S8x4352x8x128_S8x8x4096x4352_S8x8x128x4096_1_3_3_2_02_01 none V
      (Host.divf (Host.exp (subf S (broadcastInDim S8x8x4096x4352 ![0, 1, 2, 3] bcast_S8x8x4096x1_S8x8x4096x4352_0_1_2_3 (broadcastInDim S8x8x4096x1 ![0, 1, 2] bcast_S8x8x4096_S8x8x4096x1_0_1_2 (maximumf (broadcastInDim S8x8x4096 ![] bcast_S_S8x8x4096 (constant S_ .f32 0xFF800000#32)) (Host.reduce FloatOps.maximumf S (constant S_ .f32 0xFF800000#32) reducesTo_S8x8x4096x4352_S8x8x4096_d3 h_S_))))))
        (broadcastInDim S8x8x4096x4352 ![0, 1, 2, 3] bcast_S8x8x4096x1_S8x8x4096x4352_0_1_2_3 (broadcastInDim S8x8x4096x1 ![0, 1, 2] bcast_S8x8x4096_S8x8x4096x1_0_1_2 (Host.reduceAdd (Host.exp (subf S (broadcastInDim S8x8x4096x4352 ![0, 1, 2, 3] bcast_S8x8x4096x1_S8x8x4096x4352_0_1_2_3 (broadcastInDim S8x8x4096x1 ![0, 1, 2] bcast_S8x8x4096_S8x8x4096x1_0_1_2 (maximumf (broadcastInDim S8x8x4096 ![] bcast_S_S8x8x4096 (constant S_ .f32 0xFF800000#32)) (Host.reduce FloatOps.maximumf S (constant S_ .f32 0xFF800000#32) reducesTo_S8x8x4096x4352_S8x8x4096_d3 h_S_)))))) (constant S_ .f32 0x00000000#32) reducesTo_S8x8x4096x4352_S8x8x4096_d3 h_S_))))) transposes_S8x8x128x4096_S8x4096x8x128_0_3_1_2) shapeCasts_S8x4096x8x128_S8x4096x1024) bitsLt_bf16_f32 (ix3 b t ⟨h.val * 128 + l.val, hj⟩)
    = Cert.Softmax.attend σ v := by
  obtain ⟨μ, hμ⟩ : ∃ μ : ℝ, shift S b h t = (μ : EReal) := by
    unfold shift
    rw [Cert.Softmax.ofBits_neg_inf]
    obtain ⟨r, hr⟩ := Cert.Softmax.fold_max_real (n := 4351) σ
    refine ⟨r, ?_⟩
    rw [max_eq_right bot_le, ← hr]
    exact congrArg (fun f => Finset.univ.fold max (⊥ : EReal) f) (funext hS)
  have hE := fun (i : Fin 4352) => (exp_at S _ b h t i).trans ((congrArg₂ (fun a b => Ideal.exp (a - b)) (hS i) ((max_at S b h t).trans hμ)).trans (Cert.Softmax.exp_sub_coe (σ i) μ))
  refine (out_at _ _ b t h l hj).trans (Eq.trans ?_ (Cert.Softmax.attend_of_weights σ v μ))
  refine Finset.sum_congr rfl fun j _ => congrArg₂ (fun a b : EReal => a * b) (hV j) ((div_at _ b h t j).trans ?_)
  exact congrArg₂ (fun a b : EReal => Ideal.div a b) (hE j) (congrArg (fun a : EReal => 0 + a) (Finset.sum_congr rfl fun i _ => hE i))

/-- Position of the reference's key `j` (context first) among the tokens. -/
def tok : Fin 4352 ≃ Fin 4352 where
  toFun j := if j.val < 256 then ⟨(4096 + j.val) % 4352, Nat.mod_lt _ (by norm_num)⟩ else ⟨j.val - 256, by omega⟩
  invFun j := if h : j.val < 4096 then ⟨j.val + 256, by omega⟩ else ⟨j.val - 4096, by omega⟩
  left_inv j := by
    ext
    by_cases h : j.val < 256
    · simp only [h, if_true]; split <;> simp <;> omega
    · simp only [h, if_false]; split <;> simp <;> omega
  right_inv j := by
    ext
    by_cases h : j.val < 4096
    · simp only [h, dif_pos]; split <;> simp at * <;> omega
    · simp only [h, dif_neg, not_false_eq_true]; split <;> simp at * <;> omega

/-- An array of values, context first, read at a key. -/
theorem ctx4 (x : FVec Ideal S8x4352x8x128 .f32) (b : Fin 8) (j : Fin 4352) (h : Fin 8) (l : Fin 128) :
    concatenate S8x4352x8x128 1 [⟨S8x256x8x128, (extractStridedSlice S8x256x8x128 ![0, 4096, 0, 0] x slices_S8x4352x8x128_S8x256x8x128_0_4096_0_0)⟩, ⟨S8x4096x8x128, (extractStridedSlice S8x4096x8x128 ![0, 0, 0, 0] x slices_S8x4352x8x128_S8x4096x8x128_0_0_0_0)⟩] concatenates_S8x256x8x128_S8x4096x8x128_S8x4352x8x128_d1 (ix4 b j h l)
    = x (ix4 b (tok j) h l) := by
  pointwise
  by_cases hj : j.val < 256
  · rw [dif_pos hj]
    congr 1
    unfold tok
    simp only [Equiv.coe_fn_mk, if_pos hj]
    congr 1
    ext
    show 4096 + j.val = (4096 + j.val) % 4352
    omega
  · rw [dif_neg hj]
    congr 1
    unfold tok
    simp only [Equiv.coe_fn_mk, if_neg hj]

/-- The shared keys, context first, read at a key. -/
theorem ctx3 (x : FVec Ideal S8x4352x64 .f32) (b : Fin 8) (j : Fin 4352) (l : Fin 64) :
    concatenate S8x4352x64 1 [⟨S8x256x64, (extractStridedSlice S8x256x64 ![0, 4096, 0] x slices_S8x4352x64_S8x256x64_0_4096_0)⟩, ⟨S8x4096x64, (extractStridedSlice S8x4096x64 ![0, 0, 0] x slices_S8x4352x64_S8x4096x64_0_0_0)⟩] concatenates_S8x256x64_S8x4096x64_S8x4352x64_d1 (ix3 b j l)
    = x (ix3 b (tok j) l) := by
  pointwise
  by_cases hj : j.val < 256
  · rw [dif_pos hj]
    congr 1
    unfold tok
    simp only [Equiv.coe_fn_mk, if_pos hj]
    congr 1
    ext
    show 4096 + j.val = (4096 + j.val) % 4352
    omega
  · rw [dif_neg hj]
    congr 1
    unfold tok
    simp only [Equiv.coe_fn_mk, if_neg hj]

/-- The reference's scores from its keys `K` and shared keys `Kr`. -/
theorem scores_at (qn : FVec Ideal S8x4352x8x128 .f32) (qr : FVec Ideal S8x4352x8x64 .f32) (K : FVec Ideal S8x4352x8x128 .f32)
    (Kr : FVec Ideal S8x4352x64 .f32) (b h : Fin 8) (t : Fin 4096) (j : Fin 4352) :
    mulf (addf (Host.dotGeneral (F := Ideal) dot_S8x4096x8x128_S8x4352x8x128_S8x8x4096x4352_3_3_1_1_02_02 none (extractStridedSlice S8x4096x8x128 ![0, 0, 0, 0] qn slices_S8x4352x8x128_S8x4096x8x128_0_0_0_0) K) (transpose S8x8x4096x4352 [0, 3, 2, 1] (Host.dotGeneral (F := Ideal) dot_S8x4352x64_S8x4096x8x64_S8x4352x4096x8_2_3_1_12_0_0 none Kr (extractStridedSlice S8x4096x8x64 ![0, 0, 0, 0] qr slices_S8x4352x8x64_S8x4096x8x64_0_0_0_0)) transposes_S8x4352x4096x8_S8x8x4096x4352_0_3_2_1)) (broadcastInDim S8x8x4096x4352 ![] bcast_S_S8x8x4096x4352 (constant S_ .f32 0x3D93CD3A#32)) (ix4 b h t j)
    = (∑ d : Fin 128, qn (ix4 b ⟨t, by omega⟩ h d) * K (ix4 b j h d) + ∑ d : Fin 64, Kr (ix3 b j d) * qr (ix4 b ⟨t, by omega⟩ h d)) * Ideal.ofBits .f32 0x3D93CD3A#32 := by
  pointwise

/-- The reference's score of two tokens with finite queries and keys is the real score. -/
theorem score_real_at {qn : FVec Ideal S8x4352x8x128 .f32} {qr : FVec Ideal S8x4352x8x64 .f32} {kn : FVec Ideal S8x4352x8x128 .f32}
    {kr : FVec Ideal S8x4352x64 .f32}
    (b h : Fin 8) (t s : Fin 4352)
    (hq : ∀ d, ((qn (ix4 b t h d)).toReal : EReal) = qn (ix4 b t h d)) (hr : ∀ d, ((qr (ix4 b t h d)).toReal : EReal) = qr (ix4 b t h d))
    (hk : ∀ d, ((kn (ix4 b s h d)).toReal : EReal) = kn (ix4 b s h d)) (hkr : ∀ d, ((kr (ix3 b s d)).toReal : EReal) = kr (ix3 b s d)) :
    (∑ d : Fin 128, qn (ix4 b t h d) * kn (ix4 b s h d) + ∑ d : Fin 64, kr (ix3 b s d) * qr (ix4 b t h d)) * Ideal.ofBits .f32 0x3D93CD3A#32
    = ((Cert.Softmax.score qn qr kn kr b h t s : ℝ) : EReal) := by
  unfold Cert.Softmax.score
  rw [Cert.Softmax.scale_eq, EReal.coe_mul, EReal.coe_add, ← Cert.Softmax.sum_coe, ← Cert.Softmax.sum_coe]
  refine congrArg (fun a : EReal => a * _) (congrArg₂ (fun a b : EReal => a + b) (Finset.sum_congr rfl fun d _ => ?_) (Finset.sum_congr rfl fun d _ => ?_))
  · rw [EReal.coe_mul, hq, hk]
  · rw [EReal.coe_mul, hr, hkr, mul_comm]

/-- `score_real_at` of finite arrays. -/
theorem score_real {qn : FVec Ideal S8x4352x8x128 .f32} {qr : FVec Ideal S8x4352x8x64 .f32} {kn : FVec Ideal S8x4352x8x128 .f32}
    {kr : FVec Ideal S8x4352x64 .f32}
    (hq : ∀ i, ((qn i).toReal : EReal) = qn i) (hr : ∀ i, ((qr i).toReal : EReal) = qr i)
    (hk : ∀ i, ((kn i).toReal : EReal) = kn i) (hkr : ∀ i, ((kr i).toReal : EReal) = kr i) (b h : Fin 8) (t s : Fin 4352) :
    (∑ d : Fin 128, qn (ix4 b t h d) * kn (ix4 b s h d) + ∑ d : Fin 64, kr (ix3 b s d) * qr (ix4 b t h d)) * Ideal.ofBits .f32 0x3D93CD3A#32
    = ((Cert.Softmax.score qn qr kn kr b h t s : ℝ) : EReal) :=
  score_real_at b h t s (fun _ => hq _) (fun _ => hr _) (fun _ => hk _) fun _ => hkr _

/-- THE REFERENCE'S RESULT: the softmax of the token's scores applied to the lane of the values. -/
theorem result (c : Dev nD) (b : Fin 8) (t : Fin 4096) (h : Fin 8) (l : Fin 128) (hj : h.val * 128 + l.val < 1024)
    (qn : FVec Ideal S8x4352x8x128 .f32) (qr : FVec Ideal S8x4352x8x64 .f32) (kn : FVec Ideal S8x4352x8x128 .f32)
    (kr : FVec Ideal S8x4352x64 .f32) (v : FVec Ideal S8x4352x8x128 .f32)
    (h0 : m ((c.tc : Thread nD τ).loc main_arg0) = qn) (h1 : m ((c.tc : Thread nD τ).loc main_arg1) = qr)
    (h2 : m ((c.tc : Thread nD τ).loc main_arg2) = kn) (h3 : m ((c.tc : Thread nD τ).loc main_arg3) = kr)
    (h4 : m ((c.tc : Thread nD τ).loc main_arg4) = v)
    (hq : ∀ i, ((qn i).toReal : EReal) = qn i) (hr : ∀ i, ((qr i).toReal : EReal) = qr i)
    (hk : ∀ i, ((kn i).toReal : EReal) = kn i) (hkr : ∀ i, ((kr i).toReal : EReal) = kr i) :
    res_main_v31 m c (ix3 b t ⟨h.val * 128 + l.val, hj⟩)
      = Cert.Softmax.attend (fun s : Fin 4352 => Cert.Softmax.score qn qr kn kr b h ⟨t, by omega⟩ s) fun s : Fin 4352 => v (ix4 b s h l) := by
  unfold res_main_v31
  rw [h0, h1, h2, h3, h4]
  refine (soft_at _ _ b t h l hj (fun j => Cert.Softmax.score qn qr kn kr b h ⟨t.val, by omega⟩ (tok j)) (fun j => v (ix4 b (tok j) h l)) (fun j => ?_) (fun j => ctx4 v b j h l)).trans
    (Cert.Softmax.attend_equiv tok (fun s => Cert.Softmax.score qn qr kn kr b h ⟨t.val, by omega⟩ s) (fun s => v (ix4 b s h l)))
  refine (scores_at qn qr _ _ b h t j).trans ?_
  refine Eq.trans ?_ (score_real hq hr hk hkr b h ⟨t.val, by omega⟩ (tok j))
  refine congrArg (fun a : EReal => a * Ideal.ofBits .f32 0x3D93CD3A#32) (congrArg₂ (fun a b : EReal => a + b)
    (Finset.sum_congr rfl fun d _ => congrArg (fun a : EReal => qn (ix4 b ⟨t.val, _⟩ h d) * a) (ctx4 kn b j h d))
    (Finset.sum_congr rfl fun d _ => congrArg (fun a : EReal => a * qr (ix4 b ⟨t.val, _⟩ h d)) (ctx3 kr b j d)))
end Cert.ReferenceIdeal.Value
end

end
-- ==== Proof.Attn.lean ====
/- The attention call: its frames and its value claim. -/
module

public import proofs.«01_k».proof.Defs
public import proofs.«01_k».proof.Proof.Gen.Kernel.Frame
public import proofs.«01_k».proof.Proof.Gen.KernelIdeal.Frame
public import proofs.«01_k».proof.Proof.Gen.Pre_finite_qk
public import proofs.«01_k».proof.Proof.KernelValue
public import proofs.«01_k».proof.Proof.RefValue

@[expose] public section

set_option maxRecDepth 16384
noncomputable section
open Idealize.ShloMosaic Idealize.ShloMosaic.TcCoe Idealize.SL.Sem
namespace Cert.Attn

/-- The kernel's frame as compiled. -/
theorem frame_kernel : Cert.quiescent_Kernel := fun m ρ _ => Cert.Kernel.Gen.frame m ρ
/-- The idealized kernel's frame. -/
theorem frame_ideal : Cert.quiescent_KernelIdeal := fun m ρ _ => Cert.KernelIdeal.Gen.frame m ρ
/-- The idealized kernel's frame from finite queries and keys. -/
theorem frame_ideal_pre : Cert.quiescent_KernelIdeal_pre_finite_qk := fun m ρ _ => Cert.KernelIdeal.Gen.frame m ρ
/-- The reference's frame. -/
theorem frame_reference : Cert.quiescent_ReferenceIdeal := fun m ρ _ =>
  (θ_run _ _ _).mono (fun r h => ⟨fun c => (h c).2, sem_eq_zero_of_no_sems (by decide) r.2⟩) (Cert.ReferenceIdeal.Value.run m ρ)
/-- The reference's frame from finite queries and keys. -/
theorem frame_reference_pre : Cert.quiescent_ReferenceIdeal_pre_finite_qk := fun m ρ _ =>
  (θ_run _ _ _).mono (fun r h => ⟨fun c => (h c).2, sem_eq_zero_of_no_sems (by decide) r.2⟩) (Cert.ReferenceIdeal.Value.run m ρ)

/-- What the precondition's four comparisons say of an element: it is a real. -/
theorem real_of_cmp {x : EReal} (h : Ideal.cmp .olt (max x (-x)) (Ideal.ofBits .f32 0x7F800000#32) = 1#1) : ((x.toReal : ℝ) : EReal) = x := by
  rw [Cert.Softmax.ofBits_inf] at h
  exact Cert.Softmax.real_of_abs_lt ((Ideal.cmp_olt_eq_one _ _).1 h)

section
variable (m : (ℓ : Loc Cert.KernelIdeal.nD Cert.KernelIdeal.τ Cert.KernelIdeal.sig) → Buf (Elt Ideal) ℓ)

open Cert.KernelIdeal Cert.KernelIdeal.Value in
/-- Finite queries and keys are reals. -/
theorem reals (h : Cert.Pre_KernelIdeal_finite_qk m) (c : Dev nD) :
    (∀ i, ((aQn m c i).toReal : EReal) = aQn m c i) ∧ (∀ i, ((aQr m c i).toReal : EReal) = aQr m c i)
      ∧ (∀ i, ((aKn m c i).toReal : EReal) = aKn m c i) ∧ (∀ i, ((aKr m c i).toReal : EReal) = aKr m c i) := by
  obtain ⟨h0, h1, h2, h3⟩ := h c
  exact ⟨fun i => real_of_cmp (congrFun h0 i), fun i => real_of_cmp (congrFun h1 i), fun i => real_of_cmp (congrFun h2 i), fun i => real_of_cmp (congrFun h3 i)⟩
end

/-- THE VALUE CLAIM: from finite queries and keys, any values, the kernel and the reference end with the same result. -/
theorem algebraic : Cert.algebraic_KernelIdeal_ReferenceIdeal_pre_finite_qk := by
  pair_intro
  · run_from Cert.KernelIdeal.Value.run_blocks m g
  · run_from Cert.ReferenceIdeal.Value.run m' g'
    obtain ⟨e0, e1, e2, e3, e4⟩ := hagree c
    obtain ⟨hq, hr, hk, hkr⟩ := reals m hpre c
    rw [Cert.KernelIdeal.Value.final m c hq hr hk hkr]
    funext i
    obtain ⟨b, t, n, rfl⟩ : ∃ (b : Fin 8) (t : Fin 4096) (n : Fin 1024), i = ix3 b t n := ⟨i 0, i 1, i 2, by
      funext a
      match a with
      | 0 => rfl
      | 1 => rfl
      | 2 => rfl⟩
    have hn : n.val / 128 * 128 + n.val % 128 = n.val := by omega
    have hi : (ix3 b t n : Cert.ReferenceIdeal.S8x4096x1024.Idx) = ix3 b t ⟨(⟨n.val / 128, by omega⟩ : Fin 8).val * 128 + (⟨n.val % 128, by omega⟩ : Fin 128).val, by show n.val / 128 * 128 + n.val % 128 < 1024; omega⟩ := by
      congr 1
      exact Fin.ext hn.symm
    refine (congrArg (Cert.ReferenceIdeal.Value.res_main_v31 m' c) hi).trans ?_
    refine (Cert.ReferenceIdeal.Value.result m' c b t ⟨n.val / 128, by omega⟩ ⟨n.val % 128, by omega⟩ _
      (Cert.KernelIdeal.Value.aQn m c) (Cert.KernelIdeal.Value.aQr m c) (Cert.KernelIdeal.Value.aKn m c) (Cert.KernelIdeal.Value.aKr m c)
      (Cert.KernelIdeal.Value.aV m c) e0 e1 e2 e3 e4 hq hr hk hkr).trans ?_
    exact Cert.KernelIdeal.Value.ATT_congr _ _ _ _ _ rfl rfl rfl rfl
end Cert.Attn
end

end
-- ==== Proof.ExpertsKit.lean ====
/- The experts call up to and at its region: what the host operations leave in the operand arrays, the two tables the region
   reads, the blocks the pipeline stages, and the staging memrefs the body is called with. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit
public import Idealize.ShloMosaic.Lib.Claim

@[expose] public section

set_option maxRecDepth 16384
noncomputable section
namespace Cert.Kernel2Ideal.Experts
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- Core `c`'s buffers when the region is entered: as launched but for what the nine host operations write. -/
abbrev atEntry (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operations and then the region. -/
theorem reaches (𝒱₀ : Variants) : Pipeline.HMainP (Ix := Unit) (Name := ℕ) (U := UR sig nD τ) (Lvl := ℕ) pcfgs 0 defs₀ 𝒱₀ m (main (F := F)) (atEntry m) :=
  Pipeline.hmainP_prefix pcfgs 0 defs₀ 𝒱₀ m main hostOps0 hostOps0_sub host_fresh main_chain

/-- The buffers the host operations write. -/
abbrev hostWritten : List (Ref sig .tc) := [main_v0, main_v1, main_v2, main_v3, main_v4, main_v5, main_v6, main_v7, main_v8]

/-- A buffer no host operation writes is at the region's entry as launched. -/
theorem entry_of_not_written (c : Dev nD) (b : Ref sig .tc) (hb : ∀ w ∈ hostWritten, b ≠ w) : atEntry m c b = m ((c : Thread nD τ).loc b) :=
  StableHlo.after_of_forall_not_mem (b := Proc.devRef .tc b) _ _ (List.forall_iff_forall_mem.mp (by
    simp only [hostWritten, List.mem_cons, List.not_mem_nil, or_false, forall_eq_or_imp, forall_eq] at hb
    obtain ⟨h0, h1, h2, h3, h4, h5, h6, h7, h8⟩ := hb
    simp only [hostOps0, List.Forall, StableHlo.unary_writes, StableHlo.reshape_writes, Finset.mem_singleton]
    refine ⟨?_, ?_, ?_, ?_, ?_, ?_, ?_, ?_, ?_⟩ <;> apply StableHlo.devRef_ne_of_ne <;> assumption))

theorem entry_main_arg0 (c : Dev nD) : atEntry m c main_arg0 = m ((c : Thread nD τ).loc main_arg0) := entry_of_not_written m c _ (by decide)
theorem entry_main_arg1 (c : Dev nD) : atEntry m c main_arg1 = m ((c : Thread nD τ).loc main_arg1) := entry_of_not_written m c _ (by decide)

/-! ## The two tables -/

/-- The expert of each tile, and how many rows of it are used. -/
def tables : pre0.Contents (Elt F) := fun j => atEntry m (0 : Dev nD) (pre0.ref j)

theorem tables_on (c : Dev nD) (j : Fin 2) : atEntry m c (pre0.ref j) = tables m j := by
  obtain rfl : c = 0 := Subsingleton.elim _ _; rfl

/-- Every block the tables name lies inside its array. -/
abbrev Fits : Prop := ok0 (F := F) (tables m)
abbrev admitted (hO : Fits m) : (pcfg0 (F := F)).Adm := ⟨tables m, hO⟩
abbrev pipe (hO : Fits m) : Pipeline.Cfg sig Λ₀ := cfg0 (admitted m hO)

abbrev teM : Memref sig .tc .smem S576 .i32 := Memref.whole main_arg0
abbrev teW : teM.IsWhole := Memref.isWhole_whole _
abbrev tvM : Memref sig .tc .smem S576 .i32 := Memref.whole main_arg1
abbrev tvW : tvM.IsWhole := Memref.isWhole_whole _

/-- A table's contents on core `c`. -/
abbrev Tb (c : Dev nD) {S : Shape} {e : EltTy} (M : Memref sig .tc .smem S e) : Type := Buf (Elt F) (M.view.loc (c : Thread nD τ))
/-- A table held for reading: the other half stays with the pipeline. -/
abbrev tbAt (c : Dev nD) {S : Shape} {e : EltTy} (M : Memref sig .tc .smem S e) (f : Tb (F := F) c M) : sProp 𝕄 :=
  M.view.loc (c : Thread nD τ) ↦{fullShare.right} f

theorem tables_held (c : Dev nD) : (Pipeline.ΦT pre0 (tables m) c : sProp 𝕄) = iprop(tbAt c teM (tables m 0) ∗ tbAt c tvM (tables m 1)) := by
  unfold Pipeline.ΦT Pipeline.prefHeld
  rw [show (Finset.univ : Finset (Fin 2)) = insert (0 : Fin 2) {(1 : Fin 2)} from by decide,
    bigSep_insert (by decide), bigSep_singleton]
  rfl

/-! ## The staged blocks -/

/-- Window `w`'s block at point `t` of its array as the region finds it. -/
def blkAt (hO : Fits m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (atEntry m c (Pipeline.arrRef spec0 w))

section
variable (hO : Fits m) {c : Dev nD} (dat : Dat τ (Elt F) Unit ℕ (UR sig nD τ) ℕ (pipe m hO) c) (t : Fin (pipe m hO).N)

theorem staged0_of (hA : dat.A 0 = atEntry m c (Pipeline.arrRef spec0 0)) (hafter : ∀ t, dat.after 0 t = blkAt m hO c 0 t) (d) :
    dat.before 0 t d = blkAt m hO c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)
theorem staged1_of (hA : dat.A 1 = atEntry m c (Pipeline.arrRef spec0 1)) (hafter : ∀ t, dat.after 1 t = blkAt m hO c 1 t) (d) :
    dat.before 1 t d = blkAt m hO c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)
theorem staged2_of (hA : dat.A 2 = atEntry m c (Pipeline.arrRef spec0 2)) (hafter : ∀ t, dat.after 2 t = blkAt m hO c 2 t) (d) :
    dat.before 2 t d = blkAt m hO c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)
theorem staged3_of (hA : dat.A 3 = atEntry m c (Pipeline.arrRef spec0 3)) (hafter : ∀ t, dat.after 3 t = blkAt m hO c 3 t) (d) :
    dat.before 3 t d = blkAt m hO c 3 t :=
  (dat.before_in_eq_fetched 3 rfl (fun _ => rfl) (fun _ _ _ => rfl) (fun t => by rw [hafter]; unfold Dat.blockOf blkAt; rw [hA]; try rfl) t d).trans
    (by unfold Dat.fetched Dat.blockOf blkAt; rw [hA]; try rfl)
theorem staged4_of (hA : dat.A 4 = atEntry m c (Pipeline.arrRef spec0 4)) (hafter : ∀ t, dat.after 4 t = blkAt m hO c 4 t) (d) :
    dat.before 4 t d = blkAt m hO c 4 t :=
  (dat.before_in_eq_fetched 4 rfl (fun _ => rfl) (fun _ _ _ => rfl) (fun t => by rw [hafter]; unfold Dat.blockOf blkAt; rw [hA]; try rfl) t d).trans
    (by unfold Dat.fetched Dat.blockOf blkAt; rw [hA]; try rfl)
end

/-! ## The staging memrefs at a point -/

section
variable (hO : Fits m) (t : Fin (pipe m hO).N)
abbrev st0 : Memref sig .tc .vmem S256x2048 .bf16 := spec0_0.stage ((pipe m hO).slots t 0)
abbrev stW0 : (st0 m hO t).IsWhole := hstage0_0 (((pipe m hO).slots t 0).cast nbuf0_0)
abbrev st1 : Memref sig .tc .vmem S1x1x2048x3072 .bf16 := spec0_1.stage ((pipe m hO).slots t 1)
abbrev stW1 : (st1 m hO t).IsWhole := hstage0_1 (((pipe m hO).slots t 1).cast nbuf0_1)
abbrev st2 : Memref sig .tc .vmem S1x1x3072 .f32 := spec0_2.stage ((pipe m hO).slots t 2)
abbrev stW2 : (st2 m hO t).IsWhole := hstage0_2 (((pipe m hO).slots t 2).cast nbuf0_2)
abbrev st3 : Memref sig .tc .vmem S1x1x1536x2048 .bf16 := spec0_3.stage ((pipe m hO).slots t 3)
abbrev stW3 : (st3 m hO t).IsWhole := hstage0_3 (((pipe m hO).slots t 3).cast nbuf0_3)
abbrev st4 : Memref sig .tc .vmem S1x1x2048 .f32 := spec0_4.stage ((pipe m hO).slots t 4)
abbrev stW4 : (st4 m hO t).IsWhole := hstage0_4 (((pipe m hO).slots t 4).cast nbuf0_4)
abbrev st5 : Memref sig .tc .vmem S256x2048 .bf16 := spec0_5.stage ((pipe m hO).slots t 5)
abbrev stW5 : (st5 m hO t).IsWhole := hstage0_5 (((pipe m hO).slots t 5).cast nbuf0_5)

/-- The body as the pipeline calls it at point `t`. -/
abbrev bodyAt : Prog (TpuEff nD τ sig (Elt F) Λ₀ .tc) PUnit :=
  cc0_experts (grid0.coords t) teM teW tvM tvW (st0 m hO t) (stW0 m hO t) (st1 m hO t) (stW1 m hO t) (st2 m hO t) (stW2 m hO t) (st3 m hO t) (stW3 m hO t) (st4 m hO t) (stW4 m hO t) (st5 m hO t) (stW5 m hO t)
end
end Cert.Kernel2Ideal.Experts
end

end
-- ==== Proof.ExpertsBody.lean ====
/- The experts kernel's body, run on its staging memrefs: what it leaves in its tile of rows, by the tile's count of used rows. -/
module

public import proofs.«01_k».proof.Proof.ExpertsKit
public import Idealize.ShloMosaic.Lib.WholeRead
public import Idealize.ShloMosaic.Lib.VecWindow

@[expose] public section

set_option maxRecDepth 16384
noncomputable section
namespace Cert.Kernel2Ideal.Experts
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The part of a block a rectangle names. -/
def part {s : Shape} {e : EltTy} (x : s.Idx → Elt F e) (r : Rect s) : r.shape.Idx → Elt F e := fun y => x (r.toLoadRect.idx y)

section
variable (x0 : Vec F S256x2048 .bf16) (x1 : Vec F S1x1x2048x3072 .bf16) (x2 : Vec F S1x1x3072 .f32) (x3 : Vec F S1x1x1536x2048 .bf16) (x4 : Vec F S1x1x2048 .f32)

/-- The first 768 hidden values of each row, before their product with `w_down`. -/
def hidden0 : FVec F S256x768 .bf16 :=
  k0_pay5 (part x0 (Rect.unit (s := S256x2048) ![0, 0] S256x2048.size inb_S256x2048_S256x2048_0_0))
    (part x1 (Rect.unit (s := S1x1x2048x3072) ![0, 0, 0, 0] S1x1x2048x768.size inb_S1x1x2048x3072_S1x1x2048x768_0_0_0_0))
    (part x2 (Rect.unit (s := S1x1x3072) ![0, 0, 0] S1x1x768.size inb_S1x1x3072_S1x1x768_0_0_0))
    (part x1 (Rect.unit (s := S1x1x2048x3072) ![0, 0, 0, 1536] S1x1x2048x768.size inb_S1x1x2048x3072_S1x1x2048x768_0_0_0_1536))
    (part x2 (Rect.unit (s := S1x1x3072) ![0, 0, 1536] S1x1x768.size inb_S1x1x3072_S1x1x768_0_0_1536))

/-- The last 768 hidden values of each row. -/
def hidden1 : FVec F S256x768 .bf16 :=
  k0_pay7 (k0_pay3 (part x0 (Rect.unit (s := S256x2048) ![0, 0] S256x2048.size inb_S256x2048_S256x2048_0_0)))
    (part x1 (Rect.unit (s := S1x1x2048x3072) ![0, 0, 0, 768] S1x1x2048x768.size inb_S1x1x2048x3072_S1x1x2048x768_0_0_0_768))
    (part x2 (Rect.unit (s := S1x1x3072) ![0, 0, 768] S1x1x768.size inb_S1x1x3072_S1x1x768_0_0_768))
    (part x1 (Rect.unit (s := S1x1x2048x3072) ![0, 0, 0, 2304] S1x1x2048x768.size inb_S1x1x2048x3072_S1x1x2048x768_0_0_0_2304))
    (part x2 (Rect.unit (s := S1x1x3072) ![0, 0, 2304] S1x1x768.size inb_S1x1x3072_S1x1x768_0_0_2304))

/-- A tile with used rows: its expert's feed-forward network on each row. -/
def network : FVec F S256x2048 .bf16 :=
  k0_pay2 (k0_pay6 k0_pay4 (hidden0 x0 x1 x2)
      (part x3 (Rect.unit (s := S1x1x1536x2048) ![0, 0, 0, 0] S1x1x768x2048.size inb_S1x1x1536x2048_S1x1x768x2048_0_0_0_0)))
    (hidden1 x0 x1 x2)
    (k0_pay8 (part x3 (Rect.unit (s := S1x1x1536x2048) ![0, 0, 768, 0] S1x1x768x2048.size inb_S1x1x1536x2048_S1x1x768x2048_0_0_768_0)))
    (constant S256x2048 .f32 0x00000000#32)
    (part x4 (Rect.unit (s := S1x1x2048) ![0, 0, 0] S1x1x2048.size inb_S1x1x2048_S1x1x2048_0_0_0))

/-- A tile's rows, by its count `w` of used rows. -/
def tileOf (w : BitVec 32) : FVec F S256x2048 .bf16 := if w = 0#32 then k0_pay1 else network x0 x1 x2 x3 x4
end

theorem empty_iff (w : BitVec 32) : k0_cond1 w = 1#1 ↔ w = 0#32 := by
  by_cases h : w = 0#32
  · subst h; exact ⟨fun _ => rfl, fun _ => by decide⟩
  · have : (w == 0#32) = false := by simpa using h
    simp [k0_cond1, Scalar.cmpi, Scalar.extui, IntOp.cmpi, h, this]

theorem used_iff (w : BitVec 32) : k0_cond2 w = 1#1 ↔ w ≠ 0#32 := by
  by_cases h : w = 0#32
  · subst h; exact ⟨fun h => absurd h (by decide), fun h => absurd rfl h⟩
  · have e : (w != 0#32) = true := by simpa using h
    simp only [k0_cond2, Scalar.cmpi, Scalar.extui, IntOp.cmpi, e]
    exact ⟨fun _ => h, fun _ => by decide⟩

/-- The count of used rows the body reads at point `i`. -/
def count (c : Dev nD) (i : grid0.Coords) (tv : Tb (F := F) c tvM) : BitVec 32 :=
  View.readAt (Elt F) tvM.view (Rect.unit (s := S576) (k0_off1 i) S1.size (k0_off1_inb i)).toLoadRect tv (Shape.Idx.first (numel1_S1.symm ▸ Nat.one_pos))

section
variable (c : Dev nD) (i : grid0.Coords) (arg3 : Memref sig .tc .vmem S256x2048 .bf16) (harg3 : arg3.IsWhole) (arg4 : Memref sig .tc .vmem S1x1x2048x3072 .bf16) (harg4 : arg4.IsWhole) (arg5 : Memref sig .tc .vmem S1x1x3072 .f32) (harg5 : arg5.IsWhole) (arg6 : Memref sig .tc .vmem S1x1x1536x2048 .bf16) (harg6 : arg6.IsWhole) (arg7 : Memref sig .tc .vmem S1x1x2048 .f32) (harg7 : arg7.IsWhole) (arg8 : Memref sig .tc .vmem S256x2048 .bf16) (harg8 : arg8.IsWhole)
    (x0 : Vec F S256x2048 .bf16) (x1 : Vec F S1x1x2048x3072 .bf16) (x2 : Vec F S1x1x3072 .f32) (x3 : Vec F S1x1x1536x2048 .bf16) (x4 : Vec F S1x1x2048 .f32) (te : Tb (F := F) c teM) (tv : Tb (F := F) c tvM)

set_option maxHeartbeats 1000000 in
/-- The body on whole staging memrefs: the blocks and the tables end as they were, the tile's rows at `tileOf`. -/
theorem body_run (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbAt c teM te ∗ tbAt c tvM tv
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tileOf x0 x1 x2 x3 x4 (count c i tv)) ∗ tbAt c teM te ∗ tbAt c tvM tv) -∗ K ⟨⟩))
      ⊢ wp frame (wpE (defs₀ (F := F)) Variants.none c none) E (cc0_experts i teM teW tvM tvW arg3 harg3 arg4 harg4 arg5 harg5 arg6 harg6 arg7 harg7 arg8 harg8) K := by
    simp only [cc0_experts_eq_skeleton]; unfold cc0_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; swap; · iexact H5
      ipureintro
      have hr : body_run.sl.r c i tv = count c i tv := rfl
      have hr1 : body_run.sl.r_1 c i tv = count c i tv := rfl
      rw [hr, hr1]
      unfold tileOf
      by_cases h : count c i tv = 0#32
      · rw [dif_neg (fun h' => (used_iff _).mp h' h), dif_pos ((empty_iff _).mpr h), if_pos h]
        exact View.read_writes_full _ _ _ _ _
      · rw [dif_pos ((used_iff _).mpr h), if_neg h]
        refine (View.read_writes_full _ _ _ _ _).trans ?_
        unfold network hidden0 hidden1
        have k0 : ∀ r, part x0 r = View.readAt (Elt F) arg3.view r.toLoadRect (harg3.unread x0) := fun r => funext fun y => (harg3.readAt_unread x0 _ y).symm
        have k1 : ∀ r, part x1 r = View.readAt (Elt F) arg4.view r.toLoadRect (harg4.unread x1) := fun r => funext fun y => (harg4.readAt_unread x1 _ y).symm
        have k2 : ∀ r, part x2 r = View.readAt (Elt F) arg5.view r.toLoadRect (harg5.unread x2) := fun r => funext fun y => (harg5.readAt_unread x2 _ y).symm
        have k3 : ∀ r, part x3 r = View.readAt (Elt F) arg6.view r.toLoadRect (harg6.unread x3) := fun r => funext fun y => (harg6.readAt_unread x3 _ y).symm
        have k4 : ∀ r, part x4 r = View.readAt (Elt F) arg7.view r.toLoadRect (harg7.unread x4) := fun r => funext fun y => (harg7.readAt_unread x4 _ y).symm
        simp only [k0, k1, k2, k3, k4]
        rfl
    isplitl [HT0]; · iexact HT0
    iexact HT1
end
end Cert.Kernel2Ideal.Experts
end

end
-- ==== Proof.ExpertsRun.lean ====
/- The run of the experts call: every fair execution ends, the arguments as launched and the output array tile by tile at
   what the body leaves. -/
module

public import proofs.«01_k».proof.Proof.ExpertsBody

@[expose] public section

set_option maxRecDepth 16384
noncomputable section
namespace Cert.Kernel2Ideal.Experts
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

section
variable (hO : Fits m)

/-- The pipeline's data: each operand block stays as staged, the tile's rows end at `tileOf`. -/
def data (_ : Fin 1) (c : Dev nD) : Dat τ (Elt F) Unit ℕ (UR sig nD τ) ℕ (pipe m hO) c where
  A w := atEntry m c (Pipeline.arrRef spec0 w)
  after w t := match w with
    | ⟨0, _⟩ => blkAt m hO c 0 t
    | ⟨1, _⟩ => blkAt m hO c 1 t
    | ⟨2, _⟩ => blkAt m hO c 2 t
    | ⟨3, _⟩ => blkAt m hO c 3 t
    | ⟨4, _⟩ => blkAt m hO c 4 t
    | ⟨5, _⟩ => tileOf (blkAt m hO c 0 t) (blkAt m hO c 1 t) (blkAt m hO c 2 t) (blkAt m hO c 3 t) (blkAt m hO c 4 t) (count c (grid0.coords t) (tables m 1))
  Φ _ := iprop(Pipeline.ΦA spec0 c ∗ Pipeline.ΦT pre0 (tables m) c)
  q _ := fullShare
  owed _ := 0

theorem data_A (c : Dev nD) (w : Fin (pipe m hO).W) : (data m hO 0 c).A w = atEntry m c (Pipeline.arrRef spec0 w) := by dsimp only [data]
theorem left0 (c : Dev nD) (t : Fin (pipe m hO).N) : (data m hO 0 c).after 0 t = blkAt m hO c 0 t := by dsimp only [data]; try rfl
theorem left1 (c : Dev nD) (t : Fin (pipe m hO).N) : (data m hO 0 c).after 1 t = blkAt m hO c 1 t := by dsimp only [data]; try rfl
theorem left2 (c : Dev nD) (t : Fin (pipe m hO).N) : (data m hO 0 c).after 2 t = blkAt m hO c 2 t := by dsimp only [data]; try rfl
theorem left3 (c : Dev nD) (t : Fin (pipe m hO).N) : (data m hO 0 c).after 3 t = blkAt m hO c 3 t := by dsimp only [data]; try rfl
theorem left4 (c : Dev nD) (t : Fin (pipe m hO).N) : (data m hO 0 c).after 4 t = blkAt m hO c 4 t := by dsimp only [data]; try rfl
theorem left5 (c : Dev nD) (t : Fin (pipe m hO).N) : (data m hO 0 c).after 5 t
    = tileOf (blkAt m hO c 0 t) (blkAt m hO c 1 t) (blkAt m hO c 2 t) (blkAt m hO c 3 t) (blkAt m hO c 4 t) (count c (grid0.coords t) (tables m 1)) := by
  dsimp only [data]; try rfl
theorem staged0 (c : Dev nD) (t : Fin (pipe m hO).N) (d) : (data m hO 0 c).before 0 t d = blkAt m hO c 0 t :=
  staged0_of m hO (data m hO 0 c) t (data_A m hO c 0) (left0 m hO c) d
theorem staged1 (c : Dev nD) (t : Fin (pipe m hO).N) (d) : (data m hO 0 c).before 1 t d = blkAt m hO c 1 t :=
  staged1_of m hO (data m hO 0 c) t (data_A m hO c 1) (left1 m hO c) d
theorem staged2 (c : Dev nD) (t : Fin (pipe m hO).N) (d) : (data m hO 0 c).before 2 t d = blkAt m hO c 2 t :=
  staged2_of m hO (data m hO 0 c) t (data_A m hO c 2) (left2 m hO c) d
theorem staged3 (c : Dev nD) (t : Fin (pipe m hO).N) (d) : (data m hO 0 c).before 3 t d = blkAt m hO c 3 t :=
  staged3_of m hO (data m hO 0 c) t (data_A m hO c 3) (left3 m hO c) d
theorem staged4 (c : Dev nD) (t : Fin (pipe m hO).N) (d) : (data m hO 0 c).before 4 t d = blkAt m hO c 4 t :=
  staged4_of m hO (data m hO 0 c) t (data_A m hO c 4) (left4 m hO c) d

/-- Every point stores its tile: the two conditions between them cover every count. -/
theorem live5 (i : grid0.Coords) : (pipe m hO).idle 5 i = false := by
  show (!(k0_cond1 ((tables m).atD 1 (k0_off1 i)) == 1#1) && !(k0_cond2 ((tables m).atD 1 (k0_off1 i)) == 1#1)) = false
  by_cases h : (tables m).atD 1 (k0_off1 i) = 0#32
  · rw [(empty_iff _).mpr h]; rfl
  · rw [(used_iff _).mpr h]; simp

/-- What the body is called with at point `t`. -/
def given (c : Dev nD) (t : Fin (pipe m hO).N) : sProp 𝕄 :=
  iprop((data m hO 0 c).Φ t.castSucc ∗ (data m hO 0 c).owesAt () t.castSucc
    ∗ (∃ d, owns (c : Thread nD τ) (st0 m hO t) fullShare ((data m hO 0 c).before 0 t d))
    ∗ (∃ d, owns (c : Thread nD τ) (st1 m hO t) fullShare ((data m hO 0 c).before 1 t d))
    ∗ (∃ d, owns (c : Thread nD τ) (st2 m hO t) fullShare ((data m hO 0 c).before 2 t d))
    ∗ (∃ d, owns (c : Thread nD τ) (st3 m hO t) fullShare ((data m hO 0 c).before 3 t d))
    ∗ (∃ d, owns (c : Thread nD τ) (st4 m hO t) fullShare ((data m hO 0 c).before 4 t d))
    ∗ (∃ d, owns (c : Thread nD τ) (st5 m hO t) fullShare ((data m hO 0 c).before 5 t d)))

/-- What it returns. -/
def returned (c : Dev nD) (t : Fin (pipe m hO).N) : sProp 𝕄 :=
  iprop((data m hO 0 c).Φ t.succ ∗ (data m hO 0 c).owesAt () t.succ
    ∗ owns (c : Thread nD τ) (st0 m hO t) fullShare ((data m hO 0 c).after 0 t)
    ∗ owns (c : Thread nD τ) (st1 m hO t) fullShare ((data m hO 0 c).after 1 t)
    ∗ owns (c : Thread nD τ) (st2 m hO t) fullShare ((data m hO 0 c).after 2 t)
    ∗ owns (c : Thread nD τ) (st3 m hO t) fullShare ((data m hO 0 c).after 3 t)
    ∗ owns (c : Thread nD τ) (st4 m hO t) fullShare ((data m hO 0 c).after 4 t)
    ∗ owns (c : Thread nD τ) (st5 m hO t) fullShare ((data m hO 0 c).after 5 t))

theorem body_at (c : Dev nD) (t : Fin (pipe m hO).N) :
    given m hO c t ⊢ wp frame (wpE (defs₀ (F := F)) Variants.none c none) Set.univ (bodyAt m hO t) (fun _ => returned m hO c t) := by
  unfold given returned bodyAt
  simp only [staged0, staged1, staged2, staged3, staged4]
  rw [show (data m hO 0 c).Φ t.succ = (data m hO 0 c).Φ t.castSucc from rfl,
    show (data m hO 0 c).owesAt () t.succ = (data m hO 0 c).owesAt () t.castSucc from rfl,
    left0, left1, left2, left3, left4, left5]
  rw [show (data m hO 0 c).Φ t.castSucc = iprop(Pipeline.ΦA spec0 c ∗ Pipeline.ΦT pre0 (tables m) c) from rfl, tables_held]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (blkAt m hO c 0 t) (blkAt m hO c 1 t) (blkAt m hO c 2 t) (blkAt m hO c 3 t) (blkAt m hO c 4 t) (tables m 0) (tables m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem row_at (t : Fin (pipe m hO).N) :
    defs₀ (F := F) .tc (pipe m hO).body ((pipe m hO).bodyArgs t ((pipe m hO).slots t)) = bodyAt m hO t := by
  unfold defs₀; rw [Defs.onTc_tc]

theorem obligation (c : Dev nD) : BodyObligation (data (F := F) m hO 0 c) (defs₀ (F := F)) Variants.none () Set.univ := fun t => by
  rw [bigSep_W0, bigSep_W0, row_at m hO]
  refine triple_restated (body_at m hO c t) rfl .rfl fun _ => ?_
  rw [live5]
  exact .rfl

set_option backward.isDefEq.respectTransparency.types false in
/-- Every fair execution ends with every counter at zero, the arrays at what the pipeline's data say. -/
theorem run_all : θ_run defs (onTc (τ := τ) (main (F := F))) (s₀ m ρ)
    (fun r => (Pipeline.FramePost (Pipeline.pin pcfgs fun _ => admitted m hO) (data m hO) 0 (atEntry m)) r ∧ r.2.sem = fun _ => 0) :=
  Pipeline.θ_run_frameP (Q' := _) pcfgs (fun _ => admitted m hO) (data m hO) (0 : Fin 1) launch0 defs₀ Variants.none m ρ main
    (hbody := fun c => (obligation m hO c).loose) (hshare := fun c => (data m hO 0 c).share_full fun _ => rfl)
    (howed := fun _ _ => rfl) (V := atEntry m) (hmain := reaches m Variants.none) (hA := data_A m hO) (hpf := tables_on m) (hΦ := fun _ _ => rfl)

/-- … the argument arrays as launched, and the output array as the pipeline writes it back. -/
theorem run : θ_run defs (onTc (τ := τ) (main (F := F))) ⟨m, fun _ => 0, ρ⟩ (fun r => (∀ c : Dev nD,
      r.2.mem ((c.tc : Thread nD τ).loc main_v9) = (data m hO 0 c).arrAt 5 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
      ((h.1 c).2 main_arg0 (by decide : main_arg0 ∈ Pipeline.restRefs sig spec0)).trans (entry_of_not_written m c _ (by decide)),
      ((h.1 c).2 main_arg1 (by decide : main_arg1 ∈ Pipeline.restRefs sig spec0)).trans (entry_of_not_written m c _ (by decide)),
      ((h.1 c).2 main_arg2 (by decide : main_arg2 ∈ Pipeline.restRefs sig spec0)).trans (entry_of_not_written m c _ (by decide)),
      ((h.1 c).2 main_arg3 (by decide : main_arg3 ∈ Pipeline.restRefs sig spec0)).trans (entry_of_not_written m c _ (by decide)),
      ((h.1 c).2 main_arg4 (by decide : main_arg4 ∈ Pipeline.restRefs sig spec0)).trans (entry_of_not_written m c _ (by decide)),
      ((h.1 c).2 main_arg5 (by decide : main_arg5 ∈ Pipeline.restRefs sig spec0)).trans (entry_of_not_written m c _ (by decide)),
      ((h.1 c).2 main_arg6 (by decide : main_arg6 ∈ Pipeline.restRefs sig spec0)).trans (entry_of_not_written m c _ (by decide))⟩, h.2⟩) (run_all m ρ hO)
end
end Cert.Kernel2Ideal.Experts
end

end
-- ==== Proof.ExpertsFrame.lean ====
/- The experts call's frames: a table of experts in range names blocks inside the weight arrays, so the call runs to its end with its
   arguments as they were. -/
module

public import proofs.«01_k».proof.Defs
public import proofs.«01_k».proof.Proof.Gen.Pre_expert_in_range
public import proofs.«01_k».proof.Proof.Gen.Kernel2.Launch
public import proofs.«01_k».proof.Proof.Gen.Kernel2.Skeleton
public import proofs.«01_k».proof.Proof.Gen.Reference2Ideal.Run
public import proofs.«01_k».proof.Proof.ExpertsRun

@[expose] public section

set_option maxRecDepth 16384
noncomputable section
open Idealize.ShloMosaic Idealize.ShloMosaic.TcCoe Idealize.SL.Sem
namespace Cert.Kernel2Ideal.Experts
open Cert.Kernel2Ideal Cert.Kernel2Ideal.Gen

section
variable {F : FTy → Type} [FloatOps F] (m : (ℓ : Loc nD τ sig) → Buf (Elt F) ℓ)

/-- The experts' table and the counts' table as launched. -/
abbrev argTe (c : Dev nD) : IVec S576 32 := m ((c.tc : Thread nD τ).loc main_arg0)
abbrev argTv (c : Dev nD) : IVec S576 32 := m ((c.tc : Thread nD τ).loc main_arg1)

theorem table0 : (tables m 0 : IVec S576 32) = argTe m 0 := entry_main_arg0 m 0
theorem table1 : (tables m 1 : IVec S576 32) = argTv m 0 := entry_main_arg1 m 0

/-- The place of point `i`'s word in a table. -/
def place (i : grid0.Coords) : S576.Idx := fun | ⟨0, _⟩ => ⟨(i 0).val, (i 0).isLt⟩

theorem wordPlace (i : grid0.Coords) (h : 0 < (Rect.unit (s := S576) (k0_off1 i) S1.size (k0_off1_inb i)).shape.numel) :
    (Rect.unit (s := S576) (k0_off1 i) S1.size (k0_off1_inb i)).emb (Shape.Idx.first h) = place i := by
  funext a
  match a with
  | ⟨0, _⟩ =>
    refine Fin.ext ?_
    show (k0_off1 i 0) + 0 * 1 = (i 0).val
    have : (i 0).val < 576 := (i 0).isLt
    simp only [k0_off1, Scalar.indexCast, Matrix.cons_val_zero, BitVec.toNat_ofNat]
    rw [Nat.mod_eq_of_lt (by omega)]
    omega

/-- The expert of point `i`. -/
def expertAt (i : grid0.Coords) : ℕ := (argTe m 0 (place i)).toNat

theorem word_at (i : grid0.Coords) : ((tables m).at 0 (Rect.unit (s := S576) (k0_off1 i) S1.size (k0_off1_inb i)) numel1_S1 : BitVec 32) = argTe m 0 (place i) := by
  rw [← table0]
  exact congrArg (tables m 0 : IVec S576 32) (wordPlace i _)

theorem index1 (i : grid0.Coords) : cc0_transform_1 k0_off1_inb numel1_S1 (tables m) i = ![0, expertAt m i, 0, 0] := by
  unfold expertAt; rw [← word_at]; rfl
theorem index2 (i : grid0.Coords) : cc0_transform_2 k0_off1_inb numel1_S1 (tables m) i = ![expertAt m i, 0, 0] := by
  unfold expertAt; rw [← word_at]; rfl
theorem index3 (i : grid0.Coords) : cc0_transform_3 k0_off1_inb numel1_S1 (tables m) i = ![0, expertAt m i, 0, 0] := by
  unfold expertAt; rw [← word_at]; rfl
theorem index4 (i : grid0.Coords) : cc0_transform_4 k0_off1_inb numel1_S1 (tables m) i = ![expertAt m i, 0, 0] := by
  unfold expertAt; rw [← word_at]; rfl

/-- Experts below 32 name blocks inside the weight arrays. -/
theorem fits_of_range (h : ∀ n, (argTe m 0 n).toNat < 32) : Fits m := by
  have hi : ∀ i, expertAt m i < 32 := fun i => h _
  refine ⟨fun i => ⟨fun a => ?_, .inr (Affine.block_words_dvd (of_decide_eq_true rfl) (by decide))⟩, fun i => ⟨fun a => ?_, .inl rfl⟩,
    fun i => ⟨fun a => ?_, .inr (Affine.block_words_dvd (of_decide_eq_true rfl) (by decide))⟩, fun i => ⟨fun a => ?_, .inl rfl⟩⟩
  · rw [index1]; have := hi i
    match a with
    | 0 => exact (by decide : (0 + 1) * 1 ≤ 2)
    | 1 => show (expertAt m i + 1) * 1 ≤ 32; omega
    | 2 => exact (by decide : (0 + 1) * 2048 ≤ 2048)
    | 3 => exact (by decide : (0 + 1) * 3072 ≤ 3072)
  · rw [index2]; have := hi i
    match a with
    | 0 => show (expertAt m i + 1) * 1 ≤ 32; omega
    | 1 => exact (by decide : (0 + 1) * 1 ≤ 1)
    | 2 => exact (by decide : (0 + 1) * 3072 ≤ 3072)
  · rw [index3]; have := hi i
    match a with
    | 0 => exact (by decide : (0 + 1) * 1 ≤ 2)
    | 1 => show (expertAt m i + 1) * 1 ≤ 32; omega
    | 2 => exact (by decide : (0 + 1) * 1536 ≤ 1536)
    | 3 => exact (by decide : (0 + 1) * 2048 ≤ 2048)
  · rw [index4]; have := hi i
    match a with
    | 0 => show (expertAt m i + 1) * 1 ≤ 32; omega
    | 1 => exact (by decide : (0 + 1) * 1 ≤ 1)
    | 2 => exact (by decide : (0 + 1) * 2048 ≤ 2048)
end

/-- The precondition's two comparisons of a word: it is below 32. -/
theorem range_of_cmp (w : BitVec 32) (h : IntOp.andi (IntOp.cmpi .sge w 0#32) (IntOp.cmpi .slt w 32#32) = 1#1) : w.toNat < 32 := by
  have hs : BitVec.sle 0#32 w = true ∧ BitVec.slt w 32#32 = true := by
    change BitVec.ofBool (BitVec.sle 0#32 w) &&& BitVec.ofBool (BitVec.slt w 32#32) = 1#1 at h
    revert h
    cases BitVec.sle 0#32 w <;> cases BitVec.slt w 32#32 <;> decide
  obtain ⟨h0, h1⟩ := hs
  simp only [BitVec.sle, BitVec.slt, decide_eq_true_eq] at h0 h1
  have e0 : (0#32 : BitVec 32).toInt = 0 := by decide
  have e1 : (32#32 : BitVec 32).toInt = 32 := by decide
  rw [e0] at h0; rw [e1] at h1
  have := BitVec.toInt_eq_toNat_cond w
  have := w.isLt
  split at * <;> omega

/-- The precondition over any float values: every expert of the table is below 32. -/
theorem range_of_pre {F : FTy → Type} [FloatOps F] (te tv : IVec S576 32) (x : FVec F S147456x2048 .f32) (wg : FVec F S2x32x2048x3072 .f32) (bg : FVec F S2x32x3072 .f32)
    (wd : FVec F S2x32x1536x2048 .f32) (bd : FVec F S2x32x2048 .f32)
    (h : Cert.Pre_expert_in_range.fn (F := F) te tv x wg bg wd bd = fun _ => 1#1) (n : S576.Idx) : (te n).toNat < 32 :=
  range_of_cmp _ (congrFun h n)

end Cert.Kernel2Ideal.Experts

namespace Cert.Experts

/-- The idealized experts call's frame. -/
theorem frame_ideal : Cert.quiescent_Kernel2Ideal := fun m ρ hpre =>
  (θ_run _ _ _).mono (fun _ h => ⟨fun c => (h.1 c).2, h.2⟩)
    (Cert.Kernel2Ideal.Experts.run m ρ (Cert.Kernel2Ideal.Experts.fits_of_range m (Cert.Kernel2Ideal.Experts.range_of_pre _ _ _ _ _ _ _ (hpre 0))))

/-- The reference's frame. -/
theorem frame_reference : Cert.quiescent_Reference2Ideal := fun m ρ _ =>
  (θ_run _ _ _).mono (fun r h => ⟨fun c => (h c).2, sem_eq_zero_of_no_sems (by decide) r.2⟩) (Cert.Reference2Ideal.Value.run m ρ)
/-- The reference's frame from experts in range. -/
theorem frame_reference_pre : Cert.quiescent_Reference2Ideal_pre_expert_in_range := fun m ρ _ =>
  (θ_run _ _ _).mono (fun r h => ⟨fun c => (h c).2, sem_eq_zero_of_no_sems (by decide) r.2⟩) (Cert.Reference2Ideal.Value.run m ρ)
end Cert.Experts
end

end
-- ==== Proof.ExpertsCompiled.lean ====
/- The experts call as compiled has the idealized call's text, so its frame is that call's run over words. -/
module

public import proofs.«01_k».proof.Proof.ExpertsFrame

@[expose] public section
set_option maxRecDepth 16384
noncomputable section
open Idealize.ShloMosaic Idealize.ShloMosaic.TcCoe Idealize.SL.Sem
namespace Cert.Experts

set_option maxHeartbeats 1000000 in
theorem body_same : @Cert.Kernel2.cc0_experts Bits _ _ = @Cert.Kernel2Ideal.cc0_experts Bits _ _ := rfl

set_option maxHeartbeats 1000000 in
theorem bodies_same : @Cert.Kernel2.defs₀ Bits _ _ = @Cert.Kernel2Ideal.defs₀ Bits _ _ := by
  unfold Cert.Kernel2.defs₀ Cert.Kernel2Ideal.defs₀
  refine congrArg Defs.onTc (funext fun l => funext fun x => ?_)
  match l, x with
  | ⟨0, _⟩, (t, s) => rfl

set_option maxHeartbeats 1000000 in
theorem regions_same : @Cert.Kernel2.pcfg0 Bits _ _ = @Cert.Kernel2Ideal.pcfg0 Bits _ _ := rfl

set_option maxHeartbeats 1000000 in
theorem defs_same : @Cert.Kernel2.defs Bits _ _ = @Cert.Kernel2Ideal.defs Bits _ _ :=
  congrArg (Pipeline.defs Cert.Kernel2Ideal.pcfgs) bodies_same

set_option maxHeartbeats 1000000 in
theorem main_same : @Cert.Kernel2.main Bits _ _ = @Cert.Kernel2Ideal.main Bits _ _ := rfl

set_option maxHeartbeats 4000000 in
/-- The experts call's frame as compiled. -/
theorem frame_kernel : Cert.quiescent_Kernel2 := fun m ρ hpre => by
  rw [defs_same, main_same]
  exact (θ_run Cert.Kernel2Ideal.defs _ _).mono (fun _ h => ⟨fun c => (h.1 c).2, h.2⟩)
    (Cert.Kernel2Ideal.Experts.run (F := Bits) m ρ (Cert.Kernel2Ideal.Experts.fits_of_range (F := Bits) m (Cert.Kernel2Ideal.Experts.range_of_pre (F := Bits) _ _ _ _ _ _ _ (hpre 0))))
end Cert.Experts
end

end
-- ==== Proof.ExpertsNet.lean ====
/- One row of the experts' network at an index: the hidden values and their product with `w_down`. -/
module

public import Idealize.ShloMosaic.Lib.Claim
public import Idealize.ShloMosaic.Lib.Pipeline.ValueKit
public import proofs.«01_k».proof.Proof.ExpertsBody

@[expose] public section

set_option maxRecDepth 16384
noncomputable section
open Idealize.ShloMosaic Idealize.ShloMosaic.TcCoe Idealize.SL.Sem
open scoped BigOperators

namespace Cert.Experts

/-- The gated activation of a gate value `u` and a linear value `v`, both clipped. -/
def act (u v : EReal) : EReal :=
  min u (Ideal.ofBits .f32 0x40E00000#32) * Ideal.logistic (Ideal.ofBits .f32 0x3FD9DB23#32 * min u (Ideal.ofBits .f32 0x40E00000#32))
    * (min (Ideal.ofBits .f32 0x40E00000#32) (max (Ideal.ofBits .f32 0xC0E00000#32) v) + 1)

section
variable (x : Fin 2048 → EReal) (w : Fin 2048 → Fin 3072 → EReal) (b : Fin 3072 → EReal) (wd : Fin 1536 → EReal) (bd : EReal)

/-- A row `x`'s value of the joined gate and linear products in column `f`. -/
def pre (f : Fin 3072) : EReal := ∑ k, x k * w k f + b f

/-- A row's hidden value: its gate columns come first, its linear columns 1536 later. -/
def hid (f : Fin 1536) : EReal := act (pre x w b ⟨f.val, by omega⟩) (pre x w b ⟨1536 + f.val, by omega⟩)

/-- A row's result in one column, of that column `wd` of the second weights and its bias. -/
def rowOut : EReal := ∑ f, hid x w b f * wd f + bd
end
end Cert.Experts

namespace Cert.Kernel2Ideal.Experts
open Cert.Kernel2Ideal Cert.Kernel2Ideal.Gen Cert.Experts

section
variable (x0 : Vec Ideal S256x2048 .bf16) (x1 : Vec Ideal S1x1x2048x3072 .bf16) (x2 : Vec Ideal S1x1x3072 .f32) (x3 : Vec Ideal S1x1x1536x2048 .bf16) (x4 : Vec Ideal S1x1x2048 .f32)

theorem pay5_at (x : Vec Ideal S256x2048 .bf16) (wg : Vec Ideal S1x1x2048x768 .bf16) (bg : Vec Ideal S1x1x768 .f32) (wl : Vec Ideal S1x1x2048x768 .bf16) (bl : Vec Ideal S1x1x768 .f32)
    (r : Fin 256) (f : Fin 768) : k0_pay5 (F := Ideal) x wg bg wl bl (ix2 r f)
      = act (∑ k, x (ix2 r k) * wg (ix4 0 0 k f) + bg (ix3 0 0 f)) (∑ k, x (ix2 r k) * wl (ix4 0 0 k f) + bl (ix3 0 0 f)) := by
  unfold k0_pay5 k0_pay3 act
  pointwise

theorem pay7_at (x : Vec Ideal S256x2048 .bf16) (wg : Vec Ideal S1x1x2048x768 .bf16) (bg : Vec Ideal S1x1x768 .f32) (wl : Vec Ideal S1x1x2048x768 .bf16) (bl : Vec Ideal S1x1x768 .f32)
    (r : Fin 256) (f : Fin 768) : k0_pay7 (F := Ideal) (k0_pay3 x) wg bg wl bl (ix2 r f)
      = act (∑ k, x (ix2 r k) * wg (ix4 0 0 k f) + bg (ix3 0 0 f)) (∑ k, x (ix2 r k) * wl (ix4 0 0 k f) + bl (ix3 0 0 f)) := by
  unfold k0_pay7 k0_pay3 act
  pointwise

/-- A half of the hidden values, of its blocks of the first weights and their bias, starting at columns `o` and `1536 + o`. -/
theorem half_at (o : ℕ) (ho : o + 768 ≤ 1536) (x : Vec Ideal S256x2048 .bf16) (wg : Vec Ideal S1x1x2048x768 .bf16) (bg : Vec Ideal S1x1x768 .f32) (wl : Vec Ideal S1x1x2048x768 .bf16) (bl : Vec Ideal S1x1x768 .f32)
    (hx : x = x0) (hg : ∀ k f, wg (ix4 0 0 k f) = x1 (ix4 0 0 k ⟨o + f.val, by omega⟩)) (hbg : ∀ f, bg (ix3 0 0 f) = x2 (ix3 0 0 ⟨o + f.val, by omega⟩))
    (hl : ∀ k f, wl (ix4 0 0 k f) = x1 (ix4 0 0 k ⟨1536 + (o + f.val), by omega⟩)) (hbl : ∀ f, bl (ix3 0 0 f) = x2 (ix3 0 0 ⟨1536 + (o + f.val), by omega⟩))
    (r : Fin 256) (f : Fin 768) :
    act (∑ k, x (ix2 r k) * wg (ix4 0 0 k f) + bg (ix3 0 0 f)) (∑ k, x (ix2 r k) * wl (ix4 0 0 k f) + bl (ix3 0 0 f))
      = hid (fun k => x0 (ix2 r k)) (fun k f => x1 (ix4 0 0 k f)) (fun f => x2 (ix3 0 0 f)) ⟨o + f.val, by omega⟩ := by
  unfold hid pre
  rw [hbg, hbl, hx]
  simp only [hg, hl]

theorem hidden0_at (r : Fin 256) (f : Fin 768) :
    hidden0 x0 x1 x2 (ix2 r f) = hid (fun k => x0 (ix2 r k)) (fun k f => x1 (ix4 0 0 k f)) (fun f => x2 (ix3 0 0 f)) ⟨0 + f.val, by omega⟩ := by
  unfold hidden0
  refine (pay5_at _ _ _ _ _ r f).trans (half_at x0 x1 x2 0 (by norm_num) _ _ _ _ _ ?_ (fun k f => ?_) (fun f => ?_) (fun k f => ?_) (fun f => ?_) r f)
  · funext y
    obtain ⟨a, b, rfl⟩ : ∃ (a : Fin 256) (b : Fin 2048), y = ix2 a b := ⟨y 0, y 1, by funext a; match a with | 0 => rfl | 1 => rfl⟩
    unfold part; pointwise
  all_goals (unfold part; pointwise)

theorem hidden1_at (r : Fin 256) (f : Fin 768) :
    hidden1 x0 x1 x2 (ix2 r f) = hid (fun k => x0 (ix2 r k)) (fun k f => x1 (ix4 0 0 k f)) (fun f => x2 (ix3 0 0 f)) ⟨768 + f.val, by omega⟩ := by
  unfold hidden1
  refine (pay7_at _ _ _ _ _ r f).trans (half_at x0 x1 x2 768 (by norm_num) _ _ _ _ _ ?_ (fun k f => ?_) (fun f => ?_) (fun k f => ?_) (fun f => ?_) r f)
  · funext y
    obtain ⟨a, b, rfl⟩ : ∃ (a : Fin 256) (b : Fin 2048), y = ix2 a b := ⟨y 0, y 1, by funext a; match a with | 0 => rfl | 1 => rfl⟩
    unfold part; pointwise
  · unfold part; pointwise
  · unfold part; pointwise
  · unfold part; pointwise
    exact congrArg (fun j => x1 (ix4 0 0 k j)) (Fin.ext (by show 2304 + f.val = 1536 + (768 + f.val); omega))
  · unfold part; pointwise
    exact congrArg (fun j => x2 (ix3 0 0 j)) (Fin.ext (by show 2304 + f.val = 1536 + (768 + f.val); omega))

/-- The two halves' products, added to zero one after the other, and the bias. -/
theorem pay2_at (h h' : FVec Ideal S256x768 .bf16) (d0 d1 : Vec Ideal S1x1x768x2048 .bf16) (b : Vec Ideal S1x1x2048 .f32) (r : Fin 256) (d : Fin 2048) :
    k0_pay2 (F := Ideal) (k0_pay6 k0_pay4 h d0) h' (k0_pay8 d1) (constant S256x2048 .f32 0x00000000#32) b (ix2 r d)
      = ∑ f, h (ix2 r f) * d0 (ix4 0 0 f d) + ∑ f, h' (ix2 r f) * d1 (ix4 0 0 f d) + b (ix3 0 0 d) := by
  unfold k0_pay2 k0_pay6 k0_pay4 k0_pay8
  pointwise

/-- A used tile's network at a row and a column. -/
theorem network_at (r : Fin 256) (d : Fin 2048) :
    network x0 x1 x2 x3 x4 (ix2 r d)
      = rowOut (fun k => x0 (ix2 r k)) (fun k f => x1 (ix4 0 0 k f)) (fun f => x2 (ix3 0 0 f)) (fun f => x3 (ix4 0 0 f d)) (x4 (ix3 0 0 d)) := by
  unfold network
  refine (pay2_at _ _ _ _ _ r d).trans ?_
  unfold rowOut
  refine congrArg₂ (fun a b : EReal => a + b) (Eq.trans ?_ (Fin.sum_univ_add (a := 768) (b := 768) (fun f : Fin 1536 => hid (fun k => x0 (ix2 r k)) (fun k f => x1 (ix4 0 0 k f)) (fun f => x2 (ix3 0 0 f)) f * x3 (ix4 0 0 f d))).symm) ?_
  · refine congrArg₂ (fun a b : EReal => a + b) (Finset.sum_congr rfl fun f _ => congrArg₂ (fun a b : EReal => a * b) ((hidden0_at x0 x1 x2 r f).trans ?_) ?_)
      (Finset.sum_congr rfl fun f _ => congrArg₂ (fun a b : EReal => a * b) ((hidden1_at x0 x1 x2 r f).trans ?_) ?_)
    · exact congrArg _ (Fin.ext (Nat.zero_add _))
    · unfold part; pointwise; congr 2
    · rfl
    · unfold part; pointwise; congr 2
  · unfold part; pointwise

/-- An unused tile is zero. -/
theorem pay1_at (r : Fin 256) (d : Fin 2048) : k0_pay1 (F := Ideal) (ix2 r d) = 0 := by
  unfold k0_pay1; pointwise
end
end Cert.Kernel2Ideal.Experts
end

end
-- ==== Proof.ExpertsValue.lean ====
/- The experts call's result array: a used tile's row is its expert's network on the row, an unused tile's row is zero. -/
module

public import proofs.«01_k».proof.Proof.ExpertsFrame
public import proofs.«01_k».proof.Proof.ExpertsNet
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open scoped BigOperators
namespace Cert.Kernel2Ideal.Experts
open Cert.Kernel2Ideal Cert.Kernel2Ideal.Gen Cert.Experts
variable (m : (ℓ : Loc nD τ sig) → Buf (Elt Ideal) ℓ)

abbrev argX (c : Dev nD) : FVec Ideal S147456x2048 .f32 := m ((c.tc : Thread nD τ).loc main_arg2)
abbrev argWg (c : Dev nD) : FVec Ideal S2x32x2048x3072 .f32 := m ((c.tc : Thread nD τ).loc main_arg3)
abbrev argBg (c : Dev nD) : FVec Ideal S2x32x3072 .f32 := m ((c.tc : Thread nD τ).loc main_arg4)
abbrev argWd (c : Dev nD) : FVec Ideal S2x32x1536x2048 .f32 := m ((c.tc : Thread nD τ).loc main_arg5)
abbrev argBd (c : Dev nD) : FVec Ideal S2x32x2048 .f32 := m ((c.tc : Thread nD τ).loc main_arg6)

/-! ## The operands when the call starts -/

theorem entX (c : Dev nD) : (atEntry m c main_v0 : FVec Ideal S147456x2048 .bf16) = truncf .bf16 (argX m c) bitsLt_bf16_f32 := by
  unfold atEntry hostOps0
  after_results
  try rfl
theorem entWg (c : Dev nD) : (atEntry m c main_v1 : FVec Ideal S2x32x2048x3072 .bf16) = truncf .bf16 (argWg m c) bitsLt_bf16_f32 := by
  unfold atEntry hostOps0
  after_results
  try rfl
theorem entBg (c : Dev nD) : (atEntry m c main_v7 : FVec Ideal S32x1x3072 .f32)
    = shapeCast S32x1x3072 (shapeCast S32x3072 (extractStridedSlice S1x32x3072 ![0, 0, 0] (argBg m c) slices_S2x32x3072_S1x32x3072_0_0_0) shapeCasts_S1x32x3072_S32x3072) shapeCasts_S32x3072_S32x1x3072 := by
  unfold atEntry hostOps0
  after_results
  try rfl
theorem entWd (c : Dev nD) : (atEntry m c main_v4 : FVec Ideal S2x32x1536x2048 .bf16) = truncf .bf16 (argWd m c) bitsLt_bf16_f32 := by
  unfold atEntry hostOps0
  after_results
  try rfl
theorem entBd (c : Dev nD) : (atEntry m c main_v8 : FVec Ideal S32x1x2048 .f32)
    = shapeCast S32x1x2048 (shapeCast S32x2048 (extractStridedSlice S1x32x2048 ![0, 0, 0] (argBd m c) slices_S2x32x2048_S1x32x2048_0_0_0) shapeCasts_S1x32x2048_S32x2048) shapeCasts_S32x2048_S32x1x2048 := by
  unfold atEntry hostOps0
  after_results
  try rfl

theorem bg_at (b : FVec Ideal S2x32x3072 .f32) (e : Fin 32) (f : Fin 3072) :
    shapeCast S32x1x3072 (shapeCast S32x3072 (extractStridedSlice S1x32x3072 ![0, 0, 0] b slices_S2x32x3072_S1x32x3072_0_0_0) shapeCasts_S1x32x3072_S32x3072) shapeCasts_S32x3072_S32x1x3072 (ix3 e 0 f) = b (ix3 0 e f) := by
  pointwise
theorem bd_at (b : FVec Ideal S2x32x2048 .f32) (e : Fin 32) (d : Fin 2048) :
    shapeCast S32x1x2048 (shapeCast S32x2048 (extractStridedSlice S1x32x2048 ![0, 0, 0] b slices_S2x32x2048_S1x32x2048_0_0_0) shapeCasts_S1x32x2048_S32x2048) shapeCasts_S32x2048_S32x1x2048 (ix3 e 0 d) = b (ix3 0 e d) := by
  pointwise

/-! ## The tables at a point -/

theorem coord : ∀ t : Fin grid0.N, (grid0.coords t 0).val = t.val ∧ t.val < 576 := by decide +kernel
theorem place_eq (t : Fin grid0.N) (h : t.val < 576) : place (grid0.coords t) = ix1 ⟨t.val, h⟩ := by
  funext a
  match a with
  | ⟨0, _⟩ => exact Fin.ext (coord t).1
theorem expert_eq (t : Fin grid0.N) (h : t.val < 576) : expertAt m (grid0.coords t) = (argTe m 0 (ix1 ⟨t.val, h⟩)).toNat := by
  unfold expertAt; rw [place_eq t h]
theorem count_eq (c : Dev nD) (t : Fin grid0.N) (h : t.val < 576) : count (F := Ideal) c (grid0.coords t) (tables m 1) = argTv m 0 (ix1 ⟨t.val, h⟩) := by
  rw [← place_eq t h, ← table1]
  unfold count
  exact congrArg (tables m 1 : IVec S576 32) (wordPlace (grid0.coords t) _)

theorem indexOut : ∀ t : Fin grid0.N, cc0_transform_5 (grid0.coords t) = ![t.val, 0] := by decide +kernel
theorem index0 : ∀ t : Fin grid0.N, cc0_transform_0 (grid0.coords t) = ![t.val, 0] := by decide +kernel

section
variable (hO : Fits m) (c : Dev nD) (t : Fin (pipe m hO).N)

theorem ix_0 : ((pipe m hO).win 0).index t = ![t.val, 0] := index0 t
theorem ix_1 : ((pipe m hO).win 1).index t = ![0, expertAt m (grid0.coords t), 0, 0] := index1 m (grid0.coords t)
theorem ix_2 : ((pipe m hO).win 2).index t = ![expertAt m (grid0.coords t), 0, 0] := index2 m (grid0.coords t)
theorem ix_3 : ((pipe m hO).win 3).index t = ![0, expertAt m (grid0.coords t), 0, 0] := index3 m (grid0.coords t)
theorem ix_4 : ((pipe m hO).win 4).index t = ![expertAt m (grid0.coords t), 0, 0] := index4 m (grid0.coords t)
theorem ix_5 : ((pipe m hO).win 5).index t = ![t.val, 0] := indexOut t

/-! ## The staged blocks -/

theorem blk0_at (r : Fin 256) (k : Fin 2048) (h : t.val * 256 + r.val < 147456) :
    blkAt m hO c 0 t (ix2 r k) = argX m c (ix2 ⟨t.val * 256 + r.val, h⟩ k) := by
  refine Eq.trans ?_ (congrFun (entX m c) (ix2 ⟨t.val * 256 + r.val, h⟩ k))
  refine congrArg (atEntry m c main_v0 : FVec Ideal S147456x2048 .bf16) ?_
  have e := ix_0 m hO t
  funext a
  refine Fin.ext ?_
  match a with
  | ⟨0, _⟩ =>
    show ((pipe m hO).win 0).index t (0 : Fin 2) * 256 + 1 * r.val = t.val * 256 + r.val
    rw [congrFun e (0 : Fin 2)]; simp
  | ⟨1, _⟩ =>
    show ((pipe m hO).win 0).index t (1 : Fin 2) * 2048 + 1 * k.val = k.val
    rw [congrFun e (1 : Fin 2)]; simp
theorem blk1_at (k : Fin 2048) (f : Fin 3072) (e : Fin 32) (he : expertAt m (grid0.coords t) = e.val) :
    blkAt m hO c 1 t (ix4 0 0 k f) = argWg m c (ix4 0 e k f) := by
  refine Eq.trans ?_ (congrFun (entWg m c) (ix4 0 e k f))
  refine congrArg (atEntry m c main_v1 : FVec Ideal S2x32x2048x3072 .bf16) ?_
  have i := ix_1 m hO t
  rw [he] at i
  funext a
  refine Fin.ext ?_
  match a with
  | ⟨0, _⟩ =>
    show ((pipe m hO).win 1).index t (0 : Fin 4) * 1 + 1 * 0 = 0
    rw [congrFun i (0 : Fin 4)]; simp
  | ⟨1, _⟩ =>
    show ((pipe m hO).win 1).index t (1 : Fin 4) * 1 + 1 * 0 = e.val
    rw [congrFun i (1 : Fin 4)]; simp
  | ⟨2, _⟩ =>
    show ((pipe m hO).win 1).index t (2 : Fin 4) * 2048 + 1 * k.val = k.val
    rw [congrFun i (2 : Fin 4)]; simp
  | ⟨3, _⟩ =>
    show ((pipe m hO).win 1).index t (3 : Fin 4) * 3072 + 1 * f.val = f.val
    rw [congrFun i (3 : Fin 4)]; simp
theorem blk2_at (f : Fin 3072) (e : Fin 32) (he : expertAt m (grid0.coords t) = e.val) :
    blkAt m hO c 2 t (ix3 0 0 f) = argBg m c (ix3 0 e f) := by
  refine Eq.trans ?_ ((congrFun (entBg m c) (ix3 e 0 f)).trans (bg_at _ e f))
  refine congrArg (atEntry m c main_v7 : FVec Ideal S32x1x3072 .f32) ?_
  have i := ix_2 m hO t
  rw [he] at i
  funext a
  refine Fin.ext ?_
  match a with
  | ⟨0, _⟩ =>
    show ((pipe m hO).win 2).index t (0 : Fin 3) * 1 + 1 * 0 = e.val
    rw [congrFun i (0 : Fin 3)]; simp
  | ⟨1, _⟩ =>
    show ((pipe m hO).win 2).index t (1 : Fin 3) * 1 + 1 * 0 = 0
    rw [congrFun i (1 : Fin 3)]; simp
  | ⟨2, _⟩ =>
    show ((pipe m hO).win 2).index t (2 : Fin 3) * 3072 + 1 * f.val = f.val
    rw [congrFun i (2 : Fin 3)]; simp
theorem blk3_at (f : Fin 1536) (d : Fin 2048) (e : Fin 32) (he : expertAt m (grid0.coords t) = e.val) :
    blkAt m hO c 3 t (ix4 0 0 f d) = argWd m c (ix4 0 e f d) := by
  refine Eq.trans ?_ (congrFun (entWd m c) (ix4 0 e f d))
  refine congrArg (atEntry m c main_v4 : FVec Ideal S2x32x1536x2048 .bf16) ?_
  have i := ix_3 m hO t
  rw [he] at i
  funext a
  refine Fin.ext ?_
  match a with
  | ⟨0, _⟩ =>
    show ((pipe m hO).win 3).index t (0 : Fin 4) * 1 + 1 * 0 = 0
    rw [congrFun i (0 : Fin 4)]; simp
  | ⟨1, _⟩ =>
    show ((pipe m hO).win 3).index t (1 : Fin 4) * 1 + 1 * 0 = e.val
    rw [congrFun i (1 : Fin 4)]; simp
  | ⟨2, _⟩ =>
    show ((pipe m hO).win 3).index t (2 : Fin 4) * 1536 + 1 * f.val = f.val
    rw [congrFun i (2 : Fin 4)]; simp
  | ⟨3, _⟩ =>
    show ((pipe m hO).win 3).index t (3 : Fin 4) * 2048 + 1 * d.val = d.val
    rw [congrFun i (3 : Fin 4)]; simp
theorem blk4_at (d : Fin 2048) (e : Fin 32) (he : expertAt m (grid0.coords t) = e.val) :
    blkAt m hO c 4 t (ix3 0 0 d) = argBd m c (ix3 0 e d) := by
  refine Eq.trans ?_ ((congrFun (entBd m c) (ix3 e 0 d)).trans (bd_at _ e d))
  refine congrArg (atEntry m c main_v8 : FVec Ideal S32x1x2048 .f32) ?_
  have i := ix_4 m hO t
  rw [he] at i
  funext a
  refine Fin.ext ?_
  match a with
  | ⟨0, _⟩ =>
    show ((pipe m hO).win 4).index t (0 : Fin 3) * 1 + 1 * 0 = e.val
    rw [congrFun i (0 : Fin 3)]; simp
  | ⟨1, _⟩ =>
    show ((pipe m hO).win 4).index t (1 : Fin 3) * 1 + 1 * 0 = 0
    rw [congrFun i (1 : Fin 3)]; simp
  | ⟨2, _⟩ =>
    show ((pipe m hO).win 4).index t (2 : Fin 3) * 2048 + 1 * d.val = d.val
    rw [congrFun i (2 : Fin 3)]; simp
end

/-- Row `n`'s result in column `d`, under expert `e` where its tile is used. -/
def ROW (c : Dev nD) (used : Prop) [Decidable used] (e : Fin 32) (n : Fin 147456) (d : Fin 2048) : EReal :=
  if used then rowOut (fun k => argX m c (ix2 n k)) (fun k f => argWg m c (ix4 0 e k f)) (fun f => argBg m c (ix3 0 e f)) (fun f => argWd m c (ix4 0 e f d)) (argBd m c (ix3 0 e d))
  else 0

/-- What point `t` leaves at row `r` and column `d` of its tile. -/
theorem point (hO : Fits m) (c : Dev nD) (t : Fin (pipe m hO).N) (r : Fin 256) (d : Fin 2048) (ht : t.val < 576) (h : t.val * 256 + r.val < 147456)
    (e : Fin 32) (he : (argTe m 0 (ix1 ⟨t.val, ht⟩)).toNat = e.val) :
    (data m hO 0 c).after 5 t (ix2 r d) = ROW m c (argTv m 0 (ix1 ⟨t.val, ht⟩) ≠ 0#32) e ⟨t.val * 256 + r.val, h⟩ d := by
  have he' : expertAt m (grid0.coords t) = e.val := (expert_eq m t ht).trans he
  rw [left5, count_eq m c t ht]
  unfold tileOf ROW
  by_cases hu : argTv m 0 (ix1 ⟨t.val, ht⟩) = 0#32
  · rw [if_pos hu, if_neg (fun h' => h' hu)]
    exact pay1_at r d
  · rw [if_neg hu, if_pos hu]
    refine (network_at _ _ _ _ _ r d).trans ?_
    rw [blk4_at m hO c t d e he']
    simp only [blk0_at m hO c t r _ h, blk1_at m hO c t _ _ e he', blk2_at m hO c t _ e he', blk3_at m hO c t _ d e he']

/-- Every row is some point's. -/
theorem covers (hO : Fits m) : ((pipe m hO).win 5).Covers := by
  have hf : ∀ t : Fin grid0.N, Pipeline.Window.flushOf grid0 true cc0_transform_5 t = true := by decide +kernel
  refine ⟨fun a => ?_, fun β => ?_⟩
  · match a with
    | ⟨0, _⟩ => exact (by decide : 0 < 256)
    | ⟨1, _⟩ => exact (by decide : 0 < 2048)
  · have h0 := (β (0 : Fin 2)).isLt
    have h1 := (β (1 : Fin 2)).isLt
    change (β (0 : Fin 2)).val < (147456 + 256 - 1) / 256 at h0
    change (β (1 : Fin 2)).val < (2048 + 2048 - 1) / 2048 at h1
    have hN : (β (0 : Fin 2)).val < grid0.N := lt_of_lt_of_eq h0 (by decide +kernel : (147456 + 256 - 1) / 256 = grid0.N)
    have e := ix_5 m hO ⟨(β (0 : Fin 2)).val, hN⟩
    refine ⟨⟨(β (0 : Fin 2)).val, hN⟩, hf _, fun a => ⟨?_, .inl ?_⟩⟩
    · match a with
      | ⟨0, _⟩ => exact congrFun e (0 : Fin 2)
      | ⟨1, _⟩ => exact (congrFun e (1 : Fin 2)).trans (show 0 = (β (1 : Fin 2)).val by omega)
    · match a with
      | ⟨0, _⟩ => rfl
      | ⟨1, _⟩ => rfl

/-- The call's result, every row under the expert its tile's entry of the table names. -/
def result (c : Dev nD) (hr : ∀ n, (argTe m 0 n).toNat < 32) : FVec Ideal S147456x2048 .bf16 := fun i =>
  ROW m c (argTv m 0 (ix1 ⟨(i 0).val / 256, by have h : (i 0).val < 147456 := (i 0).isLt; omega⟩) ≠ 0#32)
    ⟨_, hr (ix1 ⟨(i 0).val / 256, by have h : (i 0).val < 147456 := (i 0).isLt; omega⟩)⟩ ⟨(i 0).val, (i 0).isLt⟩ ⟨(i 1).val, (i 1).isLt⟩

theorem result_at (c : Dev nD) (hr : ∀ n, (argTe m 0 n).toNat < 32) (q : ℕ) (hq : q < 576) (r : Fin 256) (d : Fin 2048) (h : q * 256 + r.val < 147456)
    (i : S147456x2048.Idx) (h0 : (i 0).val = q * 256 + r.val) (h1 : (i 1).val = d.val) :
    result m c hr i = ROW m c (argTv m 0 (ix1 ⟨q, hq⟩) ≠ 0#32) ⟨_, hr (ix1 ⟨q, hq⟩)⟩ ⟨q * 256 + r.val, h⟩ d := by
  have hdiv : (q * 256 + r.val) / 256 = q := by have := r.isLt; omega
  unfold result
  simp only [h0, h1, hdiv, Fin.eta]

/-- THE RESULT ARRAY of the call. -/
theorem final (hO : Fits m) (c : Dev nD) (hr : ∀ n, (argTe m 0 n).toNat < 32) :
    (data m hO 0 c).arrAt 5 (pipe m hO).N = result m c hr :=
  (data m hO 0 c).arrAt_eq_of_covers 5 (result m c hr) (covers m hO) fun t _ y => by
    have hN : t.val < 576 := (coord t).2
    obtain ⟨r, d, rfl⟩ : ∃ (r : Fin 256) (d : Fin 2048), y = ix2 r d := ⟨y (0 : Fin 2), y (1 : Fin 2), by
      funext a
      match a with
      | ⟨0, _⟩ => rfl
      | ⟨1, _⟩ => rfl⟩
    have hr' : r.val < 256 := r.isLt
    have hb : t.val * 256 + r.val < 147456 := by omega
    have e := ix_5 m hO t
    refine (point m hO c t r d hN hb ⟨_, hr (ix1 ⟨t.val, hN⟩)⟩ rfl).trans
      (result_at m c hr t.val hN r d hb _ ?_ ?_).symm
    · show ((pipe m hO).win 5).index t (0 : Fin 2) * 256 + 1 * r.val = t.val * 256 + r.val
      rw [congrFun e (0 : Fin 2)]; simp
    · show ((pipe m hO).win 5).index t (1 : Fin 2) * 2048 + 1 * d.val = d.val
      rw [congrFun e (1 : Fin 2)]; simp
end Cert.Kernel2Ideal.Experts
end

end
-- ==== Proof.ExpertsRef.lean ====
/- The experts reference's result at a row and a column. -/
module

public import proofs.«01_k».proof.Proof.Gen.Reference2Ideal.Run
public import proofs.«01_k».proof.Proof.ExpertsNet
public import Idealize.ShloMosaic.Lib.Claim

@[expose] public section

set_option maxRecDepth 16384
noncomputable section
open Idealize.ShloMosaic Idealize.ShloMosaic.TcCoe Idealize.SL.Sem
open scoped BigOperators
namespace Cert.Reference2Ideal.Value
open Cert.Reference2Ideal Cert.Reference2Ideal.Gen Cert.Experts
variable (m : (ℓ : Loc nD τ sig) → Buf (Elt Ideal) ℓ)

section
variable (te tv : IVec S576 32) (x : FVec Ideal S147456x2048 .f32) (wg : FVec Ideal S2x32x2048x3072 .f32) (bg : FVec Ideal S2x32x3072 .f32)
  (wd : FVec Ideal S2x32x1536x2048 .f32) (bd : FVec Ideal S2x32x2048 .f32)

/-- Every row's first products with every expert of layer 0. -/
theorem pre_at (e : Fin 32) (n : Fin 147456) (f : Fin 3072) :
    addf (transpose S32x147456x3072 [0, 2, 1] (Host.dotGeneral (F := Ideal) dot_S32x2048x3072_S147456x2048_S32x3072x147456_1_1_02_0_n_n none (shapeCast S32x2048x3072 (extractStridedSlice S1x32x2048x3072 ![0, 0, 0, 0] wg slices_S2x32x2048x3072_S1x32x2048x3072_0_0_0_0) shapeCasts_S1x32x2048x3072_S32x2048x3072) x) transposes_S32x3072x147456_S32x147456x3072_0_2_1) (broadcastInDim S32x147456x3072 ![0, 1, 2] bcast_S32x1x3072_S32x147456x3072_0_1_2 (broadcastInDim S32x1x3072 ![0, 2] bcast_S32x3072_S32x1x3072_0_2 (shapeCast S32x3072 (extractStridedSlice S1x32x3072 ![0, 0, 0] bg slices_S2x32x3072_S1x32x3072_0_0_0) shapeCasts_S1x32x3072_S32x3072))) (ix3 e n f)
    = pre (fun k => x (ix2 n k)) (fun k f => wg (ix4 0 e k f)) (fun f => bg (ix3 0 e f)) f := by
  unfold pre
  pointwise
  exact congrArg (fun a : EReal => a + _) (Finset.sum_congr rfl fun k _ => mul_comm _ _)

/-- The hidden values from the first products. -/
theorem hid_at (P : FVec Ideal S32x147456x3072 .f32) (e : Fin 32) (n : Fin 147456) (f : Fin 1536) :
    mulf (mulf (minimumf (extractStridedSlice S32x147456x1536 ![0, 0, 0] P slices_S32x147456x3072_S32x147456x1536_0_0_0) (broadcastInDim S32x147456x1536 ![] bcast_S_S32x147456x1536 (constant S_ .f32 0x40E00000#32))) (Host.divf (broadcastInDim S32x147456x1536 ![] bcast_S_S32x147456x1536 (constant S_ .f32 0x3F800000#32)) (addf (broadcastInDim S32x147456x1536 ![] bcast_S_S32x147456x1536 (constant S_ .f32 0x3F800000#32)) (Host.exp (Host.negf (mulf (broadcastInDim S32x147456x1536 ![] bcast_S_S32x147456x1536 (constant S_ .f32 0x3FD9DB23#32)) (minimumf (extractStridedSlice S32x147456x1536 ![0, 0, 0] P slices_S32x147456x3072_S32x147456x1536_0_0_0) (broadcastInDim S32x147456x1536 ![] bcast_S_S32x147456x1536 (constant S_ .f32 0x40E00000#32))))))))) (addf (minimumf (broadcastInDim S32x147456x1536 ![] bcast_S_S32x147456x1536 (id (constant S_ .f32 0x40E00000#32))) (maximumf (broadcastInDim S32x147456x1536 ![] bcast_S_S32x147456x1536 (id (constant S_ .f32 0xC0E00000#32))) (extractStridedSlice S32x147456x1536 ![0, 0, 1536] P slices_S32x147456x3072_S32x147456x1536_0_0_1536))) (broadcastInDim S32x147456x1536 ![] bcast_S_S32x147456x1536 (constant S_ .f32 0x3F800000#32))) (ix3 e n f)
    = act (P (ix3 e n ⟨f.val, by omega⟩)) (P (ix3 e n ⟨1536 + f.val, by omega⟩)) := by
  unfold act
  simp only [id_eq]
  pointwise
  rfl

/-- Every row's result under every expert. -/
theorem down_at (H : FVec Ideal S32x147456x1536 .f32) (e : Fin 32) (n : Fin 147456) (d : Fin 2048) :
    addf (Host.dotGeneral (F := Ideal) dot_S32x147456x1536_S32x1536x2048_S32x147456x2048_2_1_1_2_0_0 none H (shapeCast S32x1536x2048 (extractStridedSlice S1x32x1536x2048 ![0, 0, 0, 0] wd slices_S2x32x1536x2048_S1x32x1536x2048_0_0_0_0) shapeCasts_S1x32x1536x2048_S32x1536x2048)) (broadcastInDim S32x147456x2048 ![0, 1, 2] bcast_S32x1x2048_S32x147456x2048_0_1_2 (broadcastInDim S32x1x2048 ![0, 2] bcast_S32x2048_S32x1x2048_0_2 (shapeCast S32x2048 (extractStridedSlice S1x32x2048 ![0, 0, 0] bd slices_S2x32x2048_S1x32x2048_0_0_0) shapeCasts_S1x32x2048_S32x2048))) (ix3 e n d)
    = ∑ f, H (ix3 e n f) * wd (ix4 0 e f d) + bd (ix3 0 e d) := by
  pointwise

/-- The gate's comparisons of a tile's words. -/
theorem gate_word (a b : BitVec 32) (e : Fin 32) :
    Scalar.select (IntOp.andi (IntOp.cmpi .ne a 0#32) (IntOp.cmpi .eq b (BitVec.ofNat 32 e.val))) (1 : EReal) 0
      = if a ≠ 0#32 ∧ b.toNat = e.val then 1 else 0 := by
  have hb : (b == BitVec.ofNat 32 e.val) = decide (b.toNat = e.val) := by
    rw [Bool.eq_iff_iff, beq_iff_eq, decide_eq_true_eq, ← BitVec.toNat_inj, BitVec.toNat_ofNat, Nat.mod_eq_of_lt (by omega)]
  show (if BitVec.ofBool (a != 0#32) &&& BitVec.ofBool (b == BitVec.ofNat 32 e.val) = 1#1 then (1 : EReal) else 0) = _
  have ha : (a != 0#32) = decide (a ≠ 0#32) := by rw [Bool.eq_iff_iff]; simp
  rw [ha, hb]
  by_cases h0 : a = 0#32 <;> by_cases h1 : b.toNat = e.val <;> simp [h0, h1]

/-- Which expert a row goes to, as a weight: one for its tile's expert where the tile is used. -/
theorem gate_at (e : Fin 32) (n : Fin 147456) (d : Fin 2048) :
    broadcastInDim S32x147456x2048 ![0, 1, 2] bcast_S32x147456x1_S32x147456x2048_0_1_2 (id (broadcastInDim S32x147456x1 ![0, 1] bcast_S32x147456_S32x147456x1_0_1 (transpose S32x147456 [1, 0] (select (andi (broadcastInDim S147456x32 ![0, 1] bcast_S147456x1_S147456x32_0_1 (broadcastInDim S147456x1 ![0] bcast_S147456_S147456x1_0 (cmpi .ne (shapeCast S147456 (broadcastInDim S576x256 ![0, 1] bcast_S576x1_S576x256_0_1 (broadcastInDim S576x1 ![0] bcast_S576_S576x1_0 tv)) shapeCasts_S576x256_S147456) (broadcastInDim S147456 ![] bcast_S_S147456 (constantI S_ 32 0#32))))) (cmpi .eq (broadcastInDim S147456x32 ![0, 1] bcast_S147456x1_S147456x32_0_1 (broadcastInDim S147456x1 ![0] bcast_S147456_S147456x1_0 (shapeCast S147456 (broadcastInDim S576x256 ![0, 1] bcast_S576x1_S576x256_0_1 (broadcastInDim S576x1 ![0] bcast_S576_S576x1_0 te)) shapeCasts_S576x256_S147456))) (broadcastInDim S147456x32 ![0, 1] bcast_S1x32_S147456x32_0_1 (broadcastInDim S1x32 ![1] bcast_S32_S1x32_1 (iotaInDim S32 32 0))))) (broadcastInDim S147456x32 ![] bcast_S_S147456x32 (constant (F := Ideal) S_ .f32 0x3F800000#32)) (broadcastInDim S147456x32 ![] bcast_S_S147456x32 (constant S_ .f32 0x00000000#32))) transposes_S147456x32_S32x147456_1_0))) (ix3 e n d)
    = (if tv (ix1 ⟨n.val / 256, by omega⟩) ≠ 0#32 ∧ (te (ix1 ⟨n.val / 256, by omega⟩)).toNat = e.val then 1 else 0 : EReal) := by
  simp only [id_eq]
  pointwise
  exact gate_word _ _ e

/-- The weighted sum over the experts. -/
theorem sum_at (G Y : FVec Ideal S32x147456x2048 .f32) (n : Fin 147456) (d : Fin 2048) :
    truncf .bf16 (Host.reduceAdd (mulf G Y) (constant S_ .f32 0x00000000#32) reducesTo_S32x147456x2048_S147456x2048_d0 h_S_) bitsLt_bf16_f32 (ix2 n d)
    = ∑ e : Fin 32, G (ix3 e n d) * Y (ix3 e n d) := by
  pointwise

/-- A sum over the experts whose weights name one expert, or none. -/
theorem sum_gate (used : Prop) [Decidable used] (w : ℕ) (hw : w < 32) (Y : Fin 32 → EReal) :
    ∑ e : Fin 32, (if used ∧ w = e.val then 1 else 0 : EReal) * Y e = if used then Y ⟨w, hw⟩ else 0 := by
  by_cases h : used
  · rw [if_pos h, Finset.sum_eq_single (⟨w, hw⟩ : Fin 32)]
    · rw [if_pos ⟨h, rfl⟩, one_mul]
    · intro e _ he
      rw [if_neg (fun h' => he (Fin.ext h'.2.symm)), zero_mul]
    · exact fun h' => absurd (Finset.mem_univ _) h'
  · rw [if_neg h]
    refine Finset.sum_eq_zero fun e _ => ?_
    rw [if_neg (fun h' => h h'.1), zero_mul]
end

/-- THE REFERENCE'S RESULT: a used tile's row under the tile's expert, an unused tile's row zero. -/
theorem result (c : Dev nD) (n : Fin 147456) (d : Fin 2048) (te tv : IVec S576 32) (x : FVec Ideal S147456x2048 .f32) (wg : FVec Ideal S2x32x2048x3072 .f32)
    (bg : FVec Ideal S2x32x3072 .f32) (wd : FVec Ideal S2x32x1536x2048 .f32) (bd : FVec Ideal S2x32x2048 .f32)
    (h0 : m ((c.tc : Thread nD τ).loc main_arg0) = te) (h1 : m ((c.tc : Thread nD τ).loc main_arg1) = tv)
    (h2 : m ((c.tc : Thread nD τ).loc main_arg2) = x) (h3 : m ((c.tc : Thread nD τ).loc main_arg3) = wg)
    (h4 : m ((c.tc : Thread nD τ).loc main_arg4) = bg) (h5 : m ((c.tc : Thread nD τ).loc main_arg5) = wd)
    (h6 : m ((c.tc : Thread nD τ).loc main_arg6) = bd) (hte : (te (ix1 ⟨n.val / 256, by omega⟩)).toNat < 32) :
    res_main_v58 m c (ix2 n d)
      = if tv (ix1 ⟨n.val / 256, by omega⟩) ≠ 0#32 then
          rowOut (fun k => x (ix2 n k)) (fun k f => wg (ix4 0 ⟨_, hte⟩ k f)) (fun f => bg (ix3 0 ⟨_, hte⟩ f)) (fun f => wd (ix4 0 ⟨_, hte⟩ f d)) (bd (ix3 0 ⟨_, hte⟩ d))
        else 0 := by
  unfold res_main_v58
  rw [h0, h1, h2, h3, h4, h5, h6]
  refine (sum_at _ _ n d).trans (Eq.trans ?_ (sum_gate (tv (ix1 ⟨n.val / 256, by omega⟩) ≠ 0#32) _ hte fun e =>
    rowOut (fun k => x (ix2 n k)) (fun k f => wg (ix4 0 e k f)) (fun f => bg (ix3 0 e f)) (fun f => wd (ix4 0 e f d)) (bd (ix3 0 e d))))
  refine Finset.sum_congr rfl fun e _ => congrArg₂ (fun a b : EReal => a * b) (gate_at te tv e n d) ((down_at wd bd _ e n d).trans ?_)
  unfold rowOut
  refine congrArg (fun a : EReal => a + _) (Finset.sum_congr rfl fun f _ => congrArg (fun a : EReal => a * _) ((hid_at _ e n f).trans ?_))
  unfold hid
  exact congrArg₂ act (pre_at x wg bg e n _) (pre_at x wg bg e n _)
end Cert.Reference2Ideal.Value
end

end
-- ==== Proof.Experts.lean ====
/- The experts call: its value claim. -/
module

public import proofs.«01_k».proof.Defs
public import proofs.«01_k».proof.Proof.ExpertsFrame
public import proofs.«01_k».proof.Proof.ExpertsCompiled
public import proofs.«01_k».proof.Proof.ExpertsValue
public import proofs.«01_k».proof.Proof.ExpertsRef

@[expose] public section

set_option maxRecDepth 16384
noncomputable section
open Idealize.ShloMosaic Idealize.ShloMosaic.TcCoe Idealize.SL.Sem
namespace Cert.Experts

section
variable (m : (ℓ : Loc Cert.Kernel2Ideal.nD Cert.Kernel2Ideal.τ Cert.Kernel2Ideal.sig) → Buf (Elt Ideal) ℓ)

open Cert.Kernel2Ideal Cert.Kernel2Ideal.Experts in
/-- The precondition puts every entry of the table in range. -/
theorem in_range (h : Cert.Pre_Kernel2Ideal m) (n : S576.Idx) : (argTe m 0 n).toNat < 32 :=
  range_of_pre _ _ _ _ _ _ _ (h 0) n

open Cert.Kernel2Ideal Cert.Kernel2Ideal.Experts in
/-- The kernel's run, its result array named per device. -/
theorem run_result (g : Dev nD → PrngReg) (h : Cert.Pre_Kernel2Ideal m) :
    θ_run (defs (F := Ideal)) (onTc (τ := τ) (main (F := Ideal))) ⟨m, fun _ => 0, g⟩ fun r => ∀ c : Dev nD,
      r.2.mem ((c.tc : Thread nD τ).loc main_v9) = result m c (in_range m h)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run _ _ _).mono (fun _ hr c => ⟨(hr.1 c).1.trans (final m (fits_of_range m (in_range m h)) c (in_range m h)), (hr.1 c).2⟩)
    (run m g (fits_of_range m (in_range m h)))

/-- From the same arguments the reference's formula is the kernel's result. -/
theorem agrees (m' : (ℓ : Loc Cert.Reference2Ideal.nD Cert.Reference2Ideal.τ Cert.Reference2Ideal.sig) → Buf (Elt Ideal) ℓ)
    (hpre : Cert.Pre_Kernel2Ideal m) (c : Dev Cert.Kernel2Ideal.nD)
    (h0 : m' ((c.tc : Thread Cert.Reference2Ideal.nD Cert.Reference2Ideal.τ).loc Cert.Reference2Ideal.main_arg0) = Cert.Kernel2Ideal.Experts.argTe m c)
    (h1 : m' ((c.tc : Thread Cert.Reference2Ideal.nD Cert.Reference2Ideal.τ).loc Cert.Reference2Ideal.main_arg1) = Cert.Kernel2Ideal.Experts.argTv m c)
    (h2 : m' ((c.tc : Thread Cert.Reference2Ideal.nD Cert.Reference2Ideal.τ).loc Cert.Reference2Ideal.main_arg2) = Cert.Kernel2Ideal.Experts.argX m c)
    (h3 : m' ((c.tc : Thread Cert.Reference2Ideal.nD Cert.Reference2Ideal.τ).loc Cert.Reference2Ideal.main_arg3) = Cert.Kernel2Ideal.Experts.argWg m c)
    (h4 : m' ((c.tc : Thread Cert.Reference2Ideal.nD Cert.Reference2Ideal.τ).loc Cert.Reference2Ideal.main_arg4) = Cert.Kernel2Ideal.Experts.argBg m c)
    (h5 : m' ((c.tc : Thread Cert.Reference2Ideal.nD Cert.Reference2Ideal.τ).loc Cert.Reference2Ideal.main_arg5) = Cert.Kernel2Ideal.Experts.argWd m c)
    (h6 : m' ((c.tc : Thread Cert.Reference2Ideal.nD Cert.Reference2Ideal.τ).loc Cert.Reference2Ideal.main_arg6) = Cert.Kernel2Ideal.Experts.argBd m c) :
    Cert.Reference2Ideal.Value.res_main_v58 m' c = Cert.Kernel2Ideal.Experts.result m c (in_range m hpre) := by
  obtain rfl : c = 0 := Subsingleton.elim _ _
  funext i
  obtain ⟨n, d, rfl⟩ : ∃ (n : Fin 147456) (d : Fin 2048), i = ix2 n d := ⟨i 0, i 1, by
    funext a
    match a with
    | 0 => rfl
    | 1 => rfl⟩
  exact Cert.Reference2Ideal.Value.result m' 0 n d _ _ _ _ _ _ _ h0 h1 h2 h3 h4 h5 h6 (in_range m hpre _)

end

/-- THE VALUE CLAIM: with every tile's expert in range, the kernel and the reference end with the same rows, whatever the
    floats. -/
theorem algebraic : Cert.algebraic_Kernel2Ideal_Reference2Ideal := by
  intro m g m' g' hpre hagree
  refine ⟨fun c => Cert.Kernel2Ideal.Experts.result m c (in_range m hpre), run_result m g hpre,
    (θ_run _ _ _).mono (fun r h c => ⟨(h c).1.trans ?_, (h c).2⟩) (Cert.Reference2Ideal.Value.run m' g')⟩
  obtain ⟨e0, e1, e2, e3, e4, e5, e6⟩ := hagree c
  exact agrees m m' hpre c e0 e1 e2 e3 e4 e5 e6
end Cert.Experts
end

end
-- ==== Proof.NormValue.lean ====
/- The normalization call's result array: every token's row over its root mean square, scaled and shifted. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open scoped BigOperators
namespace Cert.Norm

/-- Lane `l` of a row over its root mean square, times its gain, then scaled and shifted. -/
def norm (row : Fin 2048 → EReal) (g sc sh : EReal) (l : Fin 2048) : EReal :=
  row l * Ideal.rsqrt (Ideal.div (∑ k, row k * row k) (Ideal.ofBits .f32 0x45000000#32) + Ideal.ofBits .f32 0x358637BD#32) * g * (1 + sc) + sh

/-- Equal rows, gains, scales and shifts, equal lanes. -/
theorem norm_congr {row row' : Fin 2048 → EReal} {g g' sc sc' sh sh' : EReal} (hr : ∀ k, row k = row' k) (hg : g = g') (hc : sc = sc') (hs : sh = sh')
    (l : Fin 2048) : norm row g sc sh l = norm row' g' sc' sh' l := by
  obtain rfl := funext hr
  subst hg hc hs
  rfl

/-- Token `n` of batch entry `b`, normalized and modulated: a latent by its batch entry's modulation, a context token by the shared one. -/
def NORM (x : FVec Ideal ⟨3, ![8, 4096, 2048]⟩ .f32) (ctx : FVec Ideal ⟨3, ![8, 256, 2048]⟩ .f32) (mt : FVec Ideal ⟨2, ![8, 12288]⟩ .f32)
    (mc : FVec Ideal ⟨1, ![12288]⟩ .f32) (g : FVec Ideal ⟨1, ![2048]⟩ .f32) (b : Fin 8) (n : Fin 4352) (l : Fin 2048) : EReal :=
  if h : n.val < 4096 then norm (fun k => x (ix3 b ⟨n.val, h⟩ k)) (g (ix1 l)) (mt (ix2 b ⟨2048 + l.val, by omega⟩)) (mt (ix2 b ⟨l.val, by omega⟩)) l
  else norm (fun k => ctx (ix3 b ⟨n.val - 4096, by omega⟩ k)) (g (ix1 l)) (mc (ix1 ⟨2048 + l.val, by omega⟩)) (mc (ix1 ⟨l.val, by omega⟩)) l

/-- `NORM` reads its three coordinates by value. -/
theorem NORM_congr (x : FVec Ideal ⟨3, ![8, 4096, 2048]⟩ .f32) (ctx : FVec Ideal ⟨3, ![8, 256, 2048]⟩ .f32) (mt : FVec Ideal ⟨2, ![8, 12288]⟩ .f32)
    (mc : FVec Ideal ⟨1, ![12288]⟩ .f32) (g : FVec Ideal ⟨1, ![2048]⟩ .f32) {b b' : Fin 8} {n n' : Fin 4352} {l l' : Fin 2048}
    (hb : b.val = b'.val) (hn : n.val = n'.val) (hl : l.val = l'.val) : NORM x ctx mt mc g b n l = NORM x ctx mt mc g b' n' l' := by
  obtain rfl := Fin.ext hb
  obtain rfl := Fin.ext hn
  obtain rfl := Fin.ext hl
  rfl

section
open Cert.Kernel3Ideal Cert.Kernel3Ideal.Gen Cert.Kernel3Ideal.Value
variable (m : (ℓ : Loc Cert.Kernel3Ideal.nD Cert.Kernel3Ideal.τ Cert.Kernel3Ideal.sig) → Buf (Elt Ideal) ℓ)

/-- The windows' block indices at every point: batch entry and row tile, and the modulation of tokens or of context. -/
theorem idx : ∀ t : Fin cfg0.N, win0_0.index t = ![t.val / 17, t.val % 17, 0] ∧ win0_1.index t = ![0, 0] ∧ win0_2.index t = ![t.val / 17, t.val % 17 / 16, 0, 0] ∧ win0_3.index t = ![t.val / 17, t.val % 17, 0] ∧ t.val < 136 :=
  (by decide +kernel : ∀ t : Fin grid0.N, _)

abbrev aX (c : Dev nD) : FVec Ideal S8x4096x2048 .f32 := m ((c : Thread nD τ).loc main_arg0)
abbrev aC (c : Dev nD) : FVec Ideal S8x256x2048 .f32 := m ((c : Thread nD τ).loc main_arg1)
abbrev aM (c : Dev nD) : FVec Ideal S8x12288 .f32 := m ((c : Thread nD τ).loc main_arg2)
abbrev aMc (c : Dev nD) : FVec Ideal S12288 .f32 := m ((c : Thread nD τ).loc main_arg3)
abbrev aG (c : Dev nD) : FVec Ideal S2048 .f32 := m ((c : Thread nD τ).loc main_arg4)

/-- Tokens, then context, as the host lays them out. -/
def XARR (x : FVec Ideal S8x4096x2048 .f32) (ctx : FVec Ideal S8x256x2048 .f32) : FVec Ideal S8x4352x2048 .f32 :=
  concatenate S8x4352x2048 1 [⟨S8x4096x2048, x⟩, ⟨S8x256x2048, ctx⟩] concatenates_S8x4096x2048_S8x256x2048_S8x4352x2048_d1

/-- The modulations of tokens and of context, as the host lays them out. -/
def MARR (mt : FVec Ideal S8x12288 .f32) (mc : FVec Ideal S12288 .f32) : FVec Ideal S8x2x6x2048 .f32 :=
  concatenate S8x2x6x2048 1 [⟨S8x1x6x2048, shapeCast S8x1x6x2048 mt shapeCasts_S8x12288_S8x1x6x2048⟩,
    ⟨S8x1x6x2048, broadcastInDim S8x1x6x2048 ![0, 1, 2, 3] bcast_S1x1x6x2048_S8x1x6x2048_0_1_2_3 (shapeCast S1x1x6x2048 mc shapeCasts_S12288_S1x1x6x2048)⟩]
    concatenates_S8x1x6x2048_S8x1x6x2048_S8x2x6x2048_d1

/-- The gains as the host lays them out. -/
def GARR (g : FVec Ideal S2048 .f32) : FVec Ideal S1x2048 .f32 := shapeCast S1x2048 g shapeCasts_S2048_S1x2048

theorem xarr_at (x : FVec Ideal S8x4096x2048 .f32) (ctx : FVec Ideal S8x256x2048 .f32) (b : Fin 8) (n : Fin 4352) (l : Fin 2048) :
    XARR x ctx (ix3 b n l) = if h : n.val < 4096 then x (ix3 b ⟨n.val, h⟩ l) else ctx (ix3 b ⟨n.val - 4096, by omega⟩ l) := by
  pointwise [XARR]
theorem garr_at (g : FVec Ideal S2048 .f32) (l : Fin 2048) : GARR g (ix2 0 l) = g (ix1 l) := by
  pointwise [GARR]
theorem marr_at0 (mt : FVec Ideal S8x12288 .f32) (mc : FVec Ideal S12288 .f32) (b : Fin 8) (j : Fin 6) (l : Fin 2048) :
    MARR mt mc (ix4 b 0 j l) = mt (ix2 b ⟨j.val * 2048 + l.val, by omega⟩) := by
  pointwise [MARR]
theorem marr_at1 (mt : FVec Ideal S8x12288 .f32) (mc : FVec Ideal S12288 .f32) (b : Fin 8) (j : Fin 6) (l : Fin 2048) :
    MARR mt mc (ix4 b 1 j l) = mc (ix1 ⟨j.val * 2048 + l.val, by omega⟩) := by
  pointwise [MARR]

theorem entx (c : Dev nD) : V m c main_v0 = XARR (aX m c) (aC m c) := by
  unfold V
  simp only [hostOps0, List.flatten_cons, List.flatten_nil, List.append_nil, List.cons_append, List.nil_append]
  after_results
  rfl
theorem entm (c : Dev nD) : V m c main_v4 = MARR (aM m c) (aMc m c) := by
  unfold V
  simp only [hostOps0, List.flatten_cons, List.flatten_nil, List.append_nil, List.cons_append, List.nil_append]
  after_results
  rfl
theorem entg (c : Dev nD) : V m c main_v5 = GARR (aG m c) := by
  unfold V
  simp only [hostOps0, List.flatten_cons, List.flatten_nil, List.append_nil, List.cons_append, List.nil_append]
  after_results
  rfl

/-- The staged rows at point `t`. -/
theorem x_block (c : Dev nD) (t : Fin cfg0.N) (r : Fin 256) (k : Fin 2048) (hb : t.val / 17 < 8) (ht : t.val % 17 * 256 + r.val < 4352) :
    iblk m c 0 t (ix3 0 r k) = XARR (aX m c) (aC m c) (ix3 ⟨t.val / 17, hb⟩ ⟨t.val % 17 * 256 + r.val, ht⟩ k) := by
  rw [← entx m c]
  blk_ext [iblk, idx t]

/-- The staged gains at point `t`. -/
theorem g_block (c : Dev nD) (t : Fin cfg0.N) (k : Fin 2048) :
    iblk m c 1 t (ix2 0 k) = GARR (aG m c) (ix2 0 k) := by
  rw [← entg m c]
  blk_ext [iblk, idx t]

/-- The staged modulation at point `t`. -/
theorem m_block (c : Dev nD) (t : Fin cfg0.N) (j : Fin 6) (k : Fin 2048) (hb : t.val / 17 < 8) (ht : t.val % 17 / 16 < 2) :
    iblk m c 2 t (ix4 0 0 j k) = MARR (aM m c) (aMc m c) (ix4 ⟨t.val / 17, hb⟩ ⟨t.val % 17 / 16, ht⟩ j k) := by
  rw [← entm m c]
  blk_ext [iblk, idx t]

/-- What a point stores from its blocks. -/
theorem pay_at (x : Vec Ideal S1x256x2048 .f32) (g : Vec Ideal S1x2048 .f32) (md : Vec Ideal S1x1x6x2048 .f32) (r : Fin 256) (l : Fin 2048) :
    k0_pay1 (F := Ideal) md x g (ix3 0 r l)
      = norm (fun k => x (ix3 0 r k)) (g (ix2 0 l)) (md (ix4 0 0 1 l)) (md (ix4 0 0 0 l)) l := by
  unfold k0_pay1 norm
  pointwise

/-- What point `t` leaves at row `r`, lane `l` of its block. -/
theorem point (c : Dev nD) (t : Fin cfg0.N) (r : Fin 256) (l : Fin 2048) (hb : t.val / 17 < 8) (ht : t.val % 17 * 256 + r.val < 4352) :
    out0_3 (iblk m c 0 t) (iblk m c 1 t) (iblk m c 2 t) (ix3 0 r l)
      = NORM (aX m c) (aC m c) (aM m c) (aMc m c) (aG m c) ⟨t.val / 17, hb⟩ ⟨t.val % 17 * 256 + r.val, ht⟩ l := by
  unfold out0_3
  frame_out
  refine (pay_at _ _ _ r l).trans ?_
  rw [g_block m c t l, m_block m c t 0 l hb (by omega), m_block m c t 1 l hb (by omega), garr_at]
  simp only [x_block m c t r _ hb ht, xarr_at]
  unfold NORM
  by_cases h : t.val % 17 < 16
  · have h0 : (⟨t.val % 17 / 16, by omega⟩ : Fin 2) = 0 := Fin.ext (by show t.val % 17 / 16 = 0; omega)
    have h1 : t.val % 17 * 256 + r.val < 4096 := by omega
    rw [h0, marr_at0, marr_at0, dif_pos h1]
    simp only [dif_pos h1]
    refine congrArg₂ (fun i j : Fin 12288 => norm _ _ (aM m c (ix2 _ i)) (aM m c (ix2 _ j)) l) (Fin.ext ?_) (Fin.ext ?_)
    · show 1 * 2048 + l.val = 2048 + l.val
      omega
    · show 0 * 2048 + l.val = l.val
      omega
  · have h0 : (⟨t.val % 17 / 16, by omega⟩ : Fin 2) = 1 := Fin.ext (by show t.val % 17 / 16 = 1; omega)
    have h1 : ¬ t.val % 17 * 256 + r.val < 4096 := by omega
    rw [h0, marr_at1, marr_at1, dif_neg h1]
    simp only [dif_neg h1]
    refine congrArg₂ (fun i j : Fin 12288 => norm _ _ (aMc m c (ix1 i)) (aMc m c (ix1 j)) l) (Fin.ext ?_) (Fin.ext ?_)
    · show 1 * 2048 + l.val = 2048 + l.val
      omega
    · show 0 * 2048 + l.val = l.val
      omega

/-- The result array of the region. -/
theorem final (c : Dev nD) : (dats m 0 c).arrAt 3 cfg0.N = fun i => NORM (aX m c) (aC m c) (aM m c) (aMc m c) (aG m c)
    ⟨(i 0).val, (i 0).isLt⟩ ⟨(i 1).val, (i 1).isLt⟩ ⟨(i 2).val, (i 2).isLt⟩ :=
  (dats m 0 c).arrAt_eq_of_covers 3 _ (by decide +kernel) fun t _ y => by
    have hN : t.val < 136 := t.isLt
    blk_simp
    rw [after0_3]
    obtain ⟨r, l, rfl⟩ : ∃ (r : Fin 256) (l : Fin 2048), y = ix3 0 r l := ⟨y 1, y 2, by
      funext a
      match a with
      | 0 => exact Subsingleton.elim (α := Fin 1) _ _
      | 1 => rfl
      | 2 => rfl⟩
    refine (point m c t r l (by omega) (by omega)).trans ?_
    obtain ⟨-, -, -, h3, -⟩ := idx t
    have h0 : win0_3.index t 0 = t.val / 17 := congrFun h3 0
    have h1 : win0_3.index t 1 = t.val % 17 := congrFun h3 1
    have h2 : win0_3.index t 2 = 0 := congrFun h3 2
    refine NORM_congr _ _ _ _ _ ?_ ?_ ?_
    · show t.val / 17 = win0_3.index t 0
      omega
    · show t.val % 17 * 256 + r.val = win0_3.index t 1 * 256 + r.val
      omega
    · show l.val = win0_3.index t 2 * 2048 + l.val
      omega
end

section
open Cert.Reference3Ideal Cert.Reference3Ideal.Gen
/-- The reference's latents. -/
theorem ref_x (x : FVec Ideal S8x4096x2048 .f32) (mt : FVec Ideal S8x12288 .f32) (g : FVec Ideal S2048 .f32) (b : Fin 8) (n : Fin 4096) (l : Fin 2048) :
    addf (mulf (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 2048] mt slices_S8x12288_S8x2048_0_2048))))) (broadcastInDim S8x4096x2048 ![0, 1, 2] bcast_S8x1x2048_S8x4096x2048_0_1_2 (broadcastInDim S8x1x2048 ![0, 2] bcast_S8x2048_S8x1x2048_0_2 (extractStridedSlice S8x2048 ![0, 0] mt slices_S8x12288_S8x2048_0_0))) (ix3 b n l)
    = norm (fun k => x (ix3 b n k)) (g (ix1 l)) (mt (ix2 b ⟨2048 + l.val, by omega⟩)) (mt (ix2 b ⟨l.val, by omega⟩)) l := by
  unfold norm
  pointwise

/-- The reference's context tokens. -/
theorem ref_c (x : FVec Ideal S8x256x2048 .f32) (mc : FVec Ideal S12288 .f32) (g : FVec Ideal S2048 .f32) (b : Fin 8) (n : Fin 256) (l : Fin 2048) :
    addf (mulf (mulf (mulf x (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf x x) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![2] bcast_S2048_S1x1x2048_2 g))) (broadcastInDim S8x256x2048 ![0, 1, 2] bcast_S1x1x2048_S8x256x2048_0_1_2 (broadcastInDim S1x1x2048 ![2] bcast_S2048_S1x1x2048_2 (addf (broadcastInDim S2048 ![] bcast_S_S2048 (constant S_ .f32 0x3F800000#32)) (extractStridedSlice S2048 ![2048] mc slices_S12288_S2048_2048))))) (broadcastInDim S8x256x2048 ![0, 1, 2] bcast_S1x1x2048_S8x256x2048_0_1_2 (broadcastInDim S1x1x2048 ![2] bcast_S2048_S1x1x2048_2 (extractStridedSlice S2048 ![0] mc slices_S12288_S2048_0))) (ix3 b n l)
    = norm (fun k => x (ix3 b n k)) (g (ix1 l)) (mc (ix1 ⟨2048 + l.val, by omega⟩)) (mc (ix1 ⟨l.val, by omega⟩)) l := by
  unfold norm
  pointwise

/-- Latents `X` and context tokens `C`, one after the other, read at a token. -/
theorem ref_cat (X : FVec Ideal S8x4096x2048 .f32) (C : FVec Ideal S8x256x2048 .f32) (b : Fin 8) (n : Fin 4352) (l : Fin 2048) :
    truncf .bf16 (concatenate S8x4352x2048 1 [⟨S8x4096x2048, X⟩, ⟨S8x256x2048, C⟩] concatenates_S8x4096x2048_S8x256x2048_S8x4352x2048_d1) bitsLt_bf16_f32 (ix3 b n l)
    = if h : n.val < 4096 then X (ix3 b ⟨n.val, h⟩ l) else C (ix3 b ⟨n.val - 4096, by omega⟩ l) := by
  pointwise
end
end Cert.Norm
end

end
-- ==== Proof.Norm.lean ====
/- The normalization call: its frames and its value claim. -/
module

public import proofs.«01_k».proof.Defs
public import proofs.«01_k».proof.Proof.Gen.Kernel3.Frame
public import proofs.«01_k».proof.Proof.Gen.Kernel3Ideal.Frame
public import proofs.«01_k».proof.Proof.NormValue

@[expose] public section

set_option maxRecDepth 16384
noncomputable section
open Idealize.ShloMosaic Idealize.ShloMosaic.TcCoe Idealize.SL.Sem
open scoped BigOperators
namespace Cert.Norm

/-- The kernel's frame as compiled. -/
theorem frame_kernel : Cert.quiescent_Kernel3 := fun m ρ _ => Cert.Kernel3.Gen.frame m ρ
/-- The idealized kernel's frame. -/
theorem frame_ideal : Cert.quiescent_Kernel3Ideal := fun m ρ _ => Cert.Kernel3Ideal.Gen.frame m ρ
/-- The reference's frame. -/
theorem frame_reference : Cert.quiescent_Reference3Ideal := fun m ρ _ =>
  (θ_run _ _ _).mono (fun r h => ⟨fun c => (h c).2, sem_eq_zero_of_no_sems (by decide) r.2⟩) (Cert.Reference3Ideal.Value.run m ρ)

/-- THE VALUE CLAIM: from any tokens, modulations and gains, the kernel and the reference end with the same result. -/
theorem algebraic : Cert.algebraic_Kernel3Ideal_Reference3Ideal := by
  pair_intro
  · run_from Cert.Kernel3Ideal.Value.run_blocks m g
  · run_from Cert.Reference3Ideal.Value.run m' g'
    obtain ⟨e0, e1, e2, e3, e4⟩ := hagree c
    rw [final m c]
    funext i
    obtain ⟨b, n, l, rfl⟩ : ∃ (b : Fin 8) (n : Fin 4352) (l : Fin 2048), i = ix3 b n l := ⟨i 0, i 1, i 2, by
      funext a
      match a with
      | 0 => rfl
      | 1 => rfl
      | 2 => rfl⟩
    refine (ref_cat _ _ b n l).trans ?_
    show _ = NORM (aX m c) (aC m c) (aM m c) (aMc m c) (aG m c) b n l
    unfold NORM
    by_cases h : n.val < 4096
    · rw [dif_pos h, dif_pos h]
      refine (ref_x _ _ _ b ⟨n.val, h⟩ l).trans ?_
      exact norm_congr (fun _ => rfl) (congrFun e4 _) rfl rfl l
    · rw [dif_neg h, dif_neg h]
      refine (ref_c _ _ _ b ⟨n.val - 4096, by omega⟩ l).trans ?_
      exact norm_congr (fun _ => rfl) (congrFun e4 _) rfl rfl l
end Cert.Norm
end

end
-- ==== Proof.ProjCols.lean ====
/- The order in which the projection's result holds its columns. -/
module

public import proofs.«01_k».proof.Proof.Gen.Kernel4Ideal
public import proofs.«01_k».proof.Proof.Gen.Reference4Ideal
public import Idealize.ShloMosaic.Lib.Pipeline.ValueKit

@[expose] public section

set_option maxRecDepth 16384
noncomputable section
open Idealize.ShloMosaic Idealize.ShloMosaic.TcCoe Idealize.SL.Sem
open scoped BigOperators
namespace Cert.Proj

/-- Column `c` of the result, from the 11584 columns in the weights' order: gates, neighbourhood attention, queries' rank,
    rotary key, nothing, keys' rank, states. -/
def col (f : Fin 11584 → EReal) (c : Fin 11776) : EReal :=
  if h1 : c.val < 6144 then f ⟨5440 + c.val, by omega⟩
  else if h2 : c.val < 9216 then f ⟨1344 + (c.val - 6144), by omega⟩
  else if h3 : c.val < 9984 then f ⟨c.val - 9216, by omega⟩
  else if h4 : c.val < 10048 then f ⟨1280 + (c.val - 9984), by omega⟩
  else if h5 : c.val < 10240 then 0
  else if h6 : c.val < 10752 then f ⟨768 + (c.val - 10240), by omega⟩
  else f ⟨4416 + (c.val - 10752), by omega⟩

/-- A row read at equal columns. -/
theorem same {n : ℕ} (f : Fin n → EReal) {i j : Fin n} (h : i.val = j.val) : f i = f j := congrArg f (Fin.ext h)

/-- The order of columns and a product with a row commute. -/
theorem col_dot (h : Fin 2048 → EReal) (w : Fin 2048 → Fin 11584 → EReal) (c : Fin 11776) :
    ∑ k, h k * col (w k) c = col (fun j => ∑ k, h k * w k j) c := by
  unfold col
  split_ifs <;> simp

section
open Cert.Kernel4Ideal Cert.Kernel4Ideal.Gen
/-- The weights as the host lays them out. -/
def WARR (w : FVec Ideal S2048x11584 .f32) : FVec Ideal S2048x11776 .bf16 :=
  truncf .bf16 (concatenate S2048x11776 1
    [⟨S2048x6144, extractStridedSlice S2048x6144 ![0, 5440] w slices_S2048x11584_S2048x6144_0_5440⟩,
     ⟨S2048x3072, extractStridedSlice S2048x3072 ![0, 1344] w slices_S2048x11584_S2048x3072_0_1344⟩,
     ⟨S2048x768, extractStridedSlice S2048x768 ![0, 0] w slices_S2048x11584_S2048x768_0_0⟩,
     ⟨S2048x256, pad S2048x256 ![0, 0] ![0, 192] ![0, 0] (extractStridedSlice S2048x64 ![0, 1280] w slices_S2048x11584_S2048x64_0_1280) (sitofp .f32 (constantI S_ 32 0#32)) pads_S2048x64_S2048x256_000_01920 h_S_⟩,
     ⟨S2048x512, extractStridedSlice S2048x512 ![0, 768] w slices_S2048x11584_S2048x512_0_768⟩,
     ⟨S2048x1024, extractStridedSlice S2048x1024 ![0, 4416] w slices_S2048x11584_S2048x1024_0_4416⟩]
    concatenates_S2048x6144_S2048x3072_S2048x768_S2048x256_S2048x512_S2048x1024_S2048x11776_d1) bitsLt_bf16_f32

theorem warr_at (w : FVec Ideal S2048x11584 .f32) (k : Fin 2048) (c : Fin 11776) :
    WARR w (ix2 k c) = col (fun j => w (ix2 k j)) c := by
  unfold col
  split_ifs with h1 h2 h3 h4 h5 h6
  all_goals pointwise [WARR]
  all_goals repeat first | rw [dif_pos (by omega)] | rw [dif_neg (by omega)]
  all_goals first
    | with_reducible rfl
    | (refine same (fun j => w (ix2 k j)) ?_; dsimp only; omega)
    | (show ((((0#32).toInt : ℤ) : ℝ) : EReal) = 0; simp)
end

section
open Cert.Reference4Ideal Cert.Reference4Ideal.Gen
/-- The products in the result's order, as the reference lays them out. -/
def ZARR (z : FVec Ideal S34816x11584 .f32) : FVec Ideal S34816x11776 .bf16 :=
  truncf .bf16 (concatenate S34816x11776 1
    [⟨S34816x6144, extractStridedSlice S34816x6144 ![0, 5440] z slices_S34816x11584_S34816x6144_0_5440⟩,
     ⟨S34816x3072, extractStridedSlice S34816x3072 ![0, 1344] z slices_S34816x11584_S34816x3072_0_1344⟩,
     ⟨S34816x768, extractStridedSlice S34816x768 ![0, 0] z slices_S34816x11584_S34816x768_0_0⟩,
     ⟨S34816x64, extractStridedSlice S34816x64 ![0, 1280] z slices_S34816x11584_S34816x64_0_1280⟩,
     ⟨S34816x192, broadcastInDim S34816x192 ![] bcast_S_S34816x192 (constant S_ .f32 0x00000000#32)⟩,
     ⟨S34816x512, extractStridedSlice S34816x512 ![0, 768] z slices_S34816x11584_S34816x512_0_768⟩,
     ⟨S34816x1024, extractStridedSlice S34816x1024 ![0, 4416] z slices_S34816x11584_S34816x1024_0_4416⟩]
    concatenates_S34816x6144_S34816x3072_S34816x768_S34816x64_S34816x192_S34816x512_S34816x1024_S34816x11776_d1) bitsLt_bf16_f32

theorem zarr_at (z : FVec Ideal S34816x11584 .f32) (n : Fin 34816) (c : Fin 11776) :
    ZARR z (ix2 n c) = col (fun j => z (ix2 n j)) c := by
  unfold col
  split_ifs with h1 h2 h3 h4 h5 h6
  all_goals pointwise [ZARR]
  all_goals repeat first | rw [dif_pos (by omega)] | rw [dif_neg (by omega)]
  all_goals first
    | with_reducible rfl
    | (refine same (fun j => z (ix2 n j)) ?_; dsimp only; omega)
    | (show ((((0#32).toInt : ℤ) : ℝ) : EReal) = 0; simp)
end
end Cert.Proj
end

end
-- ==== Proof.ProjValue.lean ====
/- The input projection's result array: every row of the normalized tokens against every column of the weights, the columns
   in the result's order. -/
module

public import proofs.«01_k».proof.Proof.Gen.Kernel4Ideal.Value
public import proofs.«01_k».proof.Proof.Gen.Reference4Ideal.Run
public import Idealize.ShloMosaic.Lib.Pipeline.ValueKit
public import proofs.«01_k».proof.Proof.ProjCols

@[expose] public section

set_option maxRecDepth 16384
noncomputable section
open Idealize.ShloMosaic Idealize.ShloMosaic.TcCoe Idealize.SL.Sem
open Idealize.ShloMosaic.Pipeline (Dat)
open scoped BigOperators
namespace Cert.Proj

/-- Entry `(n, c)` of the projection: token `n`'s row against the weights' columns, at the column the order puts at `c`. -/
def PROJ (h : FVec Ideal ⟨3, ![8, 4352, 2048]⟩ .f32) (w : FVec Ideal ⟨2, ![2048, 11584]⟩ .f32) (n : Fin 34816) (c : Fin 11776) : EReal :=
  col (fun j => ∑ k : Fin 2048, h (ix3 ⟨n.val / 4352, by omega⟩ ⟨n.val % 4352, by omega⟩ k) * w (ix2 k j)) c

/-- `PROJ` reads its two coordinates by value. -/
theorem PROJ_congr (h : FVec Ideal ⟨3, ![8, 4352, 2048]⟩ .f32) (w : FVec Ideal ⟨2, ![2048, 11584]⟩ .f32) {n n' : Fin 34816} {c c' : Fin 11776}
    (hn : n.val = n'.val) (hc : c.val = c'.val) : PROJ h w n c = PROJ h w n' c' := by
  obtain rfl := Fin.ext hn
  obtain rfl := Fin.ext hc
  rfl

section
open Cert.Kernel4Ideal Cert.Kernel4Ideal.Gen Cert.Kernel4Ideal.Value
variable (m : (ℓ : Loc Cert.Kernel4Ideal.nD Cert.Kernel4Ideal.τ Cert.Kernel4Ideal.sig) → Buf (Elt Ideal) ℓ)

/-- The windows' block indices at every point: row tile and column tile. -/
theorem idx : ∀ t : Fin cfg0.N, win0_0.index t = ![t.val % 68, 0] ∧ win0_1.index t = ![0, t.val / 68] ∧ win0_2.index t = ![t.val % 68, t.val / 68] ∧ t.val < 272 :=
  (by decide +kernel : ∀ t : Fin grid0.N, _)

abbrev aH (c : Dev nD) : FVec Ideal S8x4352x2048 .f32 := m ((c : Thread nD τ).loc main_arg0)
abbrev aW (c : Dev nD) : FVec Ideal S2048x11584 .f32 := m ((c : Thread nD τ).loc main_arg1)

/-- The tokens as the host lays them out. -/
def HARR (h : FVec Ideal S8x4352x2048 .f32) : FVec Ideal S34816x2048 .bf16 :=
  shapeCast S34816x2048 (truncf .bf16 h bitsLt_bf16_f32) shapeCasts_S8x4352x2048_S34816x2048

theorem harr_at (h : FVec Ideal S8x4352x2048 .f32) (n : Fin 34816) (k : Fin 2048) :
    HARR h (ix2 n k) = h (ix3 ⟨n.val / 4352, by omega⟩ ⟨n.val % 4352, by omega⟩ k) := by
  pointwise [HARR]

/-- Equal pieces, equal concatenations. -/
theorem cat6_congr {α : Type} (t : Shape) (d : Fin t.rank) (s₁ s₂ s₃ s₄ s₅ s₆ : Shape) {a a' : s₁.Idx → α} {b b' : s₂.Idx → α} {e e' : s₃.Idx → α}
    {f f' : s₄.Idx → α} {g g' : s₅.Idx → α} {k k' : s₆.Idx → α}
    (h : Shape.Concatenates [s₁, s₂, s₃, s₄, s₅, s₆] t d) (ha : a = a') (hb : b = b') (he : e = e') (hf : f = f') (hg : g = g') (hk : k = k') :
    concatenate t d [⟨s₁, a⟩, ⟨s₂, b⟩, ⟨s₃, e⟩, ⟨s₄, f⟩, ⟨s₅, g⟩, ⟨s₆, k⟩] h = concatenate t d [⟨s₁, a'⟩, ⟨s₂, b'⟩, ⟨s₃, e'⟩, ⟨s₄, f'⟩, ⟨s₅, g'⟩, ⟨s₆, k'⟩] h := by
  subst ha hb he hf hg hk; rfl

set_option maxHeartbeats 1600000 in
/-- The tokens operand when the call starts. -/
theorem enth (c : Dev nD) : V m c main_v1 = HARR (aH m c) := by
  unfold V
  simp only [hostOps0, hostOps0_1, hostOps0_2, List.flatten_cons, List.flatten_nil, List.append_nil, List.cons_append, List.nil_append]
  after_results
  rfl

set_option maxHeartbeats 1600000 in
/-- The weights operand when the call starts. -/
theorem entw (c : Dev nD) : V m c main_v10 = WARR (aW m c) := by
  unfold V
  simp only [hostOps0, hostOps0_1, hostOps0_2, List.flatten_cons, List.flatten_nil, List.append_nil, List.cons_append, List.nil_append]
  after_results
  rfl

/-- The staged tokens at point `t`. -/
theorem h_block (c : Dev nD) (t : Fin cfg0.N) (r : Fin 512) (k : Fin 2048) (ht : t.val % 68 * 512 + r.val < 34816) :
    iblk m c 0 t (ix2 r k) = HARR (aH m c) (ix2 ⟨t.val % 68 * 512 + r.val, ht⟩ k) := by
  rw [← enth m c]
  blk_ext [iblk, idx t]

/-- The staged weights at point `t`. -/
theorem w_block (c : Dev nD) (t : Fin cfg0.N) (k : Fin 2048) (l : Fin 2944) (ht : t.val / 68 * 2944 + l.val < 11776) :
    iblk m c 1 t (ix2 k l) = WARR (aW m c) (ix2 k ⟨t.val / 68 * 2944 + l.val, ht⟩) := by
  rw [← entw m c]
  blk_ext [iblk, idx t]

/-- What a point stores from its two blocks. -/
theorem pay_at (x : Vec Ideal S512x2048 .bf16) (w : Vec Ideal S2048x2944 .bf16) (r : Fin 512) (l : Fin 2944) :
    k0_pay1 (F := Ideal) x w (ix2 r l) = ∑ k : Fin 2048, @HMul.hMul EReal EReal EReal _ (x (ix2 r k)) (w (ix2 k l)) := by
  unfold k0_pay1
  pointwise

/-- What point `t` leaves at row `r`, column `l` of its block. -/
theorem point (c : Dev nD) (t : Fin cfg0.N) (r : Fin 512) (l : Fin 2944) (h0 : t.val % 68 * 512 + r.val < 34816)
    (h1 : t.val / 68 * 2944 + l.val < 11776) :
    out0_2 (iblk m c 0 t) (iblk m c 1 t) (ix2 r l) = PROJ (aH m c) (aW m c) ⟨t.val % 68 * 512 + r.val, h0⟩ ⟨t.val / 68 * 2944 + l.val, h1⟩ := by
  unfold out0_2
  frame_out
  refine (pay_at _ _ r l).trans ?_
  unfold PROJ
  rw [← col_dot]
  refine Finset.sum_congr rfl fun k _ => ?_
  rw [h_block m c t r k h0, w_block m c t k l h1, harr_at, warr_at]

/-- The result array of the region. -/
theorem final (c : Dev nD) : (dats m 0 c).arrAt 2 cfg0.N = fun i => PROJ (aH m c) (aW m c) ⟨(i 0).val, (i 0).isLt⟩ ⟨(i 1).val, (i 1).isLt⟩ :=
  (dats m 0 c).arrAt_eq_of_covers 2 _ (by decide +kernel) fun t _ y => by
    have hN : t.val < 272 := t.isLt
    blk_simp
    rw [after0_2]
    obtain ⟨r, l, rfl⟩ : ∃ (r : Fin 512) (l : Fin 2944), y = ix2 r l := ⟨y 0, y 1, by
      funext a
      match a with
      | 0 => rfl
      | 1 => rfl⟩
    refine (point m c t r l (by omega) (by omega)).trans ?_
    obtain ⟨-, -, h2, -⟩ := idx t
    have h0 : win0_2.index t 0 = t.val % 68 := congrFun h2 0
    have h1 : win0_2.index t 1 = t.val / 68 := congrFun h2 1
    refine PROJ_congr _ _ ?_ ?_
    · show t.val % 68 * 512 + r.val = win0_2.index t 0 * 512 + r.val
      omega
    · show t.val / 68 * 2944 + l.val = win0_2.index t 1 * 2944 + l.val
      omega
end
end Cert.Proj
end

end
-- ==== Proof.Proj.lean ====
/- The input projection call: its frames and its value claim. -/
module

public import proofs.«01_k».proof.Defs
public import proofs.«01_k».proof.Proof.Gen.Kernel4.Frame
public import proofs.«01_k».proof.Proof.Gen.Kernel4Ideal.Frame
public import proofs.«01_k».proof.Proof.ProjValue

@[expose] public section

set_option maxRecDepth 16384
noncomputable section
open Idealize.ShloMosaic Idealize.ShloMosaic.TcCoe Idealize.SL.Sem
open scoped BigOperators
namespace Cert.Proj

/-- The kernel's frame as compiled. -/
theorem frame_kernel : Cert.quiescent_Kernel4 := fun m ρ _ => Cert.Kernel4.Gen.frame m ρ
/-- The idealized kernel's frame. -/
theorem frame_ideal : Cert.quiescent_Kernel4Ideal := fun m ρ _ => Cert.Kernel4Ideal.Gen.frame m ρ
/-- The reference's frame. -/
theorem frame_reference : Cert.quiescent_Reference4Ideal := fun m ρ _ =>
  (θ_run _ _ _).mono (fun r h => ⟨fun c => (h c).2, sem_eq_zero_of_no_sems (by decide) r.2⟩) (Cert.Reference4Ideal.Value.run m ρ)

section
open Cert.Reference4Ideal Cert.Reference4Ideal.Gen
/-- The reference's products, by token and column of the weights. -/
theorem dot_at (h : FVec Ideal S8x4352x2048 .f32) (w : FVec Ideal S2048x11584 .f32) (n : Fin 34816) (j : Fin 11584) :
    shapeCast S34816x11584 (Host.dotGeneral (F := Ideal) dot_S8x4352x2048_S2048x11584_S8x4352x11584_2_0_01_1_n_n none h w) shapeCasts_S8x4352x11584_S34816x11584 (ix2 n j)
    = ∑ k : Fin 2048, h (ix3 ⟨n.val / 4352, by omega⟩ ⟨n.val % 4352, by omega⟩ k) * w (ix2 k j) := by
  pointwise

/-- The reference's result. -/
theorem ref_at (h : FVec Ideal S8x4352x2048 .f32) (w : FVec Ideal S2048x11584 .f32) (n : Fin 34816) (c : Fin 11776) :
    ZARR (shapeCast S34816x11584 (Host.dotGeneral (F := Ideal) dot_S8x4352x2048_S2048x11584_S8x4352x11584_2_0_01_1_n_n none h w) shapeCasts_S8x4352x11584_S34816x11584) (ix2 n c)
    = PROJ h w n c := by
  rw [zarr_at]
  unfold PROJ
  exact congrArg (fun f => col f c) (funext fun j => dot_at h w n j)
end

/-- THE VALUE CLAIM: from any tokens and weights, the kernel and the reference end with the same result. -/
theorem algebraic : Cert.algebraic_Kernel4Ideal_Reference4Ideal := by
  pair_intro
  · run_from Cert.Kernel4Ideal.Value.run_blocks m g
  · run_from Cert.Reference4Ideal.Value.run m' g'
    obtain ⟨e0, e1⟩ := hagree c
    rw [final m c]
    funext i
    obtain ⟨n, k, rfl⟩ : ∃ (n : Fin 34816) (k : Fin 11776), i = ix2 n k := ⟨i 0, i 1, by
      funext a
      match a with
      | 0 => rfl
      | 1 => rfl⟩
    simp only [e0, e1]
    exact ref_at (aH m c) (aW m c) n k
end Cert.Proj
end

end
-- ==== Proof.GluValue.lean ====
/- The gated unit's result array: every token's activation times the logistic of its product with the gate's weights. -/
module

public import proofs.«01_k».proof.Proof.Gen.Kernel5Ideal.Value
public import proofs.«01_k».proof.Proof.Gen.Reference5Ideal.Run
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open scoped BigOperators
namespace Cert.Glu

/-- The activation: half of `y` times one plus the hyperbolic tangent of its cubic. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- Column `l` of a token's activations, gated. -/
def glu (row : Fin 1024 → EReal) (w : Fin 1024 → EReal) (b : EReal) (l : Fin 1024) : EReal :=
  gelu (row l) * Ideal.logistic (∑ k, gelu (row k) * w k + b)

/-- Token `n` of batch entry `b`, gated. -/
def GLU (y : FVec Ideal ⟨3, ![8, 4352, 1024]⟩ .f32) (w : FVec Ideal ⟨2, ![1024, 1024]⟩ .f32) (b : FVec Ideal ⟨1, ![1024]⟩ .f32)
    (e : Fin 8) (n : Fin 4352) (l : Fin 1024) : EReal :=
  glu (fun k => y (ix3 e n k)) (fun k => w (ix2 k l)) (b (ix1 l)) l

/-- `GLU` reads its three coordinates by value. -/
theorem GLU_congr (y : FVec Ideal ⟨3, ![8, 4352, 1024]⟩ .f32) (w : FVec Ideal ⟨2, ![1024, 1024]⟩ .f32) (b : FVec Ideal ⟨1, ![1024]⟩ .f32)
    {e e' : Fin 8} {n n' : Fin 4352} {l l' : Fin 1024}
    (he : e.val = e'.val) (hn : n.val = n'.val) (hl : l.val = l'.val) : GLU y w b e n l = GLU y w b e' n' l' := by
  obtain rfl := Fin.ext he
  obtain rfl := Fin.ext hn
  obtain rfl := Fin.ext hl
  rfl

section
open Cert.Kernel5Ideal Cert.Kernel5Ideal.Gen Cert.Kernel5Ideal.Value
variable (m : (ℓ : Loc Cert.Kernel5Ideal.nD Cert.Kernel5Ideal.τ Cert.Kernel5Ideal.sig) → Buf (Elt Ideal) ℓ)

/-- The windows' block indices at every point: batch entry and row tile; weights and bias whole. -/
theorem idx : ∀ t : Fin cfg0.N, win0_0.index t = ![t.val / 17, t.val % 17, 0] ∧ win0_1.index t = ![0, 0] ∧ win0_2.index t = ![0, 0] ∧ win0_3.index t = ![t.val / 17, t.val % 17, 0] ∧ t.val < 136 :=
  (by decide +kernel : ∀ t : Fin grid0.N, _)

abbrev aY (c : Dev nD) : FVec Ideal S8x4352x1024 .f32 := m ((c : Thread nD τ).loc main_arg0)
abbrev aW (c : Dev nD) : FVec Ideal S1024x1024 .f32 := m ((c : Thread nD τ).loc main_arg1)
abbrev aB (c : Dev nD) : FVec Ideal S1024 .f32 := m ((c : Thread nD τ).loc main_arg2)

/-- The tokens as the host casts them. -/
def YARR (y : FVec Ideal S8x4352x1024 .f32) : FVec Ideal S8x4352x1024 .bf16 := truncf .bf16 y bitsLt_bf16_f32
/-- The weights as the host casts them. -/
def WARR (w : FVec Ideal S1024x1024 .f32) : FVec Ideal S1024x1024 .bf16 := truncf .bf16 w bitsLt_bf16_f32
/-- The bias as the host lays it out. -/
def BARR (b : FVec Ideal S1024 .f32) : FVec Ideal S1x1024 .f32 := shapeCast S1x1024 b shapeCasts_S1024_S1x1024

theorem yarr_at (y : FVec Ideal S8x4352x1024 .f32) (e : Fin 8) (n : Fin 4352) (l : Fin 1024) : YARR y (ix3 e n l) = y (ix3 e n l) := by
  pointwise [YARR]
theorem warr_at (w : FVec Ideal S1024x1024 .f32) (k l : Fin 1024) : WARR w (ix2 k l) = w (ix2 k l) := by
  pointwise [WARR]
theorem barr_at (b : FVec Ideal S1024 .f32) (l : Fin 1024) : BARR b (ix2 0 l) = b (ix1 l) := by
  pointwise [BARR]

theorem enty (c : Dev nD) : V m c main_v0 = YARR (aY m c) := by
  unfold V
  simp only [hostOps0, List.flatten_cons, List.flatten_nil, List.append_nil, List.cons_append, List.nil_append]
  after_results
  rfl
theorem entw (c : Dev nD) : V m c main_v1 = WARR (aW m c) := by
  unfold V
  simp only [hostOps0, List.flatten_cons, List.flatten_nil, List.append_nil, List.cons_append, List.nil_append]
  after_results
  rfl
theorem entb (c : Dev nD) : V m c main_v2 = BARR (aB m c) := by
  unfold V
  simp only [hostOps0, List.flatten_cons, List.flatten_nil, List.append_nil, List.cons_append, List.nil_append]
  after_results
  rfl

/-- The staged rows at point `t`. -/
theorem y_block (c : Dev nD) (t : Fin cfg0.N) (r : Fin 256) (k : Fin 1024) (hb : t.val / 17 < 8) (ht : t.val % 17 * 256 + r.val < 4352) :
    iblk m c 0 t (ix3 0 r k) = YARR (aY m c) (ix3 ⟨t.val / 17, hb⟩ ⟨t.val % 17 * 256 + r.val, ht⟩ k) := by
  rw [← enty m c]
  blk_ext [iblk, idx t]

/-- The staged weights at point `t`. -/
theorem w_block (c : Dev nD) (t : Fin cfg0.N) (k l : Fin 1024) : iblk m c 1 t (ix2 k l) = WARR (aW m c) (ix2 k l) := by
  rw [← entw m c]
  blk_ext [iblk, idx t]

/-- The staged bias at point `t`. -/
theorem b_block (c : Dev nD) (t : Fin cfg0.N) (l : Fin 1024) : iblk m c 2 t (ix2 0 l) = BARR (aB m c) (ix2 0 l) := by
  rw [← entb m c]
  blk_ext [iblk, idx t]

/-- What a point stores from its blocks. -/
theorem pay_at (y : Vec Ideal S1x256x1024 .bf16) (w : Vec Ideal S1024x1024 .bf16) (b : Vec Ideal S1x1024 .f32) (r : Fin 256) (l : Fin 1024) :
    k0_pay1 (F := Ideal) y w b (ix3 0 r l) = glu (fun k => y (ix3 0 r k)) (fun k => w (ix2 k l)) (b (ix2 0 l)) l := by
  unfold k0_pay1 glu gelu
  pointwise

/-- What point `t` leaves at row `r`, column `l` of its block. -/
theorem point (c : Dev nD) (t : Fin cfg0.N) (r : Fin 256) (l : Fin 1024) (hb : t.val / 17 < 8) (ht : t.val % 17 * 256 + r.val < 4352) :
    out0_3 (iblk m c 0 t) (iblk m c 1 t) (iblk m c 2 t) (ix3 0 r l)
      = GLU (aY m c) (aW m c) (aB m c) ⟨t.val / 17, hb⟩ ⟨t.val % 17 * 256 + r.val, ht⟩ l := by
  unfold out0_3
  frame_out
  refine (pay_at _ _ _ r l).trans ?_
  simp only [y_block m c t r _ hb ht, w_block m c t, b_block m c t, yarr_at, warr_at, barr_at]
  rfl

/-- The result array of the region. -/
theorem final (c : Dev nD) : (dats m 0 c).arrAt 3 cfg0.N = fun i => GLU (aY m c) (aW m c) (aB m c)
    ⟨(i 0).val, (i 0).isLt⟩ ⟨(i 1).val, (i 1).isLt⟩ ⟨(i 2).val, (i 2).isLt⟩ :=
  (dats m 0 c).arrAt_eq_of_covers 3 _ (by decide +kernel) fun t _ y => by
    have hN : t.val < 136 := t.isLt
    blk_simp
    rw [after0_3]
    obtain ⟨r, l, rfl⟩ : ∃ (r : Fin 256) (l : Fin 1024), y = ix3 0 r l := ⟨y 1, y 2, by
      funext a
      match a with
      | 0 => exact Subsingleton.elim (α := Fin 1) _ _
      | 1 => rfl
      | 2 => rfl⟩
    refine (point m c t r l (by omega) (by omega)).trans ?_
    obtain ⟨-, -, -, h3, -⟩ := idx t
    have h0 : win0_3.index t 0 = t.val / 17 := congrFun h3 0
    have h1 : win0_3.index t 1 = t.val % 17 := congrFun h3 1
    have h2 : win0_3.index t 2 = 0 := congrFun h3 2
    refine GLU_congr _ _ _ ?_ ?_ ?_
    · show t.val / 17 = win0_3.index t 0
      omega
    · show t.val % 17 * 256 + r.val = win0_3.index t 1 * 256 + r.val
      omega
    · show l.val = win0_3.index t 2 * 1024 + l.val
      omega
end

section
open Cert.Reference5Ideal Cert.Reference5Ideal.Gen
/-- The reference's activation over all tokens. -/
def ACT (y : FVec Ideal S8x4352x1024 .f32) : FVec Ideal S8x4352x1024 .f32 :=
  mulf y (mulf (broadcastInDim S8x4352x1024 ![] bcast_S_S8x4352x1024 (constant S_ .f32 0x3F000000#32)) (addf (broadcastInDim S8x4352x1024 ![] bcast_S_S8x4352x1024 (constant S_ .f32 0x3F800000#32)) (Host.tanh (mulf (broadcastInDim S8x4352x1024 ![] bcast_S_S8x4352x1024 (constant S_ .f32 0x3F4C422A#32)) (addf y (mulf (broadcastInDim S8x4352x1024 ![] bcast_S_S8x4352x1024 (constant S_ .f32 0x3D372713#32)) (mulf (mulf y y) y)))))))

/-- The reference's activation at an index is the kernel's: the half moves across the product. -/
theorem act_at (y : FVec Ideal S8x4352x1024 .f32) (e : Fin 8) (n : Fin 4352) (l : Fin 1024) : ACT y (ix3 e n l) = gelu (y (ix3 e n l)) := by
  have h : ACT y (ix3 e n l) = y (ix3 e n l) * (Ideal.ofBits .f32 0x3F000000#32 * (Ideal.ofBits .f32 0x3F800000#32
      + Ideal.tanh (Ideal.ofBits .f32 0x3F4C422A#32 * (y (ix3 e n l) + Ideal.ofBits .f32 0x3D372713#32 * (y (ix3 e n l) * y (ix3 e n l) * y (ix3 e n l)))))) := by
    pointwise [ACT]
  rw [h, gelu, ← mul_assoc, mul_comm (y (ix3 e n l)) (Ideal.ofBits .f32 0x3F000000#32)]

/-- The reference's result from its activations. -/
theorem ref_at (g : FVec Ideal S8x4352x1024 .f32) (w : FVec Ideal S1024x1024 .f32) (b : FVec Ideal S1024 .f32) (e : Fin 8) (n : Fin 4352) (l : Fin 1024) :
    truncf .bf16 (mulf g (Host.divf (broadcastInDim S8x4352x1024 ![] bcast_S_S8x4352x1024 (constant S_ .f32 0x3F800000#32)) (addf (broadcastInDim S8x4352x1024 ![] bcast_S_S8x4352x1024 (constant S_ .f32 0x3F800000#32)) (Host.exp (Host.negf (addf (Host.dotGeneral dot_S8x4352x1024_S1024x1024_S8x4352x1024_2_0_01_1_n_n none g w) (broadcastInDim S8x4352x1024 ![0, 1, 2] bcast_S1x1x1024_S8x4352x1024_0_1_2 (broadcastInDim S1x1x1024 ![2] bcast_S1024_S1x1x1024_2 b)))))))) bitsLt_bf16_f32 (ix3 e n l)
      = g (ix3 e n l) * Ideal.logistic (∑ k, g (ix3 e n k) * w (ix2 k l) + b (ix1 l)) := by
  pointwise
  rfl
end
end Cert.Glu
end

end
-- ==== Proof.Glu.lean ====
/- The gated unit's call: its frames and its value claim. -/
module

public import proofs.«01_k».proof.Defs
public import proofs.«01_k».proof.Proof.Gen.Kernel5.Frame
public import proofs.«01_k».proof.Proof.Gen.Kernel5Ideal.Frame
public import proofs.«01_k».proof.Proof.GluValue

@[expose] public section

set_option maxRecDepth 16384
noncomputable section
open Idealize.ShloMosaic Idealize.ShloMosaic.TcCoe Idealize.SL.Sem
open scoped BigOperators
namespace Cert.Glu

/-- The kernel's frame as compiled. -/
theorem frame_kernel : Cert.quiescent_Kernel5 := fun m ρ _ => Cert.Kernel5.Gen.frame m ρ
/-- The idealized kernel's frame. -/
theorem frame_ideal : Cert.quiescent_Kernel5Ideal := fun m ρ _ => Cert.Kernel5Ideal.Gen.frame m ρ
/-- The reference's frame. -/
theorem frame_reference : Cert.quiescent_Reference5Ideal := fun m ρ _ =>
  (θ_run _ _ _).mono (fun r h => ⟨fun c => (h c).2, sem_eq_zero_of_no_sems (by decide) r.2⟩) (Cert.Reference5Ideal.Value.run m ρ)

/-- THE VALUE CLAIM: from any tokens, weights and bias, the kernel and the reference end with the same result. -/
theorem algebraic : Cert.algebraic_Kernel5Ideal_Reference5Ideal := by
  pair_intro
  · run_from Cert.Kernel5Ideal.Value.run_blocks m g
  · run_from Cert.Reference5Ideal.Value.run m' g'
    obtain ⟨e0, e1, e2⟩ := hagree c
    rw [final m c]
    funext i
    obtain ⟨b, n, l, rfl⟩ : ∃ (b : Fin 8) (n : Fin 4352) (l : Fin 1024), i = ix3 b n l := ⟨i 0, i 1, i 2, by
      funext a
      match a with
      | 0 => rfl
      | 1 => rfl
      | 2 => rfl⟩
    refine (ref_at (ACT (aY m c)) _ _ b n l).trans ?_
    simp only [act_at]
    rfl
end Cert.Glu
end

end
-- ==== Proof.AdaValue.lean ====
/- The modulation call's result array: the activated rows times the weights plus the bias, where rows nine to fifteen are the bias alone. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Routing.OpsSet
public import Idealize.ShloMosaic.Lib.Routing.OpsPair

@[expose] public section

set_option maxRecDepth 16384
noncomputable section
open Idealize.ShloMosaic Idealize.ShloMosaic.TcCoe Idealize.SL.Sem
open Idealize.ShloMosaic.Pipeline (Dat)
open scoped BigOperators
namespace Cert.Ada

/-- The activation: a value times its logistic. -/
def silu (x : EReal) : EReal := x * Ideal.logistic x

/-- Row `r` of the vectors: the batch entries', then the context's, then zeros. -/
def VEC (c : FVec Ideal ⟨2, ![8, 2048]⟩ .f32) (cc : FVec Ideal ⟨1, ![2048]⟩ .f32) (r : Fin 16) (k : Fin 2048) : EReal :=
  if h : r.val < 8 then c (ix2 ⟨r.val, h⟩ k) else if r.val = 8 then cc (ix1 k) else 0

/-- Row `r`, column `l` of the result. -/
def ADA (c : FVec Ideal ⟨2, ![8, 2048]⟩ .f32) (cc : FVec Ideal ⟨1, ![2048]⟩ .f32) (w : FVec Ideal ⟨2, ![2048, 12288]⟩ .f32) (b : FVec Ideal ⟨1, ![12288]⟩ .f32)
    (r : Fin 16) (l : Fin 12288) : EReal :=
  ∑ k, silu (VEC c cc r k) * w (ix2 k l) + b (ix1 l)

/-- `ADA` reads its two coordinates by value. -/
theorem ADA_congr (c : FVec Ideal ⟨2, ![8, 2048]⟩ .f32) (cc : FVec Ideal ⟨1, ![2048]⟩ .f32) (w : FVec Ideal ⟨2, ![2048, 12288]⟩ .f32) (b : FVec Ideal ⟨1, ![12288]⟩ .f32)
    {r r' : Fin 16} {l l' : Fin 12288} (hr : r.val = r'.val) (hl : l.val = l'.val) : ADA c cc w b r l = ADA c cc w b r' l' := by
  obtain rfl := Fin.ext hr
  obtain rfl := Fin.ext hl
  rfl

/-- A row of zeros adds nothing to the bias, whatever the weights. -/
theorem ADA_bias (c : FVec Ideal ⟨2, ![8, 2048]⟩ .f32) (cc : FVec Ideal ⟨1, ![2048]⟩ .f32) (w : FVec Ideal ⟨2, ![2048, 12288]⟩ .f32) (b : FVec Ideal ⟨1, ![12288]⟩ .f32)
    (r : Fin 16) (l : Fin 12288) (h : 8 < r.val) : ADA c cc w b r l = b (ix1 l) := by
  have hv : ∀ k, VEC c cc r k = 0 := fun k => by
    unfold VEC
    rw [dif_neg (by omega), if_neg (by omega)]
  unfold ADA
  simp only [hv, silu, zero_mul, Finset.sum_const_zero, zero_add]

section
open Cert.Kernel6Ideal Cert.Kernel6Ideal.Gen Cert.Kernel6Ideal.Value
variable (m : (ℓ : Loc Cert.Kernel6Ideal.nD Cert.Kernel6Ideal.τ Cert.Kernel6Ideal.sig) → Buf (Elt Ideal) ℓ)

/-- The windows' block indices at every point: the vectors whole, the others a tile of columns. -/
theorem idx : ∀ t : Fin cfg0.N, win0_0.index t = ![0, 0] ∧ win0_1.index t = ![0, t.val] ∧ win0_2.index t = ![0, t.val] ∧ win0_3.index t = ![0, t.val] ∧ t.val < 12 :=
  (by decide +kernel : ∀ t : Fin grid0.N, _)

abbrev aC (c : Dev nD) : FVec Ideal S8x2048 .f32 := m ((c : Thread nD τ).loc main_arg0)
abbrev aCc (c : Dev nD) : FVec Ideal S2048 .f32 := m ((c : Thread nD τ).loc main_arg1)
abbrev aW (c : Dev nD) : FVec Ideal S2048x12288 .f32 := m ((c : Thread nD τ).loc main_arg2)
abbrev aB (c : Dev nD) : FVec Ideal S12288 .f32 := m ((c : Thread nD τ).loc main_arg3)

/-! ## The two writes that lay the vectors out -/

/-- The one index word of the first write. -/
abbrev at0 : IVec S1 32 := broadcastInDim S1 ![] bcast_S_S1 (constantI S_ 32 0#32)
/-- The one index word of the second write. -/
abbrev at8 : IVec S1 32 := broadcastInDim S1 ![] bcast_S_S1 (constantI S_ 32 8#32)

/-- An entry of the batch's vectors lands at its own row and column. -/
theorem lands_batch (k : S8x2048.Idx) (r : Fin 16) (l : Fin 2048) :
    scatter_S16x2048_S1_S8x2048_01_n_0_0.resultIdx? k at0 = some (ix2 r l) ↔ (k 0).val = r.val ∧ (k 1).val = l.val := by
  have w0 : scatter_S16x2048_S1_S8x2048_01_n_0_0.window k 0 = (k 0).val := rfl
  have w1 : scatter_S16x2048_S1_S8x2048_01_n_0_0.window k 1 = (k 1).val := rfl
  have s0 : scatter_S16x2048_S1_S8x2048_01_n_0_0.start k at0 0 = 0 := rfl
  have s1 : scatter_S16x2048_S1_S8x2048_01_n_0_0.start k at0 1 = 0 := rfl
  refine (Routing.resultIdx?_ix2 (R := 16) (C := 2048) _ k _ r l).trans ?_
  rw [s0, s1, w0, w1]
  omega

/-- An entry of the context's vector lands in row eight at its own column. -/
theorem lands_ctx (k : S2048.Idx) (r : Fin 16) (l : Fin 2048) :
    scatter_S16x2048_S1_S2048_0_0_0_0.resultIdx? k at8 = some (ix2 r l) ↔ r.val = 8 ∧ (k 0).val = l.val := by
  have w0 : scatter_S16x2048_S1_S2048_0_0_0_0.window k 0 = 0 := rfl
  have w1 : scatter_S16x2048_S1_S2048_0_0_0_0.window k 1 = (k 0).val := rfl
  have s0 : scatter_S16x2048_S1_S2048_0_0_0_0.start k at8 0 = 8 := rfl
  have s1 : scatter_S16x2048_S1_S2048_0_0_0_0.start k at8 1 = 0 := rfl
  refine (Routing.resultIdx?_ix2 (R := 16) (C := 2048) _ k _ r l).trans ?_
  rw [s0, s1, w0, w1]
  omega

/-- The vectors' array as the host lays it out. -/
def CARR (c : FVec Ideal S8x2048 .f32) (cc : FVec Ideal S2048 .f32) : FVec Ideal S16x2048 .f32 :=
  Host.scatter scatter_S16x2048_S1_S2048_0_0_0_0 (fun _ b => b)
    (Host.scatter scatter_S16x2048_S1_S8x2048_01_n_0_0 (fun _ b => b) (broadcastInDim S16x2048 ![] bcast_S_S16x2048 (constant S_ .f32 0x00000000#32)) at0 c) at8 cc
/-- The bias as the host lays it out. -/
def BARR (b : FVec Ideal S12288 .f32) : FVec Ideal S1x12288 .f32 := shapeCast S1x12288 b shapeCasts_S12288_S1x12288

theorem carr_at (c : FVec Ideal S8x2048 .f32) (cc : FVec Ideal S2048 .f32) (r : Fin 16) (k : Fin 2048) : CARR c cc (ix2 r k) = VEC c cc r k := by
  unfold CARR VEC
  by_cases h8 : r.val = 8
  · rw [dif_neg (by omega), if_pos h8]
    refine Routing.scatter_set_hit _ _ _ _ _ _ (fun j hj => ?_) (ix1 k) ((lands_ctx (ix1 k) r k).2 ⟨h8, rfl⟩)
    have hk : j 0 = k := Fin.ext ((lands_ctx j r k).1 hj).2
    refine congrArg cc (funext fun a => ?_)
    match a with
    | 0 => exact hk
  · rw [Routing.scatter_set_miss _ _ _ _ _ fun j hj => h8 ((lands_ctx j r k).1 hj).1]
    by_cases h : r.val < 8
    · rw [dif_pos h]
      refine Routing.scatter_set_hit _ _ _ _ _ _ (fun j hj => ?_) (ix2 ⟨r.val, h⟩ k) ((lands_batch (ix2 ⟨r.val, h⟩ k) r k).2 ⟨rfl, rfl⟩)
      have hj' := (lands_batch j r k).1 hj
      refine congrArg c (funext fun a => ?_)
      match a with
      | 0 => exact Fin.ext hj'.1
      | 1 => exact Fin.ext hj'.2
    · rw [dif_neg h, if_neg h8, Routing.scatter_set_miss _ _ _ _ _ fun j hj => h (by
        have h1 := ((lands_batch j r k).1 hj).1
        have h2 : (j 0).val < 8 := (j 0).isLt
        omega)]
      exact Ideal.ofBits_zero_f32
theorem barr_at (b : FVec Ideal S12288 .f32) (l : Fin 12288) : BARR b (ix2 0 l) = b (ix1 l) := by
  pointwise [BARR]

theorem entc (c : Dev nD) : V m c main_v4 = CARR (aC m c) (aCc m c) := by
  unfold V
  simp only [hostOps0, List.flatten_cons, List.flatten_nil, List.append_nil, List.cons_append, List.nil_append]
  after_results
  rfl
theorem entb (c : Dev nD) : V m c main_v5 = BARR (aB m c) := by
  unfold V
  simp only [hostOps0, List.flatten_cons, List.flatten_nil, List.append_nil, List.cons_append, List.nil_append]
  after_results
  rfl

/-! ## The blocks at a point -/

theorem c_block (c : Dev nD) (t : Fin cfg0.N) (r : Fin 16) (k : Fin 2048) : iblk m c 0 t (ix2 r k) = CARR (aC m c) (aCc m c) (ix2 r k) := by
  rw [← entc m c]
  blk_ext [iblk, idx t]
theorem w_block (c : Dev nD) (t : Fin cfg0.N) (k : Fin 2048) (l : Fin 1024) (hl : t.val * 1024 + l.val < 12288) :
    iblk m c 1 t (ix2 k l) = aW m c (ix2 k ⟨t.val * 1024 + l.val, hl⟩) := by
  show _ = m ((c : Thread nD τ).loc main_arg2) _
  rw [← V_main_arg2 m c]
  blk_ext [iblk, idx t]
theorem b_block (c : Dev nD) (t : Fin cfg0.N) (l : Fin 1024) (hl : t.val * 1024 + l.val < 12288) :
    iblk m c 2 t (ix2 0 l) = BARR (aB m c) (ix2 0 ⟨t.val * 1024 + l.val, hl⟩) := by
  rw [← entb m c]
  blk_ext [iblk, idx t]

/-- What a point stores from its blocks. -/
theorem pay_at (v : Vec Ideal S16x2048 .f32) (w : Vec Ideal S2048x1024 .f32) (b : Vec Ideal S1x1024 .f32) (r : Fin 16) (l : Fin 1024) :
    k0_pay1 (F := Ideal) v w b (ix2 r l) = ∑ k, silu (v (ix2 r k)) * w (ix2 k l) + b (ix2 0 l) := by
  unfold k0_pay1 silu
  pointwise

/-- What point `t` leaves at row `r`, column `l` of its block. -/
theorem point (c : Dev nD) (t : Fin cfg0.N) (r : Fin 16) (l : Fin 1024) (hl : t.val * 1024 + l.val < 12288) :
    out0_3 (iblk m c 0 t) (iblk m c 1 t) (iblk m c 2 t) (ix2 r l) = ADA (aC m c) (aCc m c) (aW m c) (aB m c) r ⟨t.val * 1024 + l.val, hl⟩ := by
  unfold out0_3
  frame_out
  refine (pay_at _ _ _ r l).trans ?_
  simp only [c_block m c t, w_block m c t _ l hl, b_block m c t l hl, carr_at, barr_at]
  rfl

/-- The result array of the region. -/
theorem final (c : Dev nD) : (dats m 0 c).arrAt 3 cfg0.N = fun i => ADA (aC m c) (aCc m c) (aW m c) (aB m c)
    ⟨(i 0).val, (i 0).isLt⟩ ⟨(i 1).val, (i 1).isLt⟩ :=
  (dats m 0 c).arrAt_eq_of_covers 3 _ (by decide +kernel) fun t _ y => by
    have hN : t.val < 12 := t.isLt
    blk_simp
    rw [after0_3]
    obtain ⟨r, l, rfl⟩ : ∃ (r : Fin 16) (l : Fin 1024), y = ix2 r l := ⟨y 0, y 1, by
      funext a
      match a with
      | 0 => rfl
      | 1 => rfl⟩
    refine (point m c t r l (by omega)).trans ?_
    obtain ⟨-, -, -, h3, -⟩ := idx t
    have h0 : win0_3.index t 0 = 0 := congrFun h3 0
    have h1 : win0_3.index t 1 = t.val := congrFun h3 1
    refine ADA_congr _ _ _ _ ?_ ?_
    · show r.val = win0_3.index t 0 * 16 + r.val
      omega
    · show t.val * 1024 + l.val = win0_3.index t 1 * 1024 + l.val
      omega
end

section
open Cert.Reference6Ideal Cert.Reference6Ideal.Gen
/-- The reference's rows of the batch. -/
theorem ref_batch (c : FVec Ideal S8x2048 .f32) (w : FVec Ideal S2048x12288 .f32) (b : FVec Ideal S12288 .f32) (r : Fin 8) (l : Fin 12288) :
    addf (Host.dotGeneral dot_S8x2048_S2048x12288_S8x12288_1_0_0_1_n_n none (mulf c (Host.divf (broadcastInDim S8x2048 ![] bcast_S_S8x2048 (constant S_ .f32 0x3F800000#32)) (addf (broadcastInDim S8x2048 ![] bcast_S_S8x2048 (constant S_ .f32 0x3F800000#32)) (Host.exp (Host.negf c))))) w) (broadcastInDim S8x12288 ![0, 1] bcast_S1x12288_S8x12288_0_1 (broadcastInDim S1x12288 ![1] bcast_S12288_S1x12288_1 b)) (ix2 r l)
      = ∑ k, silu (c (ix2 r k)) * w (ix2 k l) + b (ix1 l) := by
  unfold silu
  pointwise
  rfl
/-- The reference's row of the context. -/
theorem ref_ctx (c : FVec Ideal S2048 .f32) (w : FVec Ideal S2048x12288 .f32) (b : FVec Ideal S12288 .f32) (r : Fin 1) (l : Fin 12288) :
    broadcastInDim S1x12288 ![1] bcast_S12288_S1x12288_1 (addf (Host.dotGeneral dot_S2048_S2048x12288_S12288_0_0_n_1_n_n none (mulf c (Host.divf (broadcastInDim S2048 ![] bcast_S_S2048 (constant S_ .f32 0x3F800000#32)) (addf (broadcastInDim S2048 ![] bcast_S_S2048 (constant S_ .f32 0x3F800000#32)) (Host.exp (Host.negf c))))) w) b) (ix2 r l)
      = ∑ k, silu (c (ix1 k)) * w (ix2 k l) + b (ix1 l) := by
  unfold silu
  pointwise
  rfl
/-- The reference's further rows. -/
theorem ref_rest (b : FVec Ideal S12288 .f32) (r : Fin 7) (l : Fin 12288) : broadcastInDim S7x12288 ![1] bcast_S12288_S7x12288_1 b (ix2 r l) = b (ix1 l) := by
  pointwise
/-- The three parts, one below the other, read at a row. -/
theorem ref_cat (A : FVec Ideal S8x12288 .f32) (B : FVec Ideal S1x12288 .f32) (C : FVec Ideal S7x12288 .f32) (r : Fin 16) (l : Fin 12288) :
    concatenate S16x12288 0 [⟨S8x12288, A⟩, ⟨S1x12288, B⟩, ⟨S7x12288, C⟩] concatenates_S8x12288_S1x12288_S7x12288_S16x12288_d0 (ix2 r l)
      = if h : r.val < 8 then A (ix2 ⟨r.val, h⟩ l) else if h9 : r.val - 8 < 1 then B (ix2 ⟨r.val - 8, h9⟩ l) else C (ix2 ⟨r.val - 8 - 1, by omega⟩ l) := by
  pointwise
end
end Cert.Ada
end

end
-- ==== Proof.Ada.lean ====
/- The modulation call: its frames and its value claim. -/
module

public import proofs.«01_k».proof.Defs
public import proofs.«01_k».proof.Proof.Gen.Kernel6.Frame
public import proofs.«01_k».proof.Proof.Gen.Kernel6Ideal.Frame
public import proofs.«01_k».proof.Proof.AdaValue

@[expose] public section

set_option maxRecDepth 16384
noncomputable section
open Idealize.ShloMosaic Idealize.ShloMosaic.TcCoe Idealize.SL.Sem
open scoped BigOperators
namespace Cert.Ada

/-- The kernel's frame as compiled. -/
theorem frame_kernel : Cert.quiescent_Kernel6 := fun m ρ _ => Cert.Kernel6.Gen.frame m ρ
/-- The idealized kernel's frame. -/
theorem frame_ideal : Cert.quiescent_Kernel6Ideal := fun m ρ _ => Cert.Kernel6Ideal.Gen.frame m ρ
/-- The reference's frame. -/
theorem frame_reference : Cert.quiescent_Reference6Ideal := fun m ρ _ =>
  (θ_run _ _ _).mono (fun r h => ⟨fun c => (h c).2, sem_eq_zero_of_no_sems (by decide) r.2⟩) (Cert.Reference6Ideal.Value.run m ρ)

/-- THE VALUE CLAIM: from any vectors, weights and bias, the kernel and the reference end with the same result. -/
theorem algebraic : Cert.algebraic_Kernel6Ideal_Reference6Ideal := by
  pair_intro
  · run_from Cert.Kernel6Ideal.Value.run_blocks m g
  · run_from Cert.Reference6Ideal.Value.run m' g'
    obtain ⟨e0, e1, e2, e3⟩ := hagree c
    rw [final m c]
    funext i
    obtain ⟨r, l, rfl⟩ : ∃ (r : Fin 16) (l : Fin 12288), i = ix2 r l := ⟨i 0, i 1, by
      funext a
      match a with
      | 0 => rfl
      | 1 => rfl⟩
    refine (ref_cat _ _ _ r l).trans ?_
    show _ = ADA (aC m c) (aCc m c) (aW m c) (aB m c) r l
    by_cases h : r.val < 8
    · rw [dif_pos h]
      refine (ref_batch _ _ _ ⟨r.val, h⟩ l).trans ?_
      have hv : ∀ k, VEC (aC m c) (aCc m c) r k = aC m c (ix2 ⟨r.val, h⟩ k) := fun k => by
        unfold VEC
        rw [dif_pos h]
      unfold ADA
      simp only [hv]
      exact congrArg₂ (fun x y : EReal => x + y) rfl (congrFun e3 _)
    · rw [dif_neg h]
      by_cases h9 : r.val - 8 < 1
      · rw [dif_pos h9]
        refine (ref_ctx _ _ _ _ l).trans ?_
        have hv : ∀ k, VEC (aC m c) (aCc m c) r k = aCc m c (ix1 k) := fun k => by
          unfold VEC
          rw [dif_neg h, if_pos (by omega)]
        unfold ADA
        simp only [hv]
        exact congrArg₂ (fun x y : EReal => x + y) rfl (congrFun e3 _)
      · rw [dif_neg h9]
        refine (ref_rest _ _ l).trans ?_
        exact (congrFun e3 (ix1 l)).trans (ADA_bias (aC m c) (aCc m c) (aW m c) (aB m c) r l (by omega)).symm
end Cert.Ada
end

end
-- ==== Proof.MixValue.lean ====
/- The merge call's two result arrays: the latents and context after the first residual, and the same normalized and modulated. -/
module

public import proofs.«01_k».proof.Proof.Gen.Kernel7Ideal.Value
public import proofs.«01_k».proof.Proof.NormValue
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
open scoped BigOperators
namespace Cert.Mix

/-- The arrays the two results depend on: tokens, context, gates, the three branches, their projections, the output product, the modulations and the gains. -/
structure Ins where
  x : FVec Ideal ⟨3, ![8, 4096, 2048]⟩ .f32
  ctx : FVec Ideal ⟨3, ![8, 256, 2048]⟩ .f32
  z : FVec Ideal ⟨3, ![8, 4352, 11776]⟩ .f32
  oa : FVec Ideal ⟨3, ![8, 4352, 1024]⟩ .f32
  ob : FVec Ideal ⟨3, ![8, 4352, 1024]⟩ .f32
  os : FVec Ideal ⟨3, ![8, 4352, 1024]⟩ .f32
  wa : FVec Ideal ⟨2, ![1024, 2048]⟩ .f32
  wb : FVec Ideal ⟨2, ![1024, 2048]⟩ .f32
  ws : FVec Ideal ⟨2, ![1024, 2048]⟩ .f32
  wo : FVec Ideal ⟨2, ![2048, 2048]⟩ .f32
  mt : FVec Ideal ⟨2, ![8, 12288]⟩ .f32
  mc : FVec Ideal ⟨1, ![12288]⟩ .f32
  g : FVec Ideal ⟨1, ![2048]⟩ .f32

/-- One hidden entry of the merge: the three branches' products, each under its gate. -/
def merged (za zb zs : EReal) (oa ob os wa wb ws : Fin 1024 → EReal) : EReal :=
  Ideal.logistic za * (∑ j, oa j * wa j) + Ideal.logistic zb * (∑ j, ob j * wb j) + Ideal.logistic zs * (∑ j, os j * ws j)

/-- Hidden entry `k` of token `n`. -/
def MERGED (a : Ins) (b : Fin 8) (n : Fin 4352) (k : Fin 2048) : EReal :=
  merged (a.z (ix3 b n ⟨k.val, by omega⟩)) (a.z (ix3 b n ⟨2048 + k.val, by omega⟩)) (a.z (ix3 b n ⟨4096 + k.val, by omega⟩))
    (fun j => a.oa (ix3 b n j)) (fun j => a.ob (ix3 b n j)) (fun j => a.os (ix3 b n j))
    (fun j => a.wa (ix2 j k)) (fun j => a.wb (ix2 j k)) (fun j => a.ws (ix2 j k))

/-- Token `n` after the first residual. -/
def X1 (a : Ins) (b : Fin 8) (n : Fin 4352) (l : Fin 2048) : EReal :=
  if h : n.val < 4096 then a.x (ix3 b ⟨n.val, h⟩ l) + a.mt (ix2 b ⟨4096 + l.val, by omega⟩) * ∑ k, MERGED a b n k * a.wo (ix2 k l)
  else a.ctx (ix3 b ⟨n.val - 4096, by omega⟩ l) + a.mc (ix1 ⟨4096 + l.val, by omega⟩) * ∑ k, MERGED a b n k * a.wo (ix2 k l)

/-- The same token, normalized and modulated. -/
def H (a : Ins) (b : Fin 8) (n : Fin 4352) (l : Fin 2048) : EReal :=
  if h : n.val < 4096 then Norm.norm (fun k => X1 a b n k) (a.g (ix1 l)) (a.mt (ix2 b ⟨8192 + l.val, by omega⟩)) (a.mt (ix2 b ⟨6144 + l.val, by omega⟩)) l
  else Norm.norm (fun k => X1 a b n k) (a.g (ix1 l)) (a.mc (ix1 ⟨8192 + l.val, by omega⟩)) (a.mc (ix1 ⟨6144 + l.val, by omega⟩)) l

/-- Any function of the three coordinates reads them by value. -/
theorem coord_congr (f : Fin 8 → Fin 4352 → Fin 2048 → EReal) {b b' : Fin 8} {n n' : Fin 4352} {l l' : Fin 2048}
    (hb : b.val = b'.val) (hn : n.val = n'.val) (hl : l.val = l'.val) : f b n l = f b' n' l' := by
  obtain rfl := Fin.ext hb
  obtain rfl := Fin.ext hn
  obtain rfl := Fin.ext hl
  rfl

open Cert.Kernel7Ideal Cert.Kernel7Ideal.Gen Cert.Kernel7Ideal.Value
variable (m : (ℓ : Loc Cert.Kernel7Ideal.nD Cert.Kernel7Ideal.τ Cert.Kernel7Ideal.sig) → Buf (Elt Ideal) ℓ)

/-- The call's arguments. -/
abbrev ins (c : Dev nD) : Ins where
  x := m ((c : Thread nD τ).loc main_arg0)
  ctx := m ((c : Thread nD τ).loc main_arg1)
  z := m ((c : Thread nD τ).loc main_arg2)
  oa := m ((c : Thread nD τ).loc main_arg3)
  ob := m ((c : Thread nD τ).loc main_arg4)
  os := m ((c : Thread nD τ).loc main_arg5)
  wa := m ((c : Thread nD τ).loc main_arg6)
  wb := m ((c : Thread nD τ).loc main_arg7)
  ws := m ((c : Thread nD τ).loc main_arg8)
  wo := m ((c : Thread nD τ).loc main_arg9)
  mt := m ((c : Thread nD τ).loc main_arg10)
  mc := m ((c : Thread nD τ).loc main_arg11)
  g := m ((c : Thread nD τ).loc main_arg12)

/-- The block indices of the windows of rows: batch entry and row tile. -/
theorem idx_rows : ∀ t : Fin cfg0.N, win0_0.index t = ![t.val / 17, t.val % 17, 0] ∧ win0_1.index t = ![t.val / 17, t.val % 17, 0] ∧ win0_2.index t = ![t.val / 17, t.val % 17, 0] ∧ win0_9.index t = ![t.val / 17, t.val % 17, 0] ∧ t.val < 136 :=
  (by decide +kernel : ∀ t : Fin grid0.N, _)
/-- Of the gates' windows: the same rows, one tile of columns each. -/
theorem idx_gates : ∀ t : Fin cfg0.N, win0_3.index t = ![t.val / 17, t.val % 17, 0] ∧ win0_4.index t = ![t.val / 17, t.val % 17, 1] ∧ win0_5.index t = ![t.val / 17, t.val % 17, 2] :=
  (by decide +kernel : ∀ t : Fin grid0.N, _)
/-- Of the weights and gains: whole. -/
theorem idx_whole : ∀ t : Fin cfg0.N, win0_6.index t = ![0, 0] ∧ win0_7.index t = ![0, 0] ∧ win0_8.index t = ![0, 0] ∧ win0_10.index t = ![0, 0] ∧ win0_12.index t = ![0, 0] :=
  (by decide +kernel : ∀ t : Fin grid0.N, _)
/-- Of the modulation: of tokens or of context. -/
theorem idx_mod : ∀ t : Fin cfg0.N, win0_11.index t = ![t.val / 17, t.val % 17 / 16, 0, 0] :=
  (by decide +kernel : ∀ t : Fin grid0.N, _)
/-- Of the two results. -/
theorem idx_out : ∀ t : Fin cfg0.N, win0_16.index t = ![t.val / 17, t.val % 17, 0] ∧ win0_17.index t = ![t.val / 17, t.val % 17, 0] :=
  (by decide +kernel : ∀ t : Fin grid0.N, _)

/-! ## The operands as the host lays them out -/

theorem entx (c : Dev nD) : V m c main_v0 = Norm.XARR (ins m c).x (ins m c).ctx := by
  unfold V
  simp only [hostOps0, List.flatten_cons, List.flatten_nil, List.append_nil, List.cons_append, List.nil_append]
  after_results
  rfl
theorem entm (c : Dev nD) : V m c main_v4 = Norm.MARR (ins m c).mt (ins m c).mc := by
  unfold V
  simp only [hostOps0, List.flatten_cons, List.flatten_nil, List.append_nil, List.cons_append, List.nil_append]
  after_results
  rfl
theorem entg (c : Dev nD) : V m c main_v21 = Norm.GARR (ins m c).g := by
  unfold V
  simp only [hostOps0, List.flatten_cons, List.flatten_nil, List.append_nil, List.cons_append, List.nil_append]
  after_results
  rfl
theorem entoa (c : Dev nD) : V m c main_v5 = truncf .bf16 (ins m c).oa bitsLt_bf16_f32 := by
  unfold V
  simp only [hostOps0, List.flatten_cons, List.flatten_nil, List.append_nil, List.cons_append, List.nil_append]
  after_results
theorem entob (c : Dev nD) : V m c main_v6 = truncf .bf16 (ins m c).ob bitsLt_bf16_f32 := by
  unfold V
  simp only [hostOps0, List.flatten_cons, List.flatten_nil, List.append_nil, List.cons_append, List.nil_append]
  after_results
theorem entos (c : Dev nD) : V m c main_v7 = truncf .bf16 (ins m c).os bitsLt_bf16_f32 := by
  unfold V
  simp only [hostOps0, List.flatten_cons, List.flatten_nil, List.append_nil, List.cons_append, List.nil_append]
  after_results
theorem entz (c : Dev nD) : V m c main_v8 = truncf .bf16 (ins m c).z bitsLt_bf16_f32 := by
  unfold V
  simp only [hostOps0, List.flatten_cons, List.flatten_nil, List.append_nil, List.cons_append, List.nil_append]
  after_results
theorem entwa (c : Dev nD) : V m c main_v9 = truncf .bf16 (ins m c).wa bitsLt_bf16_f32 := by
  unfold V
  simp only [hostOps0, List.flatten_cons, List.flatten_nil, List.append_nil, List.cons_append, List.nil_append]
  after_results
theorem entwb (c : Dev nD) : V m c main_v10 = truncf .bf16 (ins m c).wb bitsLt_bf16_f32 := by
  unfold V
  simp only [hostOps0, List.flatten_cons, List.flatten_nil, List.append_nil, List.cons_append, List.nil_append]
  after_results
theorem entws (c : Dev nD) : V m c main_v11 = truncf .bf16 (ins m c).ws bitsLt_bf16_f32 := by
  unfold V
  simp only [hostOps0, List.flatten_cons, List.flatten_nil, List.append_nil, List.cons_append, List.nil_append]
  after_results
theorem entwo (c : Dev nD) : V m c main_v12 = truncf .bf16 (ins m c).wo bitsLt_bf16_f32 := by
  unfold V
  simp only [hostOps0, List.flatten_cons, List.flatten_nil, List.append_nil, List.cons_append, List.nil_append]
  after_results

/-! ## The blocks staged at point `t` -/

theorem oa_block (c : Dev nD) (t : Fin cfg0.N) (r : Fin 256) (k : Fin 1024) (hb : t.val / 17 < 8) (ht : t.val % 17 * 256 + r.val < 4352) :
    iblk m c 0 t (ix3 0 r k) = (ins m c).oa (ix3 ⟨t.val / 17, hb⟩ ⟨t.val % 17 * 256 + r.val, ht⟩ k) := by
  refine Eq.trans ?_ (congrFun (entoa m c) _)
  blk_ext [iblk, idx_rows t]
theorem ob_block (c : Dev nD) (t : Fin cfg0.N) (r : Fin 256) (k : Fin 1024) (hb : t.val / 17 < 8) (ht : t.val % 17 * 256 + r.val < 4352) :
    iblk m c 1 t (ix3 0 r k) = (ins m c).ob (ix3 ⟨t.val / 17, hb⟩ ⟨t.val % 17 * 256 + r.val, ht⟩ k) := by
  refine Eq.trans ?_ (congrFun (entob m c) _)
  blk_ext [iblk, idx_rows t]
theorem os_block (c : Dev nD) (t : Fin cfg0.N) (r : Fin 256) (k : Fin 1024) (hb : t.val / 17 < 8) (ht : t.val % 17 * 256 + r.val < 4352) :
    iblk m c 2 t (ix3 0 r k) = (ins m c).os (ix3 ⟨t.val / 17, hb⟩ ⟨t.val % 17 * 256 + r.val, ht⟩ k) := by
  refine Eq.trans ?_ (congrFun (entos m c) _)
  blk_ext [iblk, idx_rows t]
theorem za_block (c : Dev nD) (t : Fin cfg0.N) (r : Fin 256) (k : Fin 2048) (hb : t.val / 17 < 8) (ht : t.val % 17 * 256 + r.val < 4352) :
    X0_3 m c t (ix3 0 r k) = (ins m c).z (ix3 ⟨t.val / 17, hb⟩ ⟨t.val % 17 * 256 + r.val, ht⟩ ⟨k.val, by omega⟩) := by
  refine Eq.trans ?_ (congrFun (entz m c) _)
  unfold X0_3 Pipeline.Window.fill
  rw [dif_pos (moved0_3 t _)]
  blk_ext [iblk, idx_gates t]
theorem zb_block (c : Dev nD) (t : Fin cfg0.N) (r : Fin 256) (k : Fin 2048) (hb : t.val / 17 < 8) (ht : t.val % 17 * 256 + r.val < 4352) :
    X0_4 m c t (ix3 0 r k) = (ins m c).z (ix3 ⟨t.val / 17, hb⟩ ⟨t.val % 17 * 256 + r.val, ht⟩ ⟨2048 + k.val, by omega⟩) := by
  refine Eq.trans ?_ (congrFun (entz m c) _)
  unfold X0_4 Pipeline.Window.fill
  rw [dif_pos (moved0_4 t _)]
  blk_ext [iblk, idx_gates t]
theorem zs_block (c : Dev nD) (t : Fin cfg0.N) (r : Fin 256) (k : Fin 2048) (hb : t.val / 17 < 8) (ht : t.val % 17 * 256 + r.val < 4352) :
    X0_5 m c t (ix3 0 r k) = (ins m c).z (ix3 ⟨t.val / 17, hb⟩ ⟨t.val % 17 * 256 + r.val, ht⟩ ⟨4096 + k.val, by omega⟩) := by
  refine Eq.trans ?_ (congrFun (entz m c) _)
  unfold X0_5 Pipeline.Window.fill
  rw [dif_pos (moved0_5 t _)]
  blk_ext [iblk, idx_gates t]
theorem wa_block (c : Dev nD) (t : Fin cfg0.N) (k : Fin 1024) (l : Fin 2048) : iblk m c 6 t (ix2 k l) = (ins m c).wa (ix2 k l) := by
  refine Eq.trans ?_ (congrFun (entwa m c) _)
  blk_ext [iblk, idx_whole t]
theorem wb_block (c : Dev nD) (t : Fin cfg0.N) (k : Fin 1024) (l : Fin 2048) : iblk m c 7 t (ix2 k l) = (ins m c).wb (ix2 k l) := by
  refine Eq.trans ?_ (congrFun (entwb m c) _)
  blk_ext [iblk, idx_whole t]
theorem ws_block (c : Dev nD) (t : Fin cfg0.N) (k : Fin 1024) (l : Fin 2048) : iblk m c 8 t (ix2 k l) = (ins m c).ws (ix2 k l) := by
  refine Eq.trans ?_ (congrFun (entws m c) _)
  blk_ext [iblk, idx_whole t]
theorem x_block (c : Dev nD) (t : Fin cfg0.N) (r : Fin 256) (k : Fin 2048) (hb : t.val / 17 < 8) (ht : t.val % 17 * 256 + r.val < 4352) :
    iblk m c 9 t (ix3 0 r k) = Norm.XARR (ins m c).x (ins m c).ctx (ix3 ⟨t.val / 17, hb⟩ ⟨t.val % 17 * 256 + r.val, ht⟩ k) := by
  refine Eq.trans ?_ (congrFun (entx m c) _)
  blk_ext [iblk, idx_rows t]
theorem wo_block (c : Dev nD) (t : Fin cfg0.N) (k l : Fin 2048) : iblk m c 10 t (ix2 k l) = (ins m c).wo (ix2 k l) := by
  refine Eq.trans ?_ (congrFun (entwo m c) _)
  blk_ext [iblk, idx_whole t]
theorem m_block (c : Dev nD) (t : Fin cfg0.N) (j : Fin 6) (k : Fin 2048) (hb : t.val / 17 < 8) (ht : t.val % 17 / 16 < 2) :
    iblk m c 11 t (ix4 0 0 j k) = Norm.MARR (ins m c).mt (ins m c).mc (ix4 ⟨t.val / 17, hb⟩ ⟨t.val % 17 / 16, ht⟩ j k) := by
  refine Eq.trans ?_ (congrFun (entm m c) _)
  blk_ext [iblk, idx_mod t]
theorem g_block (c : Dev nD) (t : Fin cfg0.N) (k : Fin 2048) : iblk m c 12 t (ix2 0 k) = (ins m c).g (ix1 k) := by
  refine Eq.trans ?_ (Norm.garr_at _ k)
  refine Eq.trans ?_ (congrFun (entg m c) _)
  blk_ext [iblk, idx_whole t]

/-! ## What a point stores from its blocks -/

theorem pay5_at (za zb zs : Vec Ideal S1x256x2048 .bf16) (xr : Vec Ideal S1x256x2048 .f32) (oa ob os : Vec Ideal S1x256x1024 .bf16) (wa wb ws : Vec Ideal S1024x2048 .bf16)
    (md : Vec Ideal S1x1x6x2048 .f32) (wo : Vec Ideal S2048x2048 .bf16) (r : Fin 256) (l : Fin 2048) :
    k0_pay5 (F := Ideal) (k0_pay2 za oa wa zb ob wb) (k0_pay3 zs) os ws md xr wo (ix2 r l)
      = xr (ix3 0 r l) + md (ix4 0 0 2 l) * ∑ k, merged (za (ix3 0 r k)) (zb (ix3 0 r k)) (zs (ix3 0 r k))
          (fun j => oa (ix3 0 r j)) (fun j => ob (ix3 0 r j)) (fun j => os (ix3 0 r j))
          (fun j => wa (ix2 j k)) (fun j => wb (ix2 j k)) (fun j => ws (ix2 j k)) * wo (ix2 k l) := by
  unfold k0_pay5 k0_pay2 k0_pay3 k0_pay4 merged
  pointwise

theorem pay6_at (v25 v29 : FVec Ideal S256x2048 .f32) (os : Vec Ideal S1x256x1024 .bf16) (ws : Vec Ideal S1024x2048 .bf16) (md : Vec Ideal S1x1x6x2048 .f32)
    (xr : Vec Ideal S1x256x2048 .f32) (wo : Vec Ideal S2048x2048 .bf16) (r : Fin 256) (l : Fin 2048) :
    k0_pay6 (F := Ideal) v25 v29 os ws md xr wo (ix3 0 r l) = k0_pay5 (F := Ideal) v25 v29 os ws md xr wo (ix2 r l) := by
  unfold k0_pay6
  pointwise

theorem pay10_at (v25 v29 : FVec Ideal S256x2048 .f32) (os : Vec Ideal S1x256x1024 .bf16) (ws : Vec Ideal S1024x2048 .bf16) (md : Vec Ideal S1x1x6x2048 .f32)
    (xr : Vec Ideal S1x256x2048 .f32) (wo : Vec Ideal S2048x2048 .bf16) (g : Vec Ideal S1x2048 .f32) (r : Fin 256) (l : Fin 2048) :
    k0_pay10 (F := Ideal) (k0_pay4 md) (k0_pay7 v25 v29 os ws md xr wo g) (k0_pay8 md) (Scalar.ofBits .f32 0x3F800000#32) (ix3 0 r l)
      = Norm.norm (fun k => k0_pay5 (F := Ideal) v25 v29 os ws md xr wo (ix2 r k)) (g (ix2 0 l)) (md (ix4 0 0 4 l)) (md (ix4 0 0 3 l)) l := by
  unfold k0_pay10 k0_pay9 k0_pay7 k0_pay8 k0_pay4 Norm.norm
  pointwise

/-- The residual's rows at point `t`, from the staged blocks. -/
abbrev rows (c : Dev nD) (t : Fin cfg0.N) : FVec Ideal S256x2048 .f32 :=
  k0_pay5 (F := Ideal) (k0_pay2 (X0_3 m c t) (iblk m c 0 t) (iblk m c 6 t) (X0_4 m c t) (iblk m c 1 t) (iblk m c 7 t))
    (k0_pay3 (X0_5 m c t)) (iblk m c 2 t) (iblk m c 8 t) (iblk m c 11 t) (iblk m c 9 t) (iblk m c 10 t)

/-- They are the residual's at the point's tokens. -/
theorem rows_at (c : Dev nD) (t : Fin cfg0.N) (r : Fin 256) (l : Fin 2048) (hb : t.val / 17 < 8) (ht : t.val % 17 * 256 + r.val < 4352) :
    rows m c t (ix2 r l) = X1 (ins m c) ⟨t.val / 17, hb⟩ ⟨t.val % 17 * 256 + r.val, ht⟩ l := by
  refine (pay5_at _ _ _ _ _ _ _ _ _ _ _ _ r l).trans ?_
  simp only [za_block m c t r _ hb ht, zb_block m c t r _ hb ht, zs_block m c t r _ hb ht, oa_block m c t r _ hb ht, ob_block m c t r _ hb ht,
    os_block m c t r _ hb ht, wa_block m c t, wb_block m c t, ws_block m c t, wo_block m c t]
  rw [x_block m c t r l hb ht, m_block m c t 2 l hb (by omega), Norm.xarr_at]
  unfold X1
  by_cases h : t.val % 17 < 16
  · have h0 : (⟨t.val % 17 / 16, by omega⟩ : Fin 2) = 0 := Fin.ext (by show t.val % 17 / 16 = 0; omega)
    have h1 : t.val % 17 * 256 + r.val < 4096 := by omega
    rw [h0, Norm.marr_at0, dif_pos h1, dif_pos h1]
    rfl
  · have h0 : (⟨t.val % 17 / 16, by omega⟩ : Fin 2) = 1 := Fin.ext (by show t.val % 17 / 16 = 1; omega)
    have h1 : ¬ t.val % 17 * 256 + r.val < 4096 := by omega
    rw [h0, Norm.marr_at1, dif_neg h1, dif_neg h1]
    rfl

/-- What point `t` leaves in the first result's block. -/
theorem point_x1 (c : Dev nD) (t : Fin cfg0.N) (r : Fin 256) (l : Fin 2048) (hb : t.val / 17 < 8) (ht : t.val % 17 * 256 + r.val < 4352) :
    (outsAt0 m c t.val t.isLt).1 (ix3 0 r l) = X1 (ins m c) ⟨t.val / 17, hb⟩ ⟨t.val % 17 * 256 + r.val, ht⟩ l := by
  have e : (outsAt0 m c t.val t.isLt).1 (ix3 0 r l) = rows m c t (ix2 r l) := by
    by_cases h0 : t.val % 136 = 0
    · rw [outsAt0_A m c t h0]
      frame_out
      exact pay6_at _ _ _ _ _ _ _ r l
    · rw [outsAt0_B m c t h0]
      frame_out
      exact pay6_at _ _ _ _ _ _ _ r l
  exact e.trans (rows_at m c t r l hb ht)

/-- What point `t` leaves in the second result's block. -/
theorem point_h (c : Dev nD) (t : Fin cfg0.N) (r : Fin 256) (l : Fin 2048) (hb : t.val / 17 < 8) (ht : t.val % 17 * 256 + r.val < 4352) :
    (outsAt0 m c t.val t.isLt).2.1 (ix3 0 r l) = H (ins m c) ⟨t.val / 17, hb⟩ ⟨t.val % 17 * 256 + r.val, ht⟩ l := by
  have e : (outsAt0 m c t.val t.isLt).2.1 (ix3 0 r l)
      = Norm.norm (fun k => rows m c t (ix2 r k)) (iblk m c 12 t (ix2 0 l)) (iblk m c 11 t (ix4 0 0 4 l)) (iblk m c 11 t (ix4 0 0 3 l)) l := by
    by_cases h0 : t.val % 136 = 0
    · rw [outsAt0_A m c t h0]
      frame_out
      exact pay10_at _ _ _ _ _ _ _ _ r l
    · rw [outsAt0_B m c t h0]
      frame_out
      exact pay10_at _ _ _ _ _ _ _ _ r l
  refine e.trans ?_
  simp only [rows_at m c t r _ hb ht]
  rw [g_block m c t l, m_block m c t 4 l hb (by omega), m_block m c t 3 l hb (by omega)]
  unfold H
  by_cases h : t.val % 17 < 16
  · have h0 : (⟨t.val % 17 / 16, by omega⟩ : Fin 2) = 0 := Fin.ext (by show t.val % 17 / 16 = 0; omega)
    have h1 : t.val % 17 * 256 + r.val < 4096 := by omega
    rw [h0, Norm.marr_at0, Norm.marr_at0, dif_pos h1]
    rfl
  · have h0 : (⟨t.val % 17 / 16, by omega⟩ : Fin 2) = 1 := Fin.ext (by show t.val % 17 / 16 = 1; omega)
    have h1 : ¬ t.val % 17 * 256 + r.val < 4096 := by omega
    rw [h0, Norm.marr_at1, Norm.marr_at1, dif_neg h1]
    rfl

/-! ## The two result arrays of the region -/

theorem final_x1 (c : Dev nD) : (dats m 0 c).arrAt 16 cfg0.N = fun i => X1 (ins m c)
    ⟨(i 0).val, (i 0).isLt⟩ ⟨(i 1).val, (i 1).isLt⟩ ⟨(i 2).val, (i 2).isLt⟩ :=
  (dats m 0 c).arrAt_eq_of_covers 16 _ (by decide +kernel) fun t _ y => by
    have hN : t.val < 136 := t.isLt
    blk_simp
    rw [after0_16]
    obtain ⟨r, l, rfl⟩ : ∃ (r : Fin 256) (l : Fin 2048), y = ix3 0 r l := ⟨y 1, y 2, by
      funext a
      match a with
      | 0 => exact Subsingleton.elim (α := Fin 1) _ _
      | 1 => rfl
      | 2 => rfl⟩
    refine (point_x1 m c t r l (by omega) (by omega)).trans ?_
    obtain ⟨h3, -⟩ := idx_out t
    have h0 : win0_16.index t 0 = t.val / 17 := congrFun h3 0
    have h1 : win0_16.index t 1 = t.val % 17 := congrFun h3 1
    have h2 : win0_16.index t 2 = 0 := congrFun h3 2
    refine coord_congr (X1 (ins m c)) ?_ ?_ ?_
    · show t.val / 17 = win0_16.index t 0
      omega
    · show t.val % 17 * 256 + r.val = win0_16.index t 1 * 256 + r.val
      omega
    · show l.val = win0_16.index t 2 * 2048 + l.val
      omega

theorem final_h (c : Dev nD) : (dats m 0 c).arrAt 17 cfg0.N = fun i => H (ins m c)
    ⟨(i 0).val, (i 0).isLt⟩ ⟨(i 1).val, (i 1).isLt⟩ ⟨(i 2).val, (i 2).isLt⟩ :=
  (dats m 0 c).arrAt_eq_of_covers 17 _ (by decide +kernel) fun t _ y => by
    have hN : t.val < 136 := t.isLt
    blk_simp
    rw [after0_17]
    obtain ⟨r, l, rfl⟩ : ∃ (r : Fin 256) (l : Fin 2048), y = ix3 0 r l := ⟨y 1, y 2, by
      funext a
      match a with
      | 0 => exact Subsingleton.elim (α := Fin 1) _ _
      | 1 => rfl
      | 2 => rfl⟩
    refine (point_h m c t r l (by omega) (by omega)).trans ?_
    obtain ⟨-, h3⟩ := idx_out t
    have h0 : win0_17.index t 0 = t.val / 17 := congrFun h3 0
    have h1 : win0_17.index t 1 = t.val % 17 := congrFun h3 1
    have h2 : win0_17.index t 2 = 0 := congrFun h3 2
    refine coord_congr (H (ins m c)) ?_ ?_ ?_
    · show t.val / 17 = win0_17.index t 0
      omega
    · show t.val % 17 * 256 + r.val = win0_17.index t 1 * 256 + r.val
      omega
    · show l.val = win0_17.index t 2 * 2048 + l.val
      omega
end Cert.Mix
end

end
-- ==== Proof.MixRef.lean ====
/- The merge's reference: its two results, read at a token and column. -/
module

public import proofs.«01_k».proof.Proof.MixValue
public import proofs.«01_k».proof.Proof.Gen.Reference7Ideal.Run

@[expose] public section

set_option maxRecDepth 16384
noncomputable section
open Idealize.ShloMosaic Idealize.ShloMosaic.TcCoe Idealize.SL.Sem
open scoped BigOperators
namespace Cert.Mix
open Cert.Reference7Ideal Cert.Reference7Ideal.Gen

/-- The reference's output product of the merged branches. -/
def MX (a : Ins) : FVec Ideal S8x4352x2048 .f32 :=
  Host.dotGeneral dot_S8x4352x2048_S2048x2048_S8x4352x2048_2_0_01_1_n_n none (addf (addf (mulf (Host.divf (broadcastInDim S8x4352x2048 ![] bcast_S_S8x4352x2048 (constant S_ .f32 0x3F800000#32)) (addf (broadcastInDim S8x4352x2048 ![] bcast_S_S8x4352x2048 (constant S_ .f32 0x3F800000#32)) (Host.exp (Host.negf (extractStridedSlice S8x4352x2048 ![0, 0, 0] a.z slices_S8x4352x11776_S8x4352x2048_0_0_0))))) (Host.dotGeneral dot_S8x4352x1024_S1024x2048_S8x4352x2048_2_0_01_1_n_n none a.oa a.wa)) (mulf (Host.divf (broadcastInDim S8x4352x2048 ![] bcast_S_S8x4352x2048 (constant S_ .f32 0x3F800000#32)) (addf (broadcastInDim S8x4352x2048 ![] bcast_S_S8x4352x2048 (constant S_ .f32 0x3F800000#32)) (Host.exp (Host.negf (extractStridedSlice S8x4352x2048 ![0, 0, 2048] a.z slices_S8x4352x11776_S8x4352x2048_0_0_2048))))) (Host.dotGeneral dot_S8x4352x1024_S1024x2048_S8x4352x2048_2_0_01_1_n_n none a.ob a.wb))) (mulf (Host.divf (broadcastInDim S8x4352x2048 ![] bcast_S_S8x4352x2048 (constant S_ .f32 0x3F800000#32)) (addf (broadcastInDim S8x4352x2048 ![] bcast_S_S8x4352x2048 (constant S_ .f32 0x3F800000#32)) (Host.exp (Host.negf (extractStridedSlice S8x4352x2048 ![0, 0, 4096] a.z slices_S8x4352x11776_S8x4352x2048_0_0_4096))))) (Host.dotGeneral dot_S8x4352x1024_S1024x2048_S8x4352x2048_2_0_01_1_n_n none a.os a.ws))) a.wo
/-- Its latents after the residual. -/
def XT (a : Ins) : FVec Ideal S8x4096x2048 .f32 :=
  addf a.x (mulf (broadcastInDim S8x4096x2048 ![0, 1, 2] bcast_S8x1x2048_S8x4096x2048_0_1_2 (broadcastInDim S8x1x2048 ![0, 2] bcast_S8x2048_S8x1x2048_0_2 (extractStridedSlice S8x2048 ![0, 4096] a.mt slices_S8x12288_S8x2048_0_4096))) (extractStridedSlice S8x4096x2048 ![0, 0, 0] (MX a) slices_S8x4352x2048_S8x4096x2048_0_0_0))
/-- Its context tokens after the residual. -/
def XC (a : Ins) : FVec Ideal S8x256x2048 .f32 :=
  addf a.ctx (mulf (broadcastInDim S8x256x2048 ![0, 1, 2] bcast_S1x1x2048_S8x256x2048_0_1_2 (broadcastInDim S1x1x2048 ![2] bcast_S2048_S1x1x2048_2 (extractStridedSlice S2048 ![4096] a.mc slices_S12288_S2048_4096))) (extractStridedSlice S8x256x2048 ![0, 4096, 0] (MX a) slices_S8x4352x2048_S8x256x2048_0_4096_0))
/-- Its normalization of latents. -/
def HX (x : FVec Ideal S8x4096x2048 .f32) (mt : FVec Ideal S8x12288 .f32) (g : FVec Ideal S2048 .f32) : FVec Ideal S8x4096x2048 .f32 :=
  addf (mulf (mulf (mulf x (broadcastInDim S8x4096x2048 ![0, 1, 2] bcast_S8x4096x1_S8x4096x2048_0_1_2 (Host.rsqrt (addf (Host.divf (broadcastInDim S8x4096x1 ![0, 1] bcast_S8x4096_S8x4096x1_0_1 (Host.reduceAdd (mulf x x) (constant S_ .f32 0x00000000#32) reducesTo_S8x4096x2048_S8x4096_d2 h_S_)) (broadcastInDim S8x4096x1 ![] bcast_S_S8x4096x1 (constant S_ .f32 0x45000000#32))) (broadcastInDim S8x4096x1 ![] bcast_S_S8x4096x1 (constant S_ .f32 0x358637BD#32)))))) (broadcastInDim S8x4096x2048 ![0, 1, 2] bcast_S1x1x2048_S8x4096x2048_0_1_2 (broadcastInDim S1x1x2048 ![2] bcast_S2048_S1x1x2048_2 g))) (broadcastInDim S8x4096x2048 ![0, 1, 2] bcast_S8x1x2048_S8x4096x2048_0_1_2 (addf (broadcastInDim S8x1x2048 ![] bcast_S_S8x1x2048 (constant S_ .f32 0x3F800000#32)) (broadcastInDim S8x1x2048 ![0, 2] bcast_S8x2048_S8x1x2048_0_2 (extractStridedSlice S8x2048 ![0, 8192] mt slices_S8x12288_S8x2048_0_8192))))) (broadcastInDim S8x4096x2048 ![0, 1, 2] bcast_S8x1x2048_S8x4096x2048_0_1_2 (broadcastInDim S8x1x2048 ![0, 2] bcast_S8x2048_S8x1x2048_0_2 (extractStridedSlice S8x2048 ![0, 6144] mt slices_S8x12288_S8x2048_0_6144)))
/-- Its normalization of context tokens. -/
def HC (x : FVec Ideal S8x256x2048 .f32) (mc : FVec Ideal S12288 .f32) (g : FVec Ideal S2048 .f32) : FVec Ideal S8x256x2048 .f32 :=
  addf (mulf (mulf (mulf x (broadcastInDim S8x256x2048 ![0, 1, 2] bcast_S8x256x1_S8x256x2048_0_1_2 (Host.rsqrt (addf (Host.divf (broadcastInDim S8x256x1 ![0, 1] bcast_S8x256_S8x256x1_0_1 (Host.reduceAdd (mulf x x) (constant S_ .f32 0x00000000#32) reducesTo_S8x256x2048_S8x256_d2 h_S_)) (broadcastInDim S8x256x1 ![] bcast_S_S8x256x1 (constant S_ .f32 0x45000000#32))) (broadcastInDim S8x256x1 ![] bcast_S_S8x256x1 (constant S_ .f32 0x358637BD#32)))))) (broadcastInDim S8x256x2048 ![0, 1, 2] bcast_S1x1x2048_S8x256x2048_0_1_2 (broadcastInDim S1x1x2048 ![2] bcast_S2048_S1x1x2048_2 g))) (broadcastInDim S8x256x2048 ![0, 1, 2] bcast_S1x1x2048_S8x256x2048_0_1_2 (broadcastInDim S1x1x2048 ![2] bcast_S2048_S1x1x2048_2 (addf (broadcastInDim S2048 ![] bcast_S_S2048 (constant S_ .f32 0x3F800000#32)) (extractStridedSlice S2048 ![8192] mc slices_S12288_S2048_8192))))) (broadcastInDim S8x256x2048 ![0, 1, 2] bcast_S1x1x2048_S8x256x2048_0_1_2 (broadcastInDim S1x1x2048 ![2] bcast_S2048_S1x1x2048_2 (extractStridedSlice S2048 ![6144] mc slices_S12288_S2048_6144)))

theorem MX_at (a : Ins) (b : Fin 8) (n : Fin 4352) (l : Fin 2048) : MX a (ix3 b n l) = ∑ k, MERGED a b n k * a.wo (ix2 k l) := by
  unfold MX MERGED merged
  pointwise
  rfl
theorem XT_at (a : Ins) (b : Fin 8) (n : Fin 4096) (l : Fin 2048) : XT a (ix3 b n l) = X1 a b ⟨n.val, by omega⟩ l := by
  have h : n.val < 4096 := n.isLt
  have e : XT a (ix3 b n l) = a.x (ix3 b n l) + a.mt (ix2 b ⟨4096 + l.val, by omega⟩) * MX a (ix3 b ⟨n.val, by omega⟩ l) := by
    unfold XT
    pointwise
  rw [e, MX_at]
  unfold X1
  rw [dif_pos h]
theorem XC_at (a : Ins) (b : Fin 8) (n : Fin 256) (l : Fin 2048) : XC a (ix3 b n l) = X1 a b ⟨4096 + n.val, by omega⟩ l := by
  have h : ¬ 4096 + n.val < 4096 := by omega
  have e : XC a (ix3 b n l) = a.ctx (ix3 b n l) + a.mc (ix1 ⟨4096 + l.val, by omega⟩) * MX a (ix3 b ⟨4096 + n.val, by omega⟩ l) := by
    unfold XC
    pointwise
  have hn : (⟨4096 + n.val - 4096, by omega⟩ : Fin 256) = n := Fin.ext (by show 4096 + n.val - 4096 = n.val; omega)
  rw [e, MX_at]
  unfold X1
  rw [dif_neg h]
  exact congrArg (fun i => a.ctx (ix3 b i l) + _) hn.symm

/-- The reference's latents `x`, normalized and modulated. -/
theorem ref_hx (x : FVec Ideal S8x4096x2048 .f32) (mt : FVec Ideal S8x12288 .f32) (g : FVec Ideal S2048 .f32) (b : Fin 8) (n : Fin 4096) (l : Fin 2048) :
    HX x mt g (ix3 b n l)
    = Norm.norm (fun k => x (ix3 b n k)) (g (ix1 l)) (mt (ix2 b ⟨8192 + l.val, by omega⟩)) (mt (ix2 b ⟨6144 + l.val, by omega⟩)) l := by
  unfold HX Norm.norm
  pointwise

/-- The reference's context tokens `x`, normalized and modulated. -/
theorem ref_hc (x : FVec Ideal S8x256x2048 .f32) (mc : FVec Ideal S12288 .f32) (g : FVec Ideal S2048 .f32) (b : Fin 8) (n : Fin 256) (l : Fin 2048) :
    HC x mc g (ix3 b n l)
    = Norm.norm (fun k => x (ix3 b n k)) (g (ix1 l)) (mc (ix1 ⟨8192 + l.val, by omega⟩)) (mc (ix1 ⟨6144 + l.val, by omega⟩)) l := by
  unfold HC Norm.norm
  pointwise

/-- Latents and context tokens, one after the other, read at a token. -/
theorem cat_at (X : FVec Ideal S8x4096x2048 .f32) (C : FVec Ideal S8x256x2048 .f32) (b : Fin 8) (n : Fin 4352) (l : Fin 2048) :
    concatenate S8x4352x2048 1 [⟨S8x4096x2048, X⟩, ⟨S8x256x2048, C⟩] concatenates_S8x4096x2048_S8x256x2048_S8x4352x2048_d1 (ix3 b n l)
    = if h : n.val < 4096 then X (ix3 b ⟨n.val, h⟩ l) else C (ix3 b ⟨n.val - 4096, by omega⟩ l) := by
  pointwise

/-- The reference's first result. -/
def R1 (a : Ins) : FVec Ideal S8x4352x2048 .f32 :=
  concatenate S8x4352x2048 1 [⟨S8x4096x2048, XT a⟩, ⟨S8x256x2048, XC a⟩] concatenates_S8x4096x2048_S8x256x2048_S8x4352x2048_d1
/-- The reference's second result. -/
def R2 (a : Ins) : FVec Ideal S8x4352x2048 .bf16 :=
  truncf .bf16 (concatenate S8x4352x2048 1 [⟨S8x4096x2048, HX (XT a) a.mt a.g⟩, ⟨S8x256x2048, HC (XC a) a.mc a.g⟩] concatenates_S8x4096x2048_S8x256x2048_S8x4352x2048_d1) bitsLt_bf16_f32

theorem R1_at (a : Ins) (b : Fin 8) (n : Fin 4352) (l : Fin 2048) : R1 a (ix3 b n l) = X1 a b n l := by
  refine (cat_at _ _ b n l).trans ?_
  by_cases h : n.val < 4096
  · rw [dif_pos h]
    exact XT_at a b _ l
  · rw [dif_neg h]
    refine (XC_at a b _ l).trans ?_
    exact coord_congr (X1 a) rfl (by show 4096 + (n.val - 4096) = n.val; omega) rfl
theorem R2_at (a : Ins) (b : Fin 8) (n : Fin 4352) (l : Fin 2048) : R2 a (ix3 b n l) = H a b n l := by
  refine (Norm.ref_cat _ _ b n l).trans ?_
  unfold H
  by_cases h : n.val < 4096
  · rw [dif_pos h, dif_pos h]
    refine (ref_hx _ _ _ b ⟨n.val, h⟩ l).trans ?_
    simp only [XT_at]
  · rw [dif_neg h, dif_neg h]
    refine (ref_hc _ _ _ b ⟨n.val - 4096, by omega⟩ l).trans ?_
    have hn : ∀ k, XC a (ix3 b ⟨n.val - 4096, by omega⟩ k) = X1 a b n k := fun k =>
      (XC_at a b _ k).trans (coord_congr (X1 a) rfl (by show 4096 + (n.val - 4096) = n.val; omega) rfl)
    simp only [hn]

variable (m : (ℓ : Loc Cert.Reference7Ideal.nD Cert.Reference7Ideal.τ Cert.Reference7Ideal.sig) → Buf (Elt Ideal) ℓ)
/-- The reference's arguments. -/
abbrev rins (c : Dev Cert.Reference7Ideal.nD) : Ins where
  x := m ((c.tc : Thread nD τ).loc main_arg0)
  ctx := m ((c.tc : Thread nD τ).loc main_arg1)
  z := m ((c.tc : Thread nD τ).loc main_arg2)
  oa := m ((c.tc : Thread nD τ).loc main_arg3)
  ob := m ((c.tc : Thread nD τ).loc main_arg4)
  os := m ((c.tc : Thread nD τ).loc main_arg5)
  wa := m ((c.tc : Thread nD τ).loc main_arg6)
  wb := m ((c.tc : Thread nD τ).loc main_arg7)
  ws := m ((c.tc : Thread nD τ).loc main_arg8)
  wo := m ((c.tc : Thread nD τ).loc main_arg9)
  mt := m ((c.tc : Thread nD τ).loc main_arg10)
  mc := m ((c.tc : Thread nD τ).loc main_arg11)
  g := m ((c.tc : Thread nD τ).loc main_arg12)

theorem res1 (c : Dev Cert.Reference7Ideal.nD) : Value.res_main_v88 m c = R1 (rins m c) := by
  unfold Value.res_main_v88 R1 XT XC MX
  rfl
theorem res2 (c : Dev Cert.Reference7Ideal.nD) : Value.res_main_v90 m c = R2 (rins m c) := by
  unfold Value.res_main_v90 R2 HX HC XT XC MX
  rfl
end Cert.Mix
end

end
-- ==== Proof.Mix.lean ====
/- The merge call: its frames and its value claim. -/
module

public import proofs.«01_k».proof.Defs
public import proofs.«01_k».proof.Proof.Gen.Kernel7.Frame
public import proofs.«01_k».proof.Proof.Gen.Kernel7Ideal.Frame
public import proofs.«01_k».proof.Proof.MixRef

@[expose] public section

set_option maxRecDepth 16384
noncomputable section
open Idealize.ShloMosaic Idealize.ShloMosaic.TcCoe Idealize.SL.Sem
open scoped BigOperators
namespace Cert.Mix

/-- The kernel's frame as compiled. -/
theorem frame_kernel : Cert.quiescent_Kernel7 := fun m ρ _ => Cert.Kernel7.Gen.frame m ρ
/-- The idealized kernel's frame. -/
theorem frame_ideal : Cert.quiescent_Kernel7Ideal := fun m ρ _ => Cert.Kernel7Ideal.Gen.frame m ρ
/-- The reference's frame. -/
theorem frame_reference : Cert.quiescent_Reference7Ideal := fun m ρ _ =>
  (θ_run _ _ _).mono (fun r h => ⟨fun c => (h c).2.2, sem_eq_zero_of_no_sems (by decide) r.2⟩) (Cert.Reference7Ideal.Value.run m ρ)

/-- The two programs' arguments agree. -/
theorem ins_eq {a a' : Ins} (e0 : a'.x = a.x) (e1 : a'.ctx = a.ctx) (e2 : a'.z = a.z) (e3 : a'.oa = a.oa) (e4 : a'.ob = a.ob) (e5 : a'.os = a.os)
    (e6 : a'.wa = a.wa) (e7 : a'.wb = a.wb) (e8 : a'.ws = a.ws) (e9 : a'.wo = a.wo) (e10 : a'.mt = a.mt) (e11 : a'.mc = a.mc) (e12 : a'.g = a.g) : a' = a := by
  cases a
  cases a'
  simp only [Ins.mk.injEq]
  exact ⟨e0, e1, e2, e3, e4, e5, e6, e7, e8, e9, e10, e11, e12⟩

/-- The coordinates of an index of a result. -/
theorem coords (i : (⟨3, ![8, 4352, 2048]⟩ : Shape).Idx) : ∃ (b : Fin 8) (n : Fin 4352) (l : Fin 2048), i = ix3 b n l :=
  ⟨i 0, i 1, i 2, by
    funext a
    match a with
    | 0 => rfl
    | 1 => rfl
    | 2 => rfl⟩

/-- THE VALUE CLAIM: from any arguments, the kernel and the reference end with the same tokens after the residual and the same normalized tokens. -/
theorem algebraic : Cert.algebraic_Kernel7Ideal_Reference7Ideal := by
  pair_intro
  · run_from Cert.Kernel7Ideal.Value.run_blocks m g
  · run_from Cert.Reference7Ideal.Value.run m' g'
    all_goals
      obtain ⟨e0, e1, e2, e3, e4, e5, e6, e7, e8, e9, e10, e11, e12, -, -⟩ := hagree c
      have he : rins m' c = ins m c := ins_eq e0 e1 e2 e3 e4 e5 e6 e7 e8 e9 e10 e11 e12
    · rw [final_x1 m c, res1 m' c, he]
      funext i
      obtain ⟨b, n, l, rfl⟩ := coords i
      exact R1_at (ins m c) b n l
    · rw [final_h m c, res2 m' c, he]
      funext i
      obtain ⟨b, n, l, rfl⟩ := coords i
      exact R2_at (ins m c) b n l
end Cert.Mix
end

end
-- ==== Proof.CtxValue.lean ====
/- The context attention's result array: at every batch entry, context token, head and lane, the softmax of the token's
   scores against the context's keys, applied to the lane of the context's values. -/
module

public import proofs.«01_k».proof.Proof.Gen.Kernel8Ideal.Value
public import Idealize.ShloMosaic.Lib.Pipeline.ValueKit
public import proofs.«01_k».proof.Proof.Operands

@[expose] public section

set_option maxRecDepth 16384
noncomputable section
open Idealize.ShloMosaic Idealize.ShloMosaic.TcCoe Idealize.SL.Sem
open Idealize.ShloMosaic.Pipeline (Dat)
open scoped BigOperators
namespace Cert.Kernel8Ideal.Value
open Cert.Kernel8Ideal Cert.Kernel8Ideal.Gen
open Cert.KernelIdeal.Value (QARR KARR VARR cat3_congr score_kernel_at value_kernel ones_kernel)
variable (m : (ℓ : Loc nD τ sig) → Buf (Elt Ideal) ℓ)

/-- The windows' block indices at every point: batch entry and head, the last block of 256 tokens. -/
theorem idx : ∀ t : Fin cfg0.N, win0_0.index t = ![t.val / 8, t.val % 8, 16, 0] ∧ win0_1.index t = ![t.val / 8, t.val % 8, 16, 0] ∧ win0_2.index t = ![t.val / 8, t.val % 8, 16, 0] ∧ win0_3.index t = ![t.val / 8, 0, t.val % 8] ∧ t.val < 64 :=
  (by decide +kernel : ∀ t : Fin grid0.N, _)

/-- The body at one row and lane, from the row's real scores: their softmax applied to the lane, lane 128 of the values being all one. -/
theorem body_at (q k v : Vec Ideal S1x1x256x256 .bf16) (r : Fin 256) (l : Fin 128) (σ : Fin 256 → ℝ) (w : Fin 256 → EReal)
    (hs : ∀ j : Fin 256, ∑ d : Fin 256, q (ix4 0 0 r d) * k (ix4 0 0 j d) = (σ j : EReal))
    (hw : ∀ j : Fin 256, v (ix4 0 0 j ⟨l, by omega⟩) = w j) (hone : ∀ j : Fin 256, v (ix4 0 0 j 128) = 1) :
    k0_pay1 q k v (ix3 0 r l) = Cert.Softmax.attend σ w := by
  obtain ⟨μ, hμ⟩ := Cert.Softmax.fold_max_real (n := 255) σ
  rw [← Cert.Softmax.attend_of_quotient σ w μ]
  pointwise [k0_pay1]
  simp only [hs, hw, hone, hμ, Cert.Softmax.ofBits_neg_inf, Cert.Softmax.exp_sub_coe, zero_add, mul_one]

abbrev aQn (c : Dev nD) : FVec Ideal S8x4352x8x128 .f32 := m ((c : Thread nD τ).loc main_arg0)
abbrev aQr (c : Dev nD) : FVec Ideal S8x4352x8x64 .f32 := m ((c : Thread nD τ).loc main_arg1)
abbrev aKn (c : Dev nD) : FVec Ideal S8x4352x8x128 .f32 := m ((c : Thread nD τ).loc main_arg2)
abbrev aKr (c : Dev nD) : FVec Ideal S8x4352x64 .f32 := m ((c : Thread nD τ).loc main_arg3)
abbrev aV (c : Dev nD) : FVec Ideal S8x4352x8x128 .f32 := m ((c : Thread nD τ).loc main_arg4)

set_option maxHeartbeats 1600000 in
/-- The kernel's queries operand when the call starts. -/
theorem entq (c : Dev nD) : V m c main_v9 = QARR (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_results
  unfold QARR
  refine congrArg (fun x => truncf (F := Ideal) (φ := .f32) .bf16 (transpose S8x8x4352x256 [0, 2, 1, 3] x transposes_S8x4352x8x256_S8x8x4352x256_0_2_1_3) bitsLt_bf16_f32) (cat3_congr _ _ _ _ _ _ ?_ ?_ ?_)
  · show HloOp.result _ _ (Proc.tc.devRef main_v4) = _
    after_results
  · show HloOp.result _ _ (Proc.tc.devRef main_v6) = _
    after_results
  · show HloOp.result _ _ (Proc.tc.devRef main_v0) = _
    after_results
set_option maxHeartbeats 1600000 in
/-- The kernel's keys operand when the call starts. -/
theorem entk (c : Dev nD) : V m c main_v12 = KARR (m ((c : Thread nD τ).loc main_arg2)) (m ((c : Thread nD τ).loc main_arg3)) := by
  unfold V
  simp only [hostOps0, hostOps0_1, hostOps0_2, List.flatten_cons, List.flatten_nil, List.append_nil, List.cons_append, List.nil_append]
  after_results
  unfold KARR
  refine congrArg (fun x => truncf (F := Ideal) (φ := .f32) .bf16 (transpose S8x8x4352x256 [0, 2, 1, 3] x transposes_S8x4352x8x256_S8x8x4352x256_0_2_1_3) bitsLt_bf16_f32) (cat3_congr _ _ _ _ _ _ ?_ ?_ ?_)
  · show HloOp.result _ _ (Proc.tc.devRef main_arg2) = _
    rfl
  · show HloOp.result _ _ (Proc.tc.devRef main_v2) = _
    after_results
  · show HloOp.result _ _ (Proc.tc.devRef main_v0) = _
    after_results
set_option maxHeartbeats 1600000 in
/-- The kernel's values operand when the call starts. -/
theorem entv (c : Dev nD) : V m c main_v20 = VARR (m ((c : Thread nD τ).loc main_arg4)) := by
  unfold V
  simp only [hostOps0, hostOps0_1, hostOps0_2, List.flatten_cons, List.flatten_nil, List.append_nil, List.cons_append, List.nil_append]
  after_results
  rfl

/-- The staged query block at point `t`. -/
theorem q_block (c : Dev nD) (t : Fin cfg0.N) (r d : Fin 256) (hb : t.val / 8 < 8) (hh : t.val % 8 < 8) :
    iblk m c 0 t (ix4 0 0 r d) = QARR (aQn m c) (aQr m c) (ix4 ⟨t.val / 8, hb⟩ ⟨t.val % 8, hh⟩ ⟨4096 + r.val, by omega⟩ d) := by
  rw [← entq m c]
  blk_ext [iblk, idx t]

/-- The staged key block at point `t`. -/
theorem k_block (c : Dev nD) (t : Fin cfg0.N) (s d : Fin 256) (hb : t.val / 8 < 8) (hh : t.val % 8 < 8) :
    iblk m c 1 t (ix4 0 0 s d) = KARR (aKn m c) (aKr m c) (ix4 ⟨t.val / 8, hb⟩ ⟨t.val % 8, hh⟩ ⟨4096 + s.val, by omega⟩ d) := by
  rw [← entk m c]
  blk_ext [iblk, idx t]

/-- The staged value block at point `t`. -/
theorem v_block (c : Dev nD) (t : Fin cfg0.N) (s d : Fin 256) (hb : t.val / 8 < 8) (hh : t.val % 8 < 8) :
    iblk m c 2 t (ix4 0 0 s d) = VARR (aV m c) (ix4 ⟨t.val / 8, hb⟩ ⟨t.val % 8, hh⟩ ⟨4096 + s.val, by omega⟩ d) := by
  rw [← entv m c]
  blk_ext [iblk, idx t]

/-- The attention of context token `t` under head `h` of batch entry `b`, at lane `l` of the values. -/
def ATT (qn : FVec Ideal S8x4352x8x128 .f32) (qr : FVec Ideal S8x4352x8x64 .f32) (kn : FVec Ideal S8x4352x8x128 .f32)
    (kr : FVec Ideal S8x4352x64 .f32) (v : FVec Ideal S8x4352x8x128 .f32) (b : Fin 8) (t : Fin 256) (h : Fin 8) (l : Fin 128) : EReal :=
  Cert.Softmax.attend (fun s : Fin 256 => Cert.Softmax.score qn qr kn kr b h ⟨4096 + t.val, by omega⟩ ⟨4096 + s.val, by omega⟩)
    fun s : Fin 256 => v (ix4 b ⟨4096 + s.val, by omega⟩ h l)

/-- `ATT` reads its four coordinates by value. -/
theorem ATT_congr (qn : FVec Ideal S8x4352x8x128 .f32) (qr : FVec Ideal S8x4352x8x64 .f32) (kn : FVec Ideal S8x4352x8x128 .f32)
    (kr : FVec Ideal S8x4352x64 .f32) (v : FVec Ideal S8x4352x8x128 .f32) {b b' : Fin 8} {t t' : Fin 256} {h h' : Fin 8} {l l' : Fin 128}
    (hb : b.val = b'.val) (ht : t.val = t'.val) (hh : h.val = h'.val) (hl : l.val = l'.val) :
    ATT qn qr kn kr v b t h l = ATT qn qr kn kr v b' t' h' l' := by
  obtain rfl := Fin.ext hb
  obtain rfl := Fin.ext ht
  obtain rfl := Fin.ext hh
  obtain rfl := Fin.ext hl
  rfl

section
variable (c : Dev nD)
    (hq : ∀ (b : Fin 8) (t : Fin 256) (h : Fin 8) (d : Fin 128), ((aQn m c (ix4 b ⟨4096 + t.val, by omega⟩ h d)).toReal : EReal) = aQn m c (ix4 b ⟨4096 + t.val, by omega⟩ h d))
    (hr : ∀ (b : Fin 8) (t : Fin 256) (h : Fin 8) (d : Fin 64), ((aQr m c (ix4 b ⟨4096 + t.val, by omega⟩ h d)).toReal : EReal) = aQr m c (ix4 b ⟨4096 + t.val, by omega⟩ h d))
    (hk : ∀ (b : Fin 8) (t : Fin 256) (h : Fin 8) (d : Fin 128), ((aKn m c (ix4 b ⟨4096 + t.val, by omega⟩ h d)).toReal : EReal) = aKn m c (ix4 b ⟨4096 + t.val, by omega⟩ h d))
    (hkr : ∀ (b : Fin 8) (t : Fin 256) (d : Fin 64), ((aKr m c (ix3 b ⟨4096 + t.val, by omega⟩ d)).toReal : EReal) = aKr m c (ix3 b ⟨4096 + t.val, by omega⟩ d))
include hq hr hk hkr

/-- What point `t` leaves at row `r`, lane `l` of its block. -/
theorem point (t : Fin cfg0.N) (r : Fin 256) (l : Fin 128) (hb : t.val / 8 < 8) (hh : t.val % 8 < 8) :
    out0_3 (iblk m c 0 t) (iblk m c 1 t) (iblk m c 2 t) (ix3 0 r l)
      = ATT (aQn m c) (aQr m c) (aKn m c) (aKr m c) (aV m c) ⟨t.val / 8, hb⟩ r ⟨t.val % 8, hh⟩ l := by
  unfold out0_3
  frame_out
  refine body_at _ _ _ r l _ _ (fun j => ?_) (fun j => ?_) fun j => ?_
  · refine (Finset.sum_congr rfl fun d _ => congrArg₂ (fun x y : EReal => x * y) (q_block m c t r d hb hh) (k_block m c t j d hb hh)).trans ?_
    exact score_kernel_at _ _ _ _ _ _ _ _ (fun d => hq _ r _ d) (fun d => hr _ r _ d) (fun d => hk _ j _ d) fun d => hkr _ j d
  · exact (v_block m c t j _ hb hh).trans (value_kernel _ _ _ _ _)
  · exact (v_block m c t j _ hb hh).trans (ones_kernel _ _ _ _)

/-- The result array of the region. -/
theorem final : (dats m 0 c).arrAt 3 (cfgs 0).N = fun i => ATT (aQn m c) (aQr m c) (aKn m c) (aKr m c) (aV m c)
    ⟨(i 0).val, (i 0).isLt⟩ ⟨(i 1).val, (i 1).isLt⟩ ⟨(i 2).val / 128, by have h : (i 2).val < 1024 := (i 2).isLt; omega⟩
    ⟨(i 2).val % 128, by omega⟩ :=
  (dats m 0 c).arrAt_eq_of_covers 3 _ (by decide +kernel) fun t _ y => by
    have hN : t.val < 64 := t.isLt
    blk_simp
    rw [after0_3]
    obtain ⟨r, l, rfl⟩ : ∃ (r : Fin 256) (l : Fin 128), y = ix3 0 r l := ⟨y 1, y 2, by
      funext a
      match a with
      | 0 => exact Subsingleton.elim (α := Fin 1) _ _
      | 1 => rfl
      | 2 => rfl⟩
    refine (point m c hq hr hk hkr t r l (by omega) (by omega)).trans ?_
    obtain ⟨-, -, -, h3, -⟩ := idx t
    have h0 : win0_3.index t 0 = t.val / 8 := congrFun h3 0
    have h1 : win0_3.index t 1 = 0 := congrFun h3 1
    have h2 : win0_3.index t 2 = t.val % 8 := congrFun h3 2
    have hl : l.val < 128 := l.isLt
    refine ATT_congr _ _ _ _ _ ?_ ?_ ?_ ?_
    · show t.val / 8 = win0_3.index t 0
      omega
    · show r.val = win0_3.index t 1 * 256 + r.val
      omega
    · show t.val % 8 = (win0_3.index t 2 * 128 + l.val) / 128
      omega
    · show l.val = (win0_3.index t 2 * 128 + l.val) % 128
      omega
end
end Cert.Kernel8Ideal.Value
end

end
-- ==== Proof.CtxRef.lean ====
/- The context attention's reference, at an index. -/
module

public import proofs.«01_k».proof.Proof.Gen.Reference8Ideal.Run
public import Idealize.ShloMosaic.Lib.Claim
public import proofs.«01_k».proof.Proof.RefValue

@[expose] public section

set_option maxRecDepth 16384
noncomputable section
open Idealize.ShloMosaic Idealize.ShloMosaic.TcCoe Idealize.SL.Sem
open scoped BigOperators
namespace Cert.Reference8Ideal.Value
open Cert.Reference8Ideal Cert.Reference8Ideal.Gen
variable (m : (ℓ : Loc nD τ sig) → Buf (Elt Ideal) ℓ)

/-- The row shift the reference subtracts before it exponentiates. -/
def shift (S : FVec Ideal S8x8x256x256 .f32) (b h : Fin 8) (t : Fin 256) : EReal :=
  max (Ideal.ofBits .f32 0xFF800000#32) (Finset.univ.fold max (Ideal.ofBits .f32 0xFF800000#32) fun k : Fin 256 => S (ix4 b h t k))

/-- A maximum with a constant. -/
theorem max_const (M : FVec Ideal S8x8x256 .f32) (b h : Fin 8) (t : Fin 256) :
    maximumf (broadcastInDim S8x8x256 ![] bcast_S_S8x8x256 (constant S_ .f32 0xFF800000#32)) M (ix3 b h t)
      = max (Ideal.ofBits .f32 0xFF800000#32) (M (ix3 b h t)) := by
  pointwise

/-- The row maxima. -/
theorem max_at (S : FVec Ideal S8x8x256x256 .f32) (b h : Fin 8) (t : Fin 256) :
    maximumf (broadcastInDim S8x8x256 ![] bcast_S_S8x8x256 (constant S_ .f32 0xFF800000#32)) (Host.reduce (FloatOps.maximumf (F := Ideal)) S (constant S_ .f32 0xFF800000#32) reducesTo_S8x8x256x256_S8x8x256_d3 h_S_) (ix3 b h t)
    = shift S b h t := by
  unfold shift
  rw [max_const, Cert.ReferenceIdeal.Value.reduce_max S _ _ _ b h t (Ideal.ofBits .f32 0xFF800000#32) rfl]

/-- A row quantity `M`, subtracted and exponentiated. -/
theorem exp_at (S : FVec Ideal S8x8x256x256 .f32) (M : FVec Ideal S8x8x256 .f32) (b h : Fin 8) (t : Fin 256) (j : Fin 256) :
    Host.exp (subf S (broadcastInDim S8x8x256x256 ![0, 1, 2, 3] bcast_S8x8x256x1_S8x8x256x256_0_1_2_3 (broadcastInDim S8x8x256x1 ![0, 1, 2] bcast_S8x8x256_S8x8x256x1_0_1_2 M))) (ix4 b h t j)
    = Ideal.exp (S (ix4 b h t j) - M (ix3 b h t)) := by
  pointwise

/-- The exponentials over their row sums. -/
theorem div_at (E : FVec Ideal S8x8x256x256 .f32) (b h : Fin 8) (t : Fin 256) (j : Fin 256) :
    Host.divf E (broadcastInDim S8x8x256x256 ![0, 1, 2, 3] bcast_S8x8x256x1_S8x8x256x256_0_1_2_3 (broadcastInDim S8x8x256x1 ![0, 1, 2] bcast_S8x8x256_S8x8x256x1_0_1_2 (Host.reduceAdd E (constant S_ .f32 0x00000000#32) reducesTo_S8x8x256x256_S8x8x256_d3 h_S_))) (ix4 b h t j)
    = Ideal.div (E (ix4 b h t j)) (0 + ∑ i : Fin 256, E (ix4 b h t i)) := by
  pointwise

/-- The weighted values, laid out by token, head and lane. -/
theorem out_at (W : FVec Ideal S8x8x256x256 .f32) (V : FVec Ideal S8x256x8x128 .f32) (b : Fin 8) (t : Fin 256) (h : Fin 8) (l : Fin 128)
    (hj : h.val * 128 + l.val < 1024) :
    truncf .bf16 (shapeCast S8x256x1024 (transpose S8x256x8x128 [0, 3, 1, 2] (Host.dotGeneral (F := Ideal) dot_S8x256x8x128_S8x8x256x256_S8x8x128x256_1_3_3_2_02_01 none V W) transposes_S8x8x128x256_S8x256x8x128_0_3_1_2) shapeCasts_S8x256x8x128_S8x256x1024) bitsLt_bf16_f32 (ix3 b t ⟨h.val * 128 + l.val, hj⟩)
    = ∑ j : Fin 256, V (ix4 b j h l) * W (ix4 b h t j) := by
  pointwise

/-- A softmax-weighted sum read from real scores `σ`. -/
theorem soft_at (S : FVec Ideal S8x8x256x256 .f32) (V : FVec Ideal S8x256x8x128 .f32) (b : Fin 8) (t : Fin 256) (h : Fin 8) (l : Fin 128)
    (hj : h.val * 128 + l.val < 1024) (σ : Fin 256 → ℝ) (v : Fin 256 → EReal) (hS : ∀ j, S (ix4 b h t j) = ((σ j : ℝ) : EReal))
    (hV : ∀ j, V (ix4 b j h l) = v j) :
    truncf .bf16 (shapeCast S8x256x1024 (transpose S8x256x8x128 [0, 3, 1, 2] (Host.dotGeneral (F := Ideal) dot_S8x256x8x128_S8x8x256x256_S8x8x128x256_1_3_3_2_02_01 none V
      (Host.divf (Host.exp (subf S (broadcastInDim S8x8x256x256 ![0, 1, 2, 3] bcast_S8x8x256x1_S8x8x256x256_0_1_2_3 (broadcastInDim S8x8x256x1 ![0, 1, 2] bcast_S8x8x256_S8x8x256x1_0_1_2 (maximumf (broadcastInDim S8x8x256 ![] bcast_S_S8x8x256 (constant S_ .f32 0xFF800000#32)) (Host.reduce FloatOps.maximumf S (constant S_ .f32 0xFF800000#32) reducesTo_S8x8x256x256_S8x8x256_d3 h_S_))))))
        (broadcastInDim S8x8x256x256 ![0, 1, 2, 3] bcast_S8x8x256x1_S8x8x256x256_0_1_2_3 (broadcastInDim S8x8x256x1 ![0, 1, 2] bcast_S8x8x256_S8x8x256x1_0_1_2 (Host.reduceAdd (Host.exp (subf S (broadcastInDim S8x8x256x256 ![0, 1, 2, 3] bcast_S8x8x256x1_S8x8x256x256_0_1_2_3 (broadcastInDim S8x8x256x1 ![0, 1, 2] bcast_S8x8x256_S8x8x256x1_0_1_2 (maximumf (broadcastInDim S8x8x256 ![] bcast_S_S8x8x256 (constant S_ .f32 0xFF800000#32)) (Host.reduce FloatOps.maximumf S (constant S_ .f32 0xFF800000#32) reducesTo_S8x8x256x256_S8x8x256_d3 h_S_)))))) (constant S_ .f32 0x00000000#32) reducesTo_S8x8x256x256_S8x8x256_d3 h_S_))))) transposes_S8x8x128x256_S8x256x8x128_0_3_1_2) shapeCasts_S8x256x8x128_S8x256x1024) bitsLt_bf16_f32 (ix3 b t ⟨h.val * 128 + l.val, hj⟩)
    = Cert.Softmax.attend σ v := by
  obtain ⟨μ, hμ⟩ : ∃ μ : ℝ, shift S b h t = (μ : EReal) := by
    unfold shift
    rw [Cert.Softmax.ofBits_neg_inf]
    obtain ⟨r, hr⟩ := Cert.Softmax.fold_max_real (n := 255) σ
    refine ⟨r, ?_⟩
    rw [max_eq_right bot_le, ← hr]
    exact congrArg (fun f => Finset.univ.fold max (⊥ : EReal) f) (funext hS)
  have hE := fun (i : Fin 256) => (exp_at S _ b h t i).trans ((congrArg₂ (fun a b => Ideal.exp (a - b)) (hS i) ((max_at S b h t).trans hμ)).trans (Cert.Softmax.exp_sub_coe (σ i) μ))
  refine (out_at _ _ b t h l hj).trans (Eq.trans ?_ (Cert.Softmax.attend_of_weights σ v μ))
  refine Finset.sum_congr rfl fun j _ => congrArg₂ (fun a b : EReal => a * b) (hV j) ((div_at _ b h t j).trans ?_)
  exact congrArg₂ (fun a b : EReal => Ideal.div a b) (hE j) (congrArg (fun a : EReal => 0 + a) (Finset.sum_congr rfl fun i _ => hE i))

/-- The context's values. -/
theorem ctx_at (x : FVec Ideal S8x4352x8x128 .f32) (b : Fin 8) (j : Fin 256) (h : Fin 8) (l : Fin 128) :
    extractStridedSlice S8x256x8x128 ![0, 4096, 0, 0] x slices_S8x4352x8x128_S8x256x8x128_0_4096_0_0 (ix4 b j h l)
    = x (ix4 b ⟨4096 + j.val, by omega⟩ h l) := by
  pointwise

/-- The reference's scores. -/
theorem scores_at (qn : FVec Ideal S8x4352x8x128 .f32) (qr : FVec Ideal S8x4352x8x64 .f32) (kn : FVec Ideal S8x4352x8x128 .f32)
    (kr : FVec Ideal S8x4352x64 .f32) (b h : Fin 8) (t j : Fin 256) :
    mulf (addf (Host.dotGeneral (F := Ideal) dot_S8x256x8x128_S8x256x8x128_S8x8x256x256_3_3_1_1_02_02 none (extractStridedSlice S8x256x8x128 ![0, 4096, 0, 0] qn slices_S8x4352x8x128_S8x256x8x128_0_4096_0_0) (extractStridedSlice S8x256x8x128 ![0, 4096, 0, 0] kn slices_S8x4352x8x128_S8x256x8x128_0_4096_0_0)) (transpose S8x8x256x256 [0, 3, 2, 1] (Host.dotGeneral (F := Ideal) dot_S8x256x64_S8x256x8x64_S8x256x256x8_2_3_1_12_0_0 none (extractStridedSlice S8x256x64 ![0, 4096, 0] kr slices_S8x4352x64_S8x256x64_0_4096_0) (extractStridedSlice S8x256x8x64 ![0, 4096, 0, 0] qr slices_S8x4352x8x64_S8x256x8x64_0_4096_0_0)) transposes_S8x256x256x8_S8x8x256x256_0_3_2_1)) (broadcastInDim S8x8x256x256 ![] bcast_S_S8x8x256x256 (constant S_ .f32 0x3D93CD3A#32)) (ix4 b h t j)
    = (∑ d : Fin 128, qn (ix4 b ⟨4096 + t.val, by omega⟩ h d) * kn (ix4 b ⟨4096 + j.val, by omega⟩ h d)
        + ∑ d : Fin 64, kr (ix3 b ⟨4096 + j.val, by omega⟩ d) * qr (ix4 b ⟨4096 + t.val, by omega⟩ h d)) * Ideal.ofBits .f32 0x3D93CD3A#32 := by
  pointwise

/-- THE REFERENCE'S RESULT: the softmax of a context token's scores against the context, applied to the lane of the values. -/
theorem result (c : Dev nD) (b : Fin 8) (t : Fin 256) (h : Fin 8) (l : Fin 128) (hj : h.val * 128 + l.val < 1024)
    (qn : FVec Ideal S8x4352x8x128 .f32) (qr : FVec Ideal S8x4352x8x64 .f32) (kn : FVec Ideal S8x4352x8x128 .f32)
    (kr : FVec Ideal S8x4352x64 .f32) (v : FVec Ideal S8x4352x8x128 .f32)
    (h0 : m ((c.tc : Thread nD τ).loc main_arg0) = qn) (h1 : m ((c.tc : Thread nD τ).loc main_arg1) = qr)
    (h2 : m ((c.tc : Thread nD τ).loc main_arg2) = kn) (h3 : m ((c.tc : Thread nD τ).loc main_arg3) = kr)
    (h4 : m ((c.tc : Thread nD τ).loc main_arg4) = v)
    (hs : ∀ j : Fin 256, (∑ d : Fin 128, qn (ix4 b ⟨4096 + t.val, by omega⟩ h d) * kn (ix4 b ⟨4096 + j.val, by omega⟩ h d)
        + ∑ d : Fin 64, kr (ix3 b ⟨4096 + j.val, by omega⟩ d) * qr (ix4 b ⟨4096 + t.val, by omega⟩ h d)) * Ideal.ofBits .f32 0x3D93CD3A#32
      = ((Cert.Softmax.score qn qr kn kr b h ⟨4096 + t.val, by omega⟩ ⟨4096 + j.val, by omega⟩ : ℝ) : EReal)) :
    res_main_v25 m c (ix3 b t ⟨h.val * 128 + l.val, hj⟩)
      = Cert.Softmax.attend (fun s : Fin 256 => Cert.Softmax.score qn qr kn kr b h ⟨4096 + t.val, by omega⟩ ⟨4096 + s.val, by omega⟩)
          fun s : Fin 256 => v (ix4 b ⟨4096 + s.val, by omega⟩ h l) := by
  unfold res_main_v25
  rw [h0, h1, h2, h3, h4]
  exact soft_at _ _ b t h l hj _ _ (fun j => (scores_at qn qr kn kr b h t j).trans (hs j)) fun j => ctx_at v b j h l
end Cert.Reference8Ideal.Value
end

end
-- ==== Proof.Ctx.lean ====
/- The context's own attention call: its frames and its value claim. -/
module

public import proofs.«01_k».proof.Defs
public import proofs.«01_k».proof.Proof.Gen.Kernel8.Frame
public import proofs.«01_k».proof.Proof.Gen.Kernel8Ideal.Frame
public import proofs.«01_k».proof.Proof.Gen.Pre_finite_ctx
public import proofs.«01_k».proof.Proof.CtxValue
public import proofs.«01_k».proof.Proof.CtxRef
public import proofs.«01_k».proof.Proof.Attn

@[expose] public section

set_option maxRecDepth 16384
noncomputable section
open Idealize.ShloMosaic Idealize.ShloMosaic.TcCoe Idealize.SL.Sem
namespace Cert.Ctx

/-- The kernel's frame as compiled. -/
theorem frame_kernel : Cert.quiescent_Kernel8 := fun m ρ _ => Cert.Kernel8.Gen.frame m ρ
/-- The idealized kernel's frame. -/
theorem frame_ideal : Cert.quiescent_Kernel8Ideal := fun m ρ _ => Cert.Kernel8Ideal.Gen.frame m ρ
/-- The idealized kernel's frame from finite queries and keys of the context. -/
theorem frame_ideal_pre : Cert.quiescent_Kernel8Ideal_pre_finite_ctx := fun m ρ _ => Cert.Kernel8Ideal.Gen.frame m ρ
/-- The reference's frame. -/
theorem frame_reference : Cert.quiescent_Reference8Ideal := fun m ρ _ =>
  (θ_run _ _ _).mono (fun r h => ⟨fun c => (h c).2, sem_eq_zero_of_no_sems (by decide) r.2⟩) (Cert.Reference8Ideal.Value.run m ρ)
/-- The reference's frame from finite queries and keys of the context. -/
theorem frame_reference_pre : Cert.quiescent_Reference8Ideal_pre_finite_ctx := fun m ρ _ =>
  (θ_run _ _ _).mono (fun r h => ⟨fun c => (h c).2, sem_eq_zero_of_no_sems (by decide) r.2⟩) (Cert.Reference8Ideal.Value.run m ρ)

section
open Cert.Kernel8Ideal Cert.Kernel8Ideal.Value
variable (m : (ℓ : Loc nD τ sig) → Buf (Elt Ideal) ℓ)

/-- Finite queries and keys of the context are reals. -/
theorem reals (hp : Cert.Pre_Kernel8Ideal_finite_ctx m) (c : Dev nD) :
    (∀ (b : Fin 8) (t : Fin 256) (h : Fin 8) (d : Fin 128), ((aQn m c (ix4 b ⟨4096 + t.val, by omega⟩ h d)).toReal : EReal) = aQn m c (ix4 b ⟨4096 + t.val, by omega⟩ h d))
      ∧ (∀ (b : Fin 8) (t : Fin 256) (h : Fin 8) (d : Fin 64), ((aQr m c (ix4 b ⟨4096 + t.val, by omega⟩ h d)).toReal : EReal) = aQr m c (ix4 b ⟨4096 + t.val, by omega⟩ h d))
      ∧ (∀ (b : Fin 8) (t : Fin 256) (h : Fin 8) (d : Fin 128), ((aKn m c (ix4 b ⟨4096 + t.val, by omega⟩ h d)).toReal : EReal) = aKn m c (ix4 b ⟨4096 + t.val, by omega⟩ h d))
      ∧ (∀ (b : Fin 8) (t : Fin 256) (d : Fin 64), ((aKr m c (ix3 b ⟨4096 + t.val, by omega⟩ d)).toReal : EReal) = aKr m c (ix3 b ⟨4096 + t.val, by omega⟩ d)) := by
  obtain ⟨h0, h1, h2, h3⟩ := hp c
  refine ⟨fun b t h d => ?_, fun b t h d => ?_, fun b t h d => ?_, fun b t d => ?_⟩
  · refine Cert.Attn.real_of_cmp (Eq.trans ?_ (congrFun h0 (ix4 b t h d)))
    unfold Cert.Pre_finite_ctx.fn
    pointwise
    rfl
  · refine Cert.Attn.real_of_cmp (Eq.trans ?_ (congrFun h1 (ix4 b t h d)))
    unfold Cert.Pre_finite_ctx.fn
    pointwise
    rfl
  · refine Cert.Attn.real_of_cmp (Eq.trans ?_ (congrFun h2 (ix4 b t h d)))
    unfold Cert.Pre_finite_ctx.fn
    pointwise
    rfl
  · refine Cert.Attn.real_of_cmp (Eq.trans ?_ (congrFun h3 (ix3 b t d)))
    unfold Cert.Pre_finite_ctx.fn
    pointwise
    rfl
end

/-- THE VALUE CLAIM: from finite queries and keys of the context, any values and any latent tokens, the kernel and the reference
    end with the same result. -/
theorem algebraic : Cert.algebraic_Kernel8Ideal_Reference8Ideal_pre_finite_ctx := by
  pair_intro
  · run_from Cert.Kernel8Ideal.Value.run_blocks m g
  · run_from Cert.Reference8Ideal.Value.run m' g'
    obtain ⟨e0, e1, e2, e3, e4⟩ := hagree c
    obtain ⟨hq, hr, hk, hkr⟩ := reals m hpre c
    rw [Cert.Kernel8Ideal.Value.final m c hq hr hk hkr]
    funext i
    obtain ⟨b, t, n, rfl⟩ : ∃ (b : Fin 8) (t : Fin 256) (n : Fin 1024), i = ix3 b t n := ⟨i 0, i 1, i 2, by
      funext a
      match a with
      | 0 => rfl
      | 1 => rfl
      | 2 => rfl⟩
    have hn : n.val / 128 * 128 + n.val % 128 = n.val := by omega
    have hi : (ix3 b t n : Cert.Reference8Ideal.S8x256x1024.Idx) = ix3 b t ⟨(⟨n.val / 128, by omega⟩ : Fin 8).val * 128 + (⟨n.val % 128, by omega⟩ : Fin 128).val, by show n.val / 128 * 128 + n.val % 128 < 1024; omega⟩ := by
      congr 1
      exact Fin.ext hn.symm
    refine (congrArg (Cert.Reference8Ideal.Value.res_main_v25 m' c) hi).trans ?_
    refine (Cert.Reference8Ideal.Value.result m' c b t ⟨n.val / 128, by omega⟩ ⟨n.val % 128, by omega⟩ _
      (Cert.Kernel8Ideal.Value.aQn m c) (Cert.Kernel8Ideal.Value.aQr m c) (Cert.Kernel8Ideal.Value.aKn m c) (Cert.Kernel8Ideal.Value.aKr m c)
      (Cert.Kernel8Ideal.Value.aV m c) e0 e1 e2 e3 e4 fun j => Cert.ReferenceIdeal.Value.score_real_at _ _ _ _ (fun d => hq b t _ d)
        (fun d => hr b t _ d) (fun d => hk b j _ d) fun d => hkr b j d).trans ?_
    exact Cert.Kernel8Ideal.Value.ATT_congr _ _ _ _ _ rfl rfl rfl rfl
end Cert.Ctx
end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qk
public import proofs.«01_k».proof.Proof.Gen.KernelIdeal.Value
public import proofs.«01_k».proof.Proof.Gen.ReferenceIdeal.Run
public import proofs.«01_k».proof.Proof.Attn
public import proofs.«01_k».proof.Proof.Experts
public import proofs.«01_k».proof.Proof.Norm
public import proofs.«01_k».proof.Proof.Proj
public import proofs.«01_k».proof.Proof.Glu
public import proofs.«01_k».proof.Proof.Ada
public import proofs.«01_k».proof.Proof.Mix
public import proofs.«01_k».proof.Proof.Ctx

@[expose] public section

namespace Cert.Proof

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_qk.Gen.facts, Cert.Pre_expert_in_range.Gen.facts, Cert.Pre_finite_ctx.Gen.facts,
    Cert.Attn.frame_kernel, Cert.Attn.frame_ideal, Cert.Attn.frame_ideal_pre, Cert.Attn.frame_reference,
    Cert.Attn.frame_reference_pre, Cert.Experts.frame_kernel, Cert.Experts.frame_ideal, Cert.Experts.frame_reference,
    Cert.Experts.frame_reference_pre, Cert.Norm.frame_kernel, Cert.Norm.frame_ideal, Cert.Norm.frame_reference,
    Cert.Proj.frame_kernel, Cert.Proj.frame_ideal, Cert.Proj.frame_reference,
    Cert.Glu.frame_kernel, Cert.Glu.frame_ideal, Cert.Glu.frame_reference,
    Cert.Ada.frame_kernel, Cert.Ada.frame_ideal, Cert.Ada.frame_reference,
    Cert.Mix.frame_kernel, Cert.Mix.frame_ideal, Cert.Mix.frame_reference,
    Cert.Ctx.frame_kernel, Cert.Ctx.frame_ideal, Cert.Ctx.frame_ideal_pre, Cert.Ctx.frame_reference, Cert.Ctx.frame_reference_pre,
    trivial, Cert.Attn.algebraic, trivial,
    Cert.Experts.algebraic, trivial, Cert.Norm.algebraic, trivial, Cert.Proj.algebraic,
    trivial, Cert.Glu.algebraic, trivial, Cert.Ada.algebraic, trivial, Cert.Mix.algebraic,
    trivial, Cert.Ctx.algebraic⟩

end Cert.Proof

end
